-- ==== Defs.lean ====
def Pre_MergeK (m : (ℓ : Loc Cert.MergeK.nD Cert.MergeK.τ Cert.MergeK.sig) → Buf (Elt Bits) ℓ) : Prop :=
  True

def Pre_MergeKIdeal (m : (ℓ : Loc Cert.MergeKIdeal.nD Cert.MergeKIdeal.τ Cert.MergeKIdeal.sig) → Buf (Elt Ideal) ℓ) : Prop :=
  True

def Pre_MergeRIdeal (m : (ℓ : Loc Cert.MergeRIdeal.nD Cert.MergeRIdeal.τ Cert.MergeRIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_ProjRIdeal (m : (ℓ : Loc Cert.ProjRIdeal.nD Cert.ProjRIdeal.τ Cert.ProjRIdeal.sig) → Buf (Elt Ideal) ℓ) : Prop :=
  True

def Pre_ProjSK (m : (ℓ : Loc Cert.ProjSK.nD Cert.ProjSK.τ Cert.ProjSK.sig) → Buf (Elt Bits) ℓ) : Prop :=
  True

def Pre_ProjSKIdeal (m : (ℓ : Loc Cert.ProjSKIdeal.nD Cert.ProjSKIdeal.τ Cert.ProjSKIdeal.sig) → Buf (Elt Ideal) ℓ) : Prop :=
  True

def Pre_ProjSRIdeal (m : (ℓ : Loc Cert.ProjSRIdeal.nD Cert.ProjSRIdeal.τ Cert.ProjSRIdeal.sig) → Buf (Elt Ideal) ℓ) : Prop :=
  True

def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_RopeK (m : (ℓ : Loc Cert.RopeK.nD Cert.RopeK.τ Cert.RopeK.sig) → Buf (Elt Bits) ℓ) : Prop :=
  True

def Pre_RopeKIdeal (m : (ℓ : Loc Cert.RopeKIdeal.nD Cert.RopeKIdeal.τ Cert.RopeKIdeal.sig) → Buf (Elt Ideal) ℓ) : Prop :=
  True

def Pre_RopeKIdeal_rope_finite [hPre_rope_finite : Cert.Pre_rope_finite.Facts] (m : (ℓ : Loc Cert.RopeKIdeal.nD Cert.RopeKIdeal.τ Cert.RopeKIdeal.sig) → Buf (Elt Ideal) ℓ) : Prop :=
  ∀ c : Dev Cert.RopeKIdeal.nD,
    (Cert.Pre_rope_finite.fn (F := Ideal) (m ((c.tc : Thread Cert.RopeKIdeal.nD Cert.RopeKIdeal.τ).loc Cert.RopeKIdeal.main_arg0)) (m ((c.tc : Thread Cert.RopeKIdeal.nD Cert.RopeKIdeal.τ).loc Cert.RopeKIdeal.main_arg1)) (m ((c.tc : Thread Cert.RopeKIdeal.nD Cert.RopeKIdeal.τ).loc Cert.RopeKIdeal.main_arg2)) (m ((c.tc : Thread Cert.RopeKIdeal.nD Cert.RopeKIdeal.τ).loc Cert.RopeKIdeal.main_arg3))) = (fun _ => 1#1)

def Pre_RopeRIdeal (m : (ℓ : Loc Cert.RopeRIdeal.nD Cert.RopeRIdeal.τ Cert.RopeRIdeal.sig) → Buf (Elt Ideal) ℓ) : Prop :=
  True

def Pre_RopeRIdeal_rope_finite [hPre_rope_finite : Cert.Pre_rope_finite.Facts] (m : (ℓ : Loc Cert.RopeRIdeal.nD Cert.RopeRIdeal.τ Cert.RopeRIdeal.sig) → Buf (Elt Ideal) ℓ) : Prop :=
  ∀ c : Dev Cert.RopeRIdeal.nD,
    (Cert.Pre_rope_finite.fn (F := Ideal) (m ((c.tc : Thread Cert.RopeRIdeal.nD Cert.RopeRIdeal.τ).loc Cert.RopeRIdeal.main_arg0)) (m ((c.tc : Thread Cert.RopeRIdeal.nD Cert.RopeRIdeal.τ).loc Cert.RopeRIdeal.main_arg1)) (m ((c.tc : Thread Cert.RopeRIdeal.nD Cert.RopeRIdeal.τ).loc Cert.RopeRIdeal.main_arg2)) (m ((c.tc : Thread Cert.RopeRIdeal.nD Cert.RopeRIdeal.τ).loc Cert.RopeRIdeal.main_arg3))) = (fun _ => 1#1)

def quiescent_MergeK [hMergeK : Cert.MergeK.Facts] : Prop :=
  ∀ (m : (ℓ : Loc Cert.MergeK.nD Cert.MergeK.τ Cert.MergeK.sig) → Buf (Elt Bits) ℓ) (g : Dev Cert.MergeK.nD → PrngReg), Pre_MergeK m →
    θ_run (Cert.MergeK.defs (F := Bits)) (onTc (τ := Cert.MergeK.τ) (Cert.MergeK.main (F := Bits))) ⟨m, fun _ => 0, g⟩ (fun r => (∀ c : Dev Cert.MergeK.nD,
      r.2.mem ((c.tc : Thread Cert.MergeK.nD Cert.MergeK.τ).loc Cert.MergeK.main_arg0) = m ((c.tc : Thread Cert.MergeK.nD Cert.MergeK.τ).loc Cert.MergeK.main_arg0)
      ∧ r.2.mem ((c.tc : Thread Cert.MergeK.nD Cert.MergeK.τ).loc Cert.MergeK.main_arg1) = m ((c.tc : Thread Cert.MergeK.nD Cert.MergeK.τ).loc Cert.MergeK.main_arg1)
      ∧ r.2.mem ((c.tc : Thread Cert.MergeK.nD Cert.MergeK.τ).loc Cert.MergeK.main_arg2) = m ((c.tc : Thread Cert.MergeK.nD Cert.MergeK.τ).loc Cert.MergeK.main_arg2)
      ∧ r.2.mem ((c.tc : Thread Cert.MergeK.nD Cert.MergeK.τ).loc Cert.MergeK.main_arg3) = m ((c.tc : Thread Cert.MergeK.nD Cert.MergeK.τ).loc Cert.MergeK.main_arg3)
      ∧ r.2.mem ((c.tc : Thread Cert.MergeK.nD Cert.MergeK.τ).loc Cert.MergeK.main_arg4) = m ((c.tc : Thread Cert.MergeK.nD Cert.MergeK.τ).loc Cert.MergeK.main_arg4))
      ∧ r.2.sem = fun _ => 0)

def quiescent_MergeKIdeal [hMergeKIdeal : Cert.MergeKIdeal.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4))
      ∧ r.2.sem = fun _ => 0)

def quiescent_MergeRIdeal [hMergeRIdeal : Cert.MergeRIdeal.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1)
      ∧ r.2.mem ((c.tc : Thread Cert.ProjK.nD Cert.ProjK.τ).loc Cert.ProjK.main_arg2) = m ((c.tc : Thread Cert.ProjK.nD Cert.ProjK.τ).loc Cert.ProjK.main_arg2))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
      ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2))
      ∧ r.2.sem = fun _ => 0)

def quiescent_ProjRIdeal [hProjRIdeal : Cert.ProjRIdeal.Facts] : Prop :=
  ∀ (m : (ℓ : Loc Cert.ProjRIdeal.nD Cert.ProjRIdeal.τ Cert.ProjRIdeal.sig) → Buf (Elt Ideal) ℓ) (g : Dev Cert.ProjRIdeal.nD → PrngReg), Pre_ProjRIdeal m →
    θ_run (Cert.ProjRIdeal.defs (F := Ideal)) (onTc (τ := Cert.ProjRIdeal.τ) (Cert.ProjRIdeal.main (F := Ideal))) ⟨m, fun _ => 0, g⟩ (fun r => (∀ c : Dev Cert.ProjRIdeal.nD,
      r.2.mem ((c.tc : Thread Cert.ProjRIdeal.nD Cert.ProjRIdeal.τ).loc Cert.ProjRIdeal.main_arg0) = m ((c.tc : Thread Cert.ProjRIdeal.nD Cert.ProjRIdeal.τ).loc Cert.ProjRIdeal.main_arg0)
      ∧ r.2.mem ((c.tc : Thread Cert.ProjRIdeal.nD Cert.ProjRIdeal.τ).loc Cert.ProjRIdeal.main_arg1) = m ((c.tc : Thread Cert.ProjRIdeal.nD Cert.ProjRIdeal.τ).loc Cert.ProjRIdeal.main_arg1)
      ∧ r.2.mem ((c.tc : Thread Cert.ProjRIdeal.nD Cert.ProjRIdeal.τ).loc Cert.ProjRIdeal.main_arg2) = m ((c.tc : Thread Cert.ProjRIdeal.nD Cert.ProjRIdeal.τ).loc Cert.ProjRIdeal.main_arg2))
      ∧ r.2.sem = fun _ => 0)

def quiescent_ProjSK [hProjSK : Cert.ProjSK.Facts] : Prop :=
  ∀ (m : (ℓ : Loc Cert.ProjSK.nD Cert.ProjSK.τ Cert.ProjSK.sig) → Buf (Elt Bits) ℓ) (g : Dev Cert.ProjSK.nD → PrngReg), Pre_ProjSK m →
    θ_run (Cert.ProjSK.defs (F := Bits)) (onTc (τ := Cert.ProjSK.τ) (Cert.ProjSK.main (F := Bits))) ⟨m, fun _ => 0, g⟩ (fun r => (∀ c : Dev Cert.ProjSK.nD,
      r.2.mem ((c.tc : Thread Cert.ProjSK.nD Cert.ProjSK.τ).loc Cert.ProjSK.main_arg0) = m ((c.tc : Thread Cert.ProjSK.nD Cert.ProjSK.τ).loc Cert.ProjSK.main_arg0)
      ∧ r.2.mem ((c.tc : Thread Cert.ProjSK.nD Cert.ProjSK.τ).loc Cert.ProjSK.main_arg1) = m ((c.tc : Thread Cert.ProjSK.nD Cert.ProjSK.τ).loc Cert.ProjSK.main_arg1)
      ∧ r.2.mem ((c.tc : Thread Cert.ProjSK.nD Cert.ProjSK.τ).loc Cert.ProjSK.main_arg2) = m ((c.tc : Thread Cert.ProjSK.nD Cert.ProjSK.τ).loc Cert.ProjSK.main_arg2)
      ∧ r.2.mem ((c.tc : Thread Cert.ProjSK.nD Cert.ProjSK.τ).loc Cert.ProjSK.main_arg3) = m ((c.tc : Thread Cert.ProjSK.nD Cert.ProjSK.τ).loc Cert.ProjSK.main_arg3)
      ∧ r.2.mem ((c.tc : Thread Cert.ProjSK.nD Cert.ProjSK.τ).loc Cert.ProjSK.main_arg4) = m ((c.tc : Thread Cert.ProjSK.nD Cert.ProjSK.τ).loc Cert.ProjSK.main_arg4)
      ∧ r.2.mem ((c.tc : Thread Cert.ProjSK.nD Cert.ProjSK.τ).loc Cert.ProjSK.main_arg5) = m ((c.tc : Thread Cert.ProjSK.nD Cert.ProjSK.τ).loc Cert.ProjSK.main_arg5))
      ∧ r.2.sem = fun _ => 0)

def quiescent_ProjSKIdeal [hProjSKIdeal : Cert.ProjSKIdeal.Facts] : Prop :=
  ∀ (m : (ℓ : Loc Cert.ProjSKIdeal.nD Cert.ProjSKIdeal.τ Cert.ProjSKIdeal.sig) → Buf (Elt Ideal) ℓ) (g : Dev Cert.ProjSKIdeal.nD → PrngReg), Pre_ProjSKIdeal m →
    θ_run (Cert.ProjSKIdeal.defs (F := Ideal)) (onTc (τ := Cert.ProjSKIdeal.τ) (Cert.ProjSKIdeal.main (F := Ideal))) ⟨m, fun _ => 0, g⟩ (fun r => (∀ c : Dev Cert.ProjSKIdeal.nD,
      r.2.mem ((c.tc : Thread Cert.ProjSKIdeal.nD Cert.ProjSKIdeal.τ).loc Cert.ProjSKIdeal.main_arg0) = m ((c.tc : Thread Cert.ProjSKIdeal.nD Cert.ProjSKIdeal.τ).loc Cert.ProjSKIdeal.main_arg0)
      ∧ r.2.mem ((c.tc : Thread Cert.ProjSKIdeal.nD Cert.ProjSKIdeal.τ).loc Cert.ProjSKIdeal.main_arg1) = m ((c.tc : Thread Cert.ProjSKIdeal.nD Cert.ProjSKIdeal.τ).loc Cert.ProjSKIdeal.main_arg1)
      ∧ r.2.mem ((c.tc : Thread Cert.ProjSKIdeal.nD Cert.ProjSKIdeal.τ).loc Cert.ProjSKIdeal.main_arg2) = m ((c.tc : Thread Cert.ProjSKIdeal.nD Cert.ProjSKIdeal.τ).loc Cert.ProjSKIdeal.main_arg2)
      ∧ r.2.mem ((c.tc : Thread Cert.ProjSKIdeal.nD Cert.ProjSKIdeal.τ).loc Cert.ProjSKIdeal.main_arg3) = m ((c.tc : Thread Cert.ProjSKIdeal.nD Cert.ProjSKIdeal.τ).loc Cert.ProjSKIdeal.main_arg3)
      ∧ r.2.mem ((c.tc : Thread Cert.ProjSKIdeal.nD Cert.ProjSKIdeal.τ).loc Cert.ProjSKIdeal.main_arg4) = m ((c.tc : Thread Cert.ProjSKIdeal.nD Cert.ProjSKIdeal.τ).loc Cert.ProjSKIdeal.main_arg4)
      ∧ r.2.mem ((c.tc : Thread Cert.ProjSKIdeal.nD Cert.ProjSKIdeal.τ).loc Cert.ProjSKIdeal.main_arg5) = m ((c.tc : Thread Cert.ProjSKIdeal.nD Cert.ProjSKIdeal.τ).loc Cert.ProjSKIdeal.main_arg5))
      ∧ r.2.sem = fun _ => 0)

def quiescent_ProjSRIdeal [hProjSRIdeal : Cert.ProjSRIdeal.Facts] : Prop :=
  ∀ (m : (ℓ : Loc Cert.ProjSRIdeal.nD Cert.ProjSRIdeal.τ Cert.ProjSRIdeal.sig) → Buf (Elt Ideal) ℓ) (g : Dev Cert.ProjSRIdeal.nD → PrngReg), Pre_ProjSRIdeal m →
    θ_run (Cert.ProjSRIdeal.defs (F := Ideal)) (onTc (τ := Cert.ProjSRIdeal.τ) (Cert.ProjSRIdeal.main (F := Ideal))) ⟨m, fun _ => 0, g⟩ (fun r => (∀ c : Dev Cert.ProjSRIdeal.nD,
      r.2.mem ((c.tc : Thread Cert.ProjSRIdeal.nD Cert.ProjSRIdeal.τ).loc Cert.ProjSRIdeal.main_arg0) = m ((c.tc : Thread Cert.ProjSRIdeal.nD Cert.ProjSRIdeal.τ).loc Cert.ProjSRIdeal.main_arg0)
      ∧ r.2.mem ((c.tc : Thread Cert.ProjSRIdeal.nD Cert.ProjSRIdeal.τ).loc Cert.ProjSRIdeal.main_arg1) = m ((c.tc : Thread Cert.ProjSRIdeal.nD Cert.ProjSRIdeal.τ).loc Cert.ProjSRIdeal.main_arg1)
      ∧ r.2.mem ((c.tc : Thread Cert.ProjSRIdeal.nD Cert.ProjSRIdeal.τ).loc Cert.ProjSRIdeal.main_arg2) = m ((c.tc : Thread Cert.ProjSRIdeal.nD Cert.ProjSRIdeal.τ).loc Cert.ProjSRIdeal.main_arg2)
      ∧ r.2.mem ((c.tc : Thread Cert.ProjSRIdeal.nD Cert.ProjSRIdeal.τ).loc Cert.ProjSRIdeal.main_arg3) = m ((c.tc : Thread Cert.ProjSRIdeal.nD Cert.ProjSRIdeal.τ).loc Cert.ProjSRIdeal.main_arg3)
      ∧ r.2.mem ((c.tc : Thread Cert.ProjSRIdeal.nD Cert.ProjSRIdeal.τ).loc Cert.ProjSRIdeal.main_arg4) = m ((c.tc : Thread Cert.ProjSRIdeal.nD Cert.ProjSRIdeal.τ).loc Cert.ProjSRIdeal.main_arg4)
      ∧ r.2.mem ((c.tc : Thread Cert.ProjSRIdeal.nD Cert.ProjSRIdeal.τ).loc Cert.ProjSRIdeal.main_arg5) = m ((c.tc : Thread Cert.ProjSRIdeal.nD Cert.ProjSRIdeal.τ).loc Cert.ProjSRIdeal.main_arg5))
      ∧ r.2.sem = fun _ => 0)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2)
      ∧ r.2.mem ((c.tc : Thread Cert.OutK.nD Cert.OutK.τ).loc Cert.OutK.main_arg3) = m ((c.tc : Thread Cert.OutK.nD Cert.OutK.τ).loc Cert.OutK.main_arg3)
      ∧ r.2.mem ((c.tc : Thread Cert.OutK.nD Cert.OutK.τ).loc Cert.OutK.main_arg4) = m ((c.tc : Thread Cert.OutK.nD Cert.OutK.τ).loc Cert.OutK.main_arg4)
      ∧ r.2.mem ((c.tc : Thread Cert.OutK.nD Cert.OutK.τ).loc Cert.OutK.main_arg5) = m ((c.tc : Thread Cert.OutK.nD Cert.OutK.τ).loc Cert.OutK.main_arg5)
      ∧ r.2.mem ((c.tc : Thread Cert.OutK.nD Cert.OutK.τ).loc Cert.OutK.main_arg6) = m ((c.tc : Thread Cert.OutK.nD Cert.OutK.τ).loc Cert.OutK.main_arg6)
      ∧ r.2.mem ((c.tc : Thread Cert.OutK.nD Cert.OutK.τ).loc Cert.OutK.main_arg7) = m ((c.tc : Thread Cert.OutK.nD Cert.OutK.τ).loc Cert.OutK.main_arg7))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
      ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
      ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
      ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5)
      ∧ r.2.mem ((c.tc : Thread Cert.OutKIdeal.nD Cert.OutKIdeal.τ).loc Cert.OutKIdeal.main_arg6) = m ((c.tc : Thread Cert.OutKIdeal.nD Cert.OutKIdeal.τ).loc Cert.OutKIdeal.main_arg6)
      ∧ r.2.mem ((c.tc : Thread Cert.OutKIdeal.nD Cert.OutKIdeal.τ).loc Cert.OutKIdeal.main_arg7) = m ((c.tc : Thread Cert.OutKIdeal.nD Cert.OutKIdeal.τ).loc Cert.OutKIdeal.main_arg7))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2)
      ∧ r.2.mem ((c.tc : Thread Cert.OutRIdeal.nD Cert.OutRIdeal.τ).loc Cert.OutRIdeal.main_arg3) = m ((c.tc : Thread Cert.OutRIdeal.nD Cert.OutRIdeal.τ).loc Cert.OutRIdeal.main_arg3)
      ∧ r.2.mem ((c.tc : Thread Cert.OutRIdeal.nD Cert.OutRIdeal.τ).loc Cert.OutRIdeal.main_arg4) = m ((c.tc : Thread Cert.OutRIdeal.nD Cert.OutRIdeal.τ).loc Cert.OutRIdeal.main_arg4)
      ∧ r.2.mem ((c.tc : Thread Cert.OutRIdeal.nD Cert.OutRIdeal.τ).loc Cert.OutRIdeal.main_arg5) = m ((c.tc : Thread Cert.OutRIdeal.nD Cert.OutRIdeal.τ).loc Cert.OutRIdeal.main_arg5)
      ∧ r.2.mem ((c.tc : Thread Cert.OutRIdeal.nD Cert.OutRIdeal.τ).loc Cert.OutRIdeal.main_arg6) = m ((c.tc : Thread Cert.OutRIdeal.nD Cert.OutRIdeal.τ).loc Cert.OutRIdeal.main_arg6)
      ∧ r.2.mem ((c.tc : Thread Cert.OutRIdeal.nD Cert.OutRIdeal.τ).loc Cert.OutRIdeal.main_arg7) = m ((c.tc : Thread Cert.OutRIdeal.nD Cert.OutRIdeal.τ).loc Cert.OutRIdeal.main_arg7))
      ∧ r.2.sem = fun _ => 0)

def quiescent_RopeK [hRopeK : Cert.RopeK.Facts] : Prop :=
  ∀ (m : (ℓ : Loc Cert.RopeK.nD Cert.RopeK.τ Cert.RopeK.sig) → Buf (Elt Bits) ℓ) (g : Dev Cert.RopeK.nD → PrngReg), Pre_RopeK m →
    θ_run (Cert.RopeK.defs (F := Bits)) (onTc (τ := Cert.RopeK.τ) (Cert.RopeK.main (F := Bits))) ⟨m, fun _ => 0, g⟩ (fun r => (∀ c : Dev Cert.RopeK.nD,
      r.2.mem ((c.tc : Thread Cert.RopeK.nD Cert.RopeK.τ).loc Cert.RopeK.main_arg0) = m ((c.tc : Thread Cert.RopeK.nD Cert.RopeK.τ).loc Cert.RopeK.main_arg0)
      ∧ r.2.mem ((c.tc : Thread Cert.RopeK.nD Cert.RopeK.τ).loc Cert.RopeK.main_arg1) = m ((c.tc : Thread Cert.RopeK.nD Cert.RopeK.τ).loc Cert.RopeK.main_arg1)
      ∧ r.2.mem ((c.tc : Thread Cert.RopeK.nD Cert.RopeK.τ).loc Cert.RopeK.main_arg2) = m ((c.tc : Thread Cert.RopeK.nD Cert.RopeK.τ).loc Cert.RopeK.main_arg2)
      ∧ r.2.mem ((c.tc : Thread Cert.RopeK.nD Cert.RopeK.τ).loc Cert.RopeK.main_arg3) = m ((c.tc : Thread Cert.RopeK.nD Cert.RopeK.τ).loc Cert.RopeK.main_arg3))
      ∧ r.2.sem = fun _ => 0)

def quiescent_RopeKIdeal [hRopeKIdeal : Cert.RopeKIdeal.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
      ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
      ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2)
      ∧ r.2.mem ((c.tc : Thread Cert.RopeKIdeal.nD Cert.RopeKIdeal.τ).loc Cert.RopeKIdeal.main_arg3) = m ((c.tc : Thread Cert.RopeKIdeal.nD Cert.RopeKIdeal.τ).loc Cert.RopeKIdeal.main_arg3))
      ∧ r.2.sem = fun _ => 0)

def quiescent_RopeKIdeal_pre_rope_finite [hRopeKIdeal : Cert.RopeKIdeal.Facts] [hPre_rope_finite : Cert.Pre_rope_finite.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal_rope_finite m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
      ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
      ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2)
      ∧ r.2.mem ((c.tc : Thread Cert.RopeKIdeal.nD Cert.RopeKIdeal.τ).loc Cert.RopeKIdeal.main_arg3) = m ((c.tc : Thread Cert.RopeKIdeal.nD Cert.RopeKIdeal.τ).loc Cert.RopeKIdeal.main_arg3))
      ∧ r.2.sem = fun _ => 0)

def quiescent_RopeRIdeal [hRopeRIdeal : Cert.RopeRIdeal.Facts] : Prop :=
  ∀ (m : (ℓ : Loc Cert.RopeRIdeal.nD Cert.RopeRIdeal.τ Cert.RopeRIdeal.sig) → Buf (Elt Ideal) ℓ) (g : Dev Cert.RopeRIdeal.nD → PrngReg), Pre_RopeRIdeal m →
    θ_run (Cert.RopeRIdeal.defs (F := Ideal)) (onTc (τ := Cert.RopeRIdeal.τ) (Cert.RopeRIdeal.main (F := Ideal))) ⟨m, fun _ => 0, g⟩ (fun r => (∀ c : Dev Cert.RopeRIdeal.nD,
      r.2.mem ((c.tc : Thread Cert.RopeRIdeal.nD Cert.RopeRIdeal.τ).loc Cert.RopeRIdeal.main_arg0) = m ((c.tc : Thread Cert.RopeRIdeal.nD Cert.RopeRIdeal.τ).loc Cert.RopeRIdeal.main_arg0)
      ∧ r.2.mem ((c.tc : Thread Cert.RopeRIdeal.nD Cert.RopeRIdeal.τ).loc Cert.RopeRIdeal.main_arg1) = m ((c.tc : Thread Cert.RopeRIdeal.nD Cert.RopeRIdeal.τ).loc Cert.RopeRIdeal.main_arg1)
      ∧ r.2.mem ((c.tc : Thread Cert.RopeRIdeal.nD Cert.RopeRIdeal.τ).loc Cert.RopeRIdeal.main_arg2) = m ((c.tc : Thread Cert.RopeRIdeal.nD Cert.RopeRIdeal.τ).loc Cert.RopeRIdeal.main_arg2)
      ∧ r.2.mem ((c.tc : Thread Cert.RopeRIdeal.nD Cert.RopeRIdeal.τ).loc Cert.RopeRIdeal.main_arg3) = m ((c.tc : Thread Cert.RopeRIdeal.nD Cert.RopeRIdeal.τ).loc Cert.RopeRIdeal.main_arg3))
      ∧ r.2.sem = fun _ => 0)

def quiescent_RopeRIdeal_pre_rope_finite [hRopeRIdeal : Cert.RopeRIdeal.Facts] [hPre_rope_finite : Cert.Pre_rope_finite.Facts] : Prop :=
  ∀ (m : (ℓ : Loc Cert.RopeRIdeal.nD Cert.RopeRIdeal.τ Cert.RopeRIdeal.sig) → Buf (Elt Ideal) ℓ) (g : Dev Cert.RopeRIdeal.nD → PrngReg), Pre_RopeRIdeal_rope_finite m →
    θ_run (Cert.RopeRIdeal.defs (F := Ideal)) (onTc (τ := Cert.RopeRIdeal.τ) (Cert.RopeRIdeal.main (F := Ideal))) ⟨m, fun _ => 0, g⟩ (fun r => (∀ c : Dev Cert.RopeRIdeal.nD,
      r.2.mem ((c.tc : Thread Cert.RopeRIdeal.nD Cert.RopeRIdeal.τ).loc Cert.RopeRIdeal.main_arg0) = m ((c.tc : Thread Cert.RopeRIdeal.nD Cert.RopeRIdeal.τ).loc Cert.RopeRIdeal.main_arg0)
      ∧ r.2.mem ((c.tc : Thread Cert.RopeRIdeal.nD Cert.RopeRIdeal.τ).loc Cert.RopeRIdeal.main_arg1) = m ((c.tc : Thread Cert.RopeRIdeal.nD Cert.RopeRIdeal.τ).loc Cert.RopeRIdeal.main_arg1)
      ∧ r.2.mem ((c.tc : Thread Cert.RopeRIdeal.nD Cert.RopeRIdeal.τ).loc Cert.RopeRIdeal.main_arg2) = m ((c.tc : Thread Cert.RopeRIdeal.nD Cert.RopeRIdeal.τ).loc Cert.RopeRIdeal.main_arg2)
      ∧ r.2.mem ((c.tc : Thread Cert.RopeRIdeal.nD Cert.RopeRIdeal.τ).loc Cert.RopeRIdeal.main_arg3) = m ((c.tc : Thread Cert.RopeRIdeal.nD Cert.RopeRIdeal.τ).loc Cert.RopeRIdeal.main_arg3))
      ∧ r.2.sem = fun _ => 0)

def preserves_MergeK_MergeKIdeal : Prop :=
  True

def algebraic_MergeKIdeal_MergeRIdeal [hMergeKIdeal : Cert.MergeKIdeal.Facts] [hMergeRIdeal : Cert.MergeRIdeal.Facts] : Prop :=
  ∀ (m : (ℓ : Loc Cert.MergeKIdeal.nD Cert.MergeKIdeal.τ Cert.MergeKIdeal.sig) → Buf (Elt Ideal) ℓ) (g : Dev Cert.MergeKIdeal.nD → PrngReg)
    (m' : (ℓ : Loc Cert.MergeRIdeal.nD Cert.MergeRIdeal.τ Cert.MergeRIdeal.sig) → Buf (Elt Ideal) ℓ) (g' : Dev Cert.MergeRIdeal.nD → PrngReg), Pre_MergeKIdeal m →
    (∀ c : Dev Cert.MergeKIdeal.nD,
      m' ((c.tc : Thread Cert.MergeRIdeal.nD Cert.MergeRIdeal.τ).loc Cert.MergeRIdeal.main_arg0) = m ((c.tc : Thread Cert.MergeKIdeal.nD Cert.MergeKIdeal.τ).loc Cert.MergeKIdeal.main_arg0)
      ∧ m' ((c.tc : Thread Cert.MergeRIdeal.nD Cert.MergeRIdeal.τ).loc Cert.MergeRIdeal.main_arg1) = m ((c.tc : Thread Cert.MergeKIdeal.nD Cert.MergeKIdeal.τ).loc Cert.MergeKIdeal.main_arg1)
      ∧ m' ((c.tc : Thread Cert.MergeRIdeal.nD Cert.MergeRIdeal.τ).loc Cert.MergeRIdeal.main_arg2) = m ((c.tc : Thread Cert.MergeKIdeal.nD Cert.MergeKIdeal.τ).loc Cert.MergeKIdeal.main_arg2)
      ∧ m' ((c.tc : Thread Cert.MergeRIdeal.nD Cert.MergeRIdeal.τ).loc Cert.MergeRIdeal.main_arg3) = m ((c.tc : Thread Cert.MergeKIdeal.nD Cert.MergeKIdeal.τ).loc Cert.MergeKIdeal.main_arg3)
      ∧ m' ((c.tc : Thread Cert.MergeRIdeal.nD Cert.MergeRIdeal.τ).loc Cert.MergeRIdeal.main_arg4) = m ((c.tc : Thread Cert.MergeKIdeal.nD Cert.MergeKIdeal.τ).loc Cert.MergeKIdeal.main_arg4)) →
    ∃ (v0 : (c : Dev Cert.MergeKIdeal.nD) → Buf (Elt Ideal) ((c.tc : Thread Cert.MergeKIdeal.nD Cert.MergeKIdeal.τ).loc Cert.MergeKIdeal.main_v4)),
      θ_run (Cert.MergeKIdeal.defs (F := Ideal)) (onTc (τ := Cert.MergeKIdeal.τ) (Cert.MergeKIdeal.main (F := Ideal))) ⟨m, fun _ => 0, g⟩ (fun r => ∀ c : Dev Cert.MergeKIdeal.nD,
          r.2.mem ((c.tc : Thread Cert.MergeKIdeal.nD Cert.MergeKIdeal.τ).loc Cert.MergeKIdeal.main_v4) = v0 c
          ∧ r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
          ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
          ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
          ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
          ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4))
      ∧ θ_run (Cert.MergeRIdeal.defs (F := Ideal)) (onTc (τ := Cert.MergeRIdeal.τ) (Cert.MergeRIdeal.main (F := Ideal))) ⟨m', fun _ => 0, g'⟩ (fun r => ∀ c : Dev Cert.MergeRIdeal.nD,
          r.2.mem ((c.tc : Thread Cert.MergeRIdeal.nD Cert.MergeRIdeal.τ).loc Cert.MergeRIdeal.main_v23) = v0 c
          ∧ r.2.mem ((c.tc : Thread Cert.MergeRIdeal.nD Cert.MergeRIdeal.τ).loc Cert.MergeRIdeal.main_arg0) = m' ((c.tc : Thread Cert.MergeRIdeal.nD Cert.MergeRIdeal.τ).loc Cert.MergeRIdeal.main_arg0)
          ∧ r.2.mem ((c.tc : Thread Cert.MergeRIdeal.nD Cert.MergeRIdeal.τ).loc Cert.MergeRIdeal.main_arg1) = m' ((c.tc : Thread Cert.MergeRIdeal.nD Cert.MergeRIdeal.τ).loc Cert.MergeRIdeal.main_arg1)
          ∧ r.2.mem ((c.tc : Thread Cert.MergeRIdeal.nD Cert.MergeRIdeal.τ).loc Cert.MergeRIdeal.main_arg2) = m' ((c.tc : Thread Cert.MergeRIdeal.nD Cert.MergeRIdeal.τ).loc Cert.MergeRIdeal.main_arg2)
          ∧ r.2.mem ((c.tc : Thread Cert.MergeRIdeal.nD Cert.MergeRIdeal.τ).loc Cert.MergeRIdeal.main_arg3) = m' ((c.tc : Thread Cert.MergeRIdeal.nD Cert.MergeRIdeal.τ).loc Cert.MergeRIdeal.main_arg3)
          ∧ r.2.mem ((c.tc : Thread Cert.MergeRIdeal.nD Cert.MergeRIdeal.τ).loc Cert.MergeRIdeal.main_arg4) = m' ((c.tc : Thread Cert.MergeRIdeal.nD Cert.MergeRIdeal.τ).loc Cert.MergeRIdeal.main_arg4))

def preserves_ProjK_ProjKIdeal : Prop :=
  True

def algebraic_ProjKIdeal_ProjRIdeal [hProjKIdeal : Cert.ProjKIdeal.Facts] [hProjRIdeal : Cert.ProjRIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjRIdeal.nD Cert.ProjRIdeal.τ Cert.ProjRIdeal.sig) → Buf (Elt Ideal) ℓ) (g' : Dev Cert.ProjRIdeal.nD → PrngReg), Pre_ProjKIdeal m →
    (∀ c : Dev Cert.ProjKIdeal.nD,
      m' ((c.tc : Thread Cert.ProjRIdeal.nD Cert.ProjRIdeal.τ).loc Cert.ProjRIdeal.main_arg0) = m ((c.tc : Thread Cert.ProjKIdeal.nD Cert.ProjKIdeal.τ).loc Cert.ProjKIdeal.main_arg0)
      ∧ m' ((c.tc : Thread Cert.ProjRIdeal.nD Cert.ProjRIdeal.τ).loc Cert.ProjRIdeal.main_arg1) = m ((c.tc : Thread Cert.ProjKIdeal.nD Cert.ProjKIdeal.τ).loc Cert.ProjKIdeal.main_arg1)
      ∧ m' ((c.tc : Thread Cert.ProjRIdeal.nD Cert.ProjRIdeal.τ).loc Cert.ProjRIdeal.main_arg2) = m ((c.tc : Thread Cert.ProjKIdeal.nD Cert.ProjKIdeal.τ).loc Cert.ProjKIdeal.main_arg2)) →
    ∃ (v0 : (c : Dev Cert.ProjKIdeal.nD) → Buf (Elt Ideal) ((c.tc : Thread Cert.ProjKIdeal.nD Cert.ProjKIdeal.τ).loc Cert.ProjKIdeal.main_v18_0)) (v1 : (c : Dev Cert.ProjKIdeal.nD) → Buf (Elt Ideal) ((c.tc : Thread Cert.ProjKIdeal.nD Cert.ProjKIdeal.τ).loc Cert.ProjKIdeal.main_v18_1)) (v2 : (c : Dev Cert.ProjKIdeal.nD) → Buf (Elt Ideal) ((c.tc : Thread Cert.ProjKIdeal.nD Cert.ProjKIdeal.τ).loc Cert.ProjKIdeal.main_v21)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v18_0) = v0 c
          ∧ r.2.mem ((c.tc : Thread Cert.ProjKIdeal.nD Cert.ProjKIdeal.τ).loc Cert.ProjKIdeal.main_v18_1) = v1 c
          ∧ r.2.mem ((c.tc : Thread Cert.ProjKIdeal.nD Cert.ProjKIdeal.τ).loc Cert.ProjKIdeal.main_v21) = v2 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
          ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2))
      ∧ θ_run (Cert.ProjRIdeal.defs (F := Ideal)) (onTc (τ := Cert.ProjRIdeal.τ) (Cert.ProjRIdeal.main (F := Ideal))) ⟨m', fun _ => 0, g'⟩ (fun r => ∀ c : Dev Cert.ProjRIdeal.nD,
          r.2.mem ((c.tc : Thread Cert.ProjRIdeal.nD Cert.ProjRIdeal.τ).loc Cert.ProjRIdeal.main_v26) = v0 c
          ∧ r.2.mem ((c.tc : Thread Cert.ProjRIdeal.nD Cert.ProjRIdeal.τ).loc Cert.ProjRIdeal.main_v28) = v1 c
          ∧ r.2.mem ((c.tc : Thread Cert.ProjRIdeal.nD Cert.ProjRIdeal.τ).loc Cert.ProjRIdeal.main_v31) = v2 c
          ∧ r.2.mem ((c.tc : Thread Cert.ProjRIdeal.nD Cert.ProjRIdeal.τ).loc Cert.ProjRIdeal.main_arg0) = m' ((c.tc : Thread Cert.ProjRIdeal.nD Cert.ProjRIdeal.τ).loc Cert.ProjRIdeal.main_arg0)
          ∧ r.2.mem ((c.tc : Thread Cert.ProjRIdeal.nD Cert.ProjRIdeal.τ).loc Cert.ProjRIdeal.main_arg1) = m' ((c.tc : Thread Cert.ProjRIdeal.nD Cert.ProjRIdeal.τ).loc Cert.ProjRIdeal.main_arg1)
          ∧ r.2.mem ((c.tc : Thread Cert.ProjRIdeal.nD Cert.ProjRIdeal.τ).loc Cert.ProjRIdeal.main_arg2) = m' ((c.tc : Thread Cert.ProjRIdeal.nD Cert.ProjRIdeal.τ).loc Cert.ProjRIdeal.main_arg2))

def preserves_ProjSK_ProjSKIdeal : Prop :=
  True

def algebraic_ProjSKIdeal_ProjSRIdeal [hProjSKIdeal : Cert.ProjSKIdeal.Facts] [hProjSRIdeal : Cert.ProjSRIdeal.Facts] : Prop :=
  ∀ (m : (ℓ : Loc Cert.ProjSKIdeal.nD Cert.ProjSKIdeal.τ Cert.ProjSKIdeal.sig) → Buf (Elt Ideal) ℓ) (g : Dev Cert.ProjSKIdeal.nD → PrngReg)
    (m' : (ℓ : Loc Cert.ProjSRIdeal.nD Cert.ProjSRIdeal.τ Cert.ProjSRIdeal.sig) → Buf (Elt Ideal) ℓ) (g' : Dev Cert.ProjSRIdeal.nD → PrngReg), Pre_ProjSKIdeal m →
    (∀ c : Dev Cert.ProjSKIdeal.nD,
      m' ((c.tc : Thread Cert.ProjSRIdeal.nD Cert.ProjSRIdeal.τ).loc Cert.ProjSRIdeal.main_arg0) = m ((c.tc : Thread Cert.ProjSKIdeal.nD Cert.ProjSKIdeal.τ).loc Cert.ProjSKIdeal.main_arg0)
      ∧ m' ((c.tc : Thread Cert.ProjSRIdeal.nD Cert.ProjSRIdeal.τ).loc Cert.ProjSRIdeal.main_arg1) = m ((c.tc : Thread Cert.ProjSKIdeal.nD Cert.ProjSKIdeal.τ).loc Cert.ProjSKIdeal.main_arg1)
      ∧ m' ((c.tc : Thread Cert.ProjSRIdeal.nD Cert.ProjSRIdeal.τ).loc Cert.ProjSRIdeal.main_arg2) = m ((c.tc : Thread Cert.ProjSKIdeal.nD Cert.ProjSKIdeal.τ).loc Cert.ProjSKIdeal.main_arg2)
      ∧ m' ((c.tc : Thread Cert.ProjSRIdeal.nD Cert.ProjSRIdeal.τ).loc Cert.ProjSRIdeal.main_arg3) = m ((c.tc : Thread Cert.ProjSKIdeal.nD Cert.ProjSKIdeal.τ).loc Cert.ProjSKIdeal.main_arg3)
      ∧ m' ((c.tc : Thread Cert.ProjSRIdeal.nD Cert.ProjSRIdeal.τ).loc Cert.ProjSRIdeal.main_arg4) = m ((c.tc : Thread Cert.ProjSKIdeal.nD Cert.ProjSKIdeal.τ).loc Cert.ProjSKIdeal.main_arg4)
      ∧ m' ((c.tc : Thread Cert.ProjSRIdeal.nD Cert.ProjSRIdeal.τ).loc Cert.ProjSRIdeal.main_arg5) = m ((c.tc : Thread Cert.ProjSKIdeal.nD Cert.ProjSKIdeal.τ).loc Cert.ProjSKIdeal.main_arg5)) →
    ∃ (v0 : (c : Dev Cert.ProjSKIdeal.nD) → Buf (Elt Ideal) ((c.tc : Thread Cert.ProjSKIdeal.nD Cert.ProjSKIdeal.τ).loc Cert.ProjSKIdeal.main_v19_0)) (v1 : (c : Dev Cert.ProjSKIdeal.nD) → Buf (Elt Ideal) ((c.tc : Thread Cert.ProjSKIdeal.nD Cert.ProjSKIdeal.τ).loc Cert.ProjSKIdeal.main_v19_1)) (v2 : (c : Dev Cert.ProjSKIdeal.nD) → Buf (Elt Ideal) ((c.tc : Thread Cert.ProjSKIdeal.nD Cert.ProjSKIdeal.τ).loc Cert.ProjSKIdeal.main_v31)) (v3 : (c : Dev Cert.ProjSKIdeal.nD) → Buf (Elt Ideal) ((c.tc : Thread Cert.ProjSKIdeal.nD Cert.ProjSKIdeal.τ).loc Cert.ProjSKIdeal.main_v36)),
      θ_run (Cert.ProjSKIdeal.defs (F := Ideal)) (onTc (τ := Cert.ProjSKIdeal.τ) (Cert.ProjSKIdeal.main (F := Ideal))) ⟨m, fun _ => 0, g⟩ (fun r => ∀ c : Dev Cert.ProjSKIdeal.nD,
          r.2.mem ((c.tc : Thread Cert.ProjSKIdeal.nD Cert.ProjSKIdeal.τ).loc Cert.ProjSKIdeal.main_v19_0) = v0 c
          ∧ r.2.mem ((c.tc : Thread Cert.ProjSKIdeal.nD Cert.ProjSKIdeal.τ).loc Cert.ProjSKIdeal.main_v19_1) = v1 c
          ∧ r.2.mem ((c.tc : Thread Cert.ProjSKIdeal.nD Cert.ProjSKIdeal.τ).loc Cert.ProjSKIdeal.main_v31) = v2 c
          ∧ r.2.mem ((c.tc : Thread Cert.ProjSKIdeal.nD Cert.ProjSKIdeal.τ).loc Cert.ProjSKIdeal.main_v36) = v3 c
          ∧ r.2.mem ((c.tc : Thread Cert.ProjSKIdeal.nD Cert.ProjSKIdeal.τ).loc Cert.ProjSKIdeal.main_arg0) = m ((c.tc : Thread Cert.ProjSKIdeal.nD Cert.ProjSKIdeal.τ).loc Cert.ProjSKIdeal.main_arg0)
          ∧ r.2.mem ((c.tc : Thread Cert.ProjSKIdeal.nD Cert.ProjSKIdeal.τ).loc Cert.ProjSKIdeal.main_arg1) = m ((c.tc : Thread Cert.ProjSKIdeal.nD Cert.ProjSKIdeal.τ).loc Cert.ProjSKIdeal.main_arg1)
          ∧ r.2.mem ((c.tc : Thread Cert.ProjSKIdeal.nD Cert.ProjSKIdeal.τ).loc Cert.ProjSKIdeal.main_arg2) = m ((c.tc : Thread Cert.ProjSKIdeal.nD Cert.ProjSKIdeal.τ).loc Cert.ProjSKIdeal.main_arg2)
          ∧ r.2.mem ((c.tc : Thread Cert.ProjSKIdeal.nD Cert.ProjSKIdeal.τ).loc Cert.ProjSKIdeal.main_arg3) = m ((c.tc : Thread Cert.ProjSKIdeal.nD Cert.ProjSKIdeal.τ).loc Cert.ProjSKIdeal.main_arg3)
          ∧ r.2.mem ((c.tc : Thread Cert.ProjSKIdeal.nD Cert.ProjSKIdeal.τ).loc Cert.ProjSKIdeal.main_arg4) = m ((c.tc : Thread Cert.ProjSKIdeal.nD Cert.ProjSKIdeal.τ).loc Cert.ProjSKIdeal.main_arg4)
          ∧ r.2.mem ((c.tc : Thread Cert.ProjSKIdeal.nD Cert.ProjSKIdeal.τ).loc Cert.ProjSKIdeal.main_arg5) = m ((c.tc : Thread Cert.ProjSKIdeal.nD Cert.ProjSKIdeal.τ).loc Cert.ProjSKIdeal.main_arg5))
      ∧ θ_run (Cert.ProjSRIdeal.defs (F := Ideal)) (onTc (τ := Cert.ProjSRIdeal.τ) (Cert.ProjSRIdeal.main (F := Ideal))) ⟨m', fun _ => 0, g'⟩ (fun r => ∀ c : Dev Cert.ProjSRIdeal.nD,
          r.2.mem ((c.tc : Thread Cert.ProjSRIdeal.nD Cert.ProjSRIdeal.τ).loc Cert.ProjSRIdeal.main_v27) = v0 c
          ∧ r.2.mem ((c.tc : Thread Cert.ProjSRIdeal.nD Cert.ProjSRIdeal.τ).loc Cert.ProjSRIdeal.main_v29) = v1 c
          ∧ r.2.mem ((c.tc : Thread Cert.ProjSRIdeal.nD Cert.ProjSRIdeal.τ).loc Cert.ProjSRIdeal.main_v42) = v2 c
          ∧ r.2.mem ((c.tc : Thread Cert.ProjSRIdeal.nD Cert.ProjSRIdeal.τ).loc Cert.ProjSRIdeal.main_v43) = v3 c
          ∧ r.2.mem ((c.tc : Thread Cert.ProjSRIdeal.nD Cert.ProjSRIdeal.τ).loc Cert.ProjSRIdeal.main_arg0) = m' ((c.tc : Thread Cert.ProjSRIdeal.nD Cert.ProjSRIdeal.τ).loc Cert.ProjSRIdeal.main_arg0)
          ∧ r.2.mem ((c.tc : Thread Cert.ProjSRIdeal.nD Cert.ProjSRIdeal.τ).loc Cert.ProjSRIdeal.main_arg1) = m' ((c.tc : Thread Cert.ProjSRIdeal.nD Cert.ProjSRIdeal.τ).loc Cert.ProjSRIdeal.main_arg1)
          ∧ r.2.mem ((c.tc : Thread Cert.ProjSRIdeal.nD Cert.ProjSRIdeal.τ).loc Cert.ProjSRIdeal.main_arg2) = m' ((c.tc : Thread Cert.ProjSRIdeal.nD Cert.ProjSRIdeal.τ).loc Cert.ProjSRIdeal.main_arg2)
          ∧ r.2.mem ((c.tc : Thread Cert.ProjSRIdeal.nD Cert.ProjSRIdeal.τ).loc Cert.ProjSRIdeal.main_arg3) = m' ((c.tc : Thread Cert.ProjSRIdeal.nD Cert.ProjSRIdeal.τ).loc Cert.ProjSRIdeal.main_arg3)
          ∧ r.2.mem ((c.tc : Thread Cert.ProjSRIdeal.nD Cert.ProjSRIdeal.τ).loc Cert.ProjSRIdeal.main_arg4) = m' ((c.tc : Thread Cert.ProjSRIdeal.nD Cert.ProjSRIdeal.τ).loc Cert.ProjSRIdeal.main_arg4)
          ∧ r.2.mem ((c.tc : Thread Cert.ProjSRIdeal.nD Cert.ProjSRIdeal.τ).loc Cert.ProjSRIdeal.main_arg5) = m' ((c.tc : Thread Cert.ProjSRIdeal.nD Cert.ProjSRIdeal.τ).loc Cert.ProjSRIdeal.main_arg5))

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)
      ∧ m' ((c.tc : Thread Cert.OutRIdeal.nD Cert.OutRIdeal.τ).loc Cert.OutRIdeal.main_arg3) = m ((c.tc : Thread Cert.OutKIdeal.nD Cert.OutKIdeal.τ).loc Cert.OutKIdeal.main_arg3)
      ∧ m' ((c.tc : Thread Cert.OutRIdeal.nD Cert.OutRIdeal.τ).loc Cert.OutRIdeal.main_arg4) = m ((c.tc : Thread Cert.OutKIdeal.nD Cert.OutKIdeal.τ).loc Cert.OutKIdeal.main_arg4)
      ∧ m' ((c.tc : Thread Cert.OutRIdeal.nD Cert.OutRIdeal.τ).loc Cert.OutRIdeal.main_arg5) = m ((c.tc : Thread Cert.OutKIdeal.nD Cert.OutKIdeal.τ).loc Cert.OutKIdeal.main_arg5)
      ∧ m' ((c.tc : Thread Cert.OutRIdeal.nD Cert.OutRIdeal.τ).loc Cert.OutRIdeal.main_arg6) = m ((c.tc : Thread Cert.OutKIdeal.nD Cert.OutKIdeal.τ).loc Cert.OutKIdeal.main_arg6)
      ∧ m' ((c.tc : Thread Cert.OutRIdeal.nD Cert.OutRIdeal.τ).loc Cert.OutRIdeal.main_arg7) = m ((c.tc : Thread Cert.OutKIdeal.nD Cert.OutKIdeal.τ).loc Cert.OutKIdeal.main_arg7)) →
    ∃ (v0 : (c : Dev Cert.OutKIdeal.nD) → Buf (Elt Ideal) ((c.tc : Thread Cert.OutKIdeal.nD Cert.OutKIdeal.τ).loc Cert.OutKIdeal.main_v15_0)) (v1 : (c : Dev Cert.OutKIdeal.nD) → Buf (Elt Ideal) ((c.tc : Thread Cert.OutKIdeal.nD Cert.OutKIdeal.τ).loc Cert.OutKIdeal.main_v15_1)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v15_0) = v0 c
          ∧ r.2.mem ((c.tc : Thread Cert.OutKIdeal.nD Cert.OutKIdeal.τ).loc Cert.OutKIdeal.main_v15_1) = v1 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
          ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
          ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
          ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5)
          ∧ r.2.mem ((c.tc : Thread Cert.OutKIdeal.nD Cert.OutKIdeal.τ).loc Cert.OutKIdeal.main_arg6) = m ((c.tc : Thread Cert.OutKIdeal.nD Cert.OutKIdeal.τ).loc Cert.OutKIdeal.main_arg6)
          ∧ r.2.mem ((c.tc : Thread Cert.OutKIdeal.nD Cert.OutKIdeal.τ).loc Cert.OutKIdeal.main_arg7) = m ((c.tc : Thread Cert.OutKIdeal.nD Cert.OutKIdeal.τ).loc Cert.OutKIdeal.main_arg7))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v3) = v0 c
          ∧ r.2.mem ((c.tc : Thread Cert.OutRIdeal.nD Cert.OutRIdeal.τ).loc Cert.OutRIdeal.main_v18) = v1 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2)
          ∧ r.2.mem ((c.tc : Thread Cert.OutRIdeal.nD Cert.OutRIdeal.τ).loc Cert.OutRIdeal.main_arg3) = m' ((c.tc : Thread Cert.OutRIdeal.nD Cert.OutRIdeal.τ).loc Cert.OutRIdeal.main_arg3)
          ∧ r.2.mem ((c.tc : Thread Cert.OutRIdeal.nD Cert.OutRIdeal.τ).loc Cert.OutRIdeal.main_arg4) = m' ((c.tc : Thread Cert.OutRIdeal.nD Cert.OutRIdeal.τ).loc Cert.OutRIdeal.main_arg4)
          ∧ r.2.mem ((c.tc : Thread Cert.OutRIdeal.nD Cert.OutRIdeal.τ).loc Cert.OutRIdeal.main_arg5) = m' ((c.tc : Thread Cert.OutRIdeal.nD Cert.OutRIdeal.τ).loc Cert.OutRIdeal.main_arg5)
          ∧ r.2.mem ((c.tc : Thread Cert.OutRIdeal.nD Cert.OutRIdeal.τ).loc Cert.OutRIdeal.main_arg6) = m' ((c.tc : Thread Cert.OutRIdeal.nD Cert.OutRIdeal.τ).loc Cert.OutRIdeal.main_arg6)
          ∧ r.2.mem ((c.tc : Thread Cert.OutRIdeal.nD Cert.OutRIdeal.τ).loc Cert.OutRIdeal.main_arg7) = m' ((c.tc : Thread Cert.OutRIdeal.nD Cert.OutRIdeal.τ).loc Cert.OutRIdeal.main_arg7))

def preserves_RopeK_RopeKIdeal : Prop :=
  True

def algebraic_RopeKIdeal_RopeRIdeal_pre_rope_finite [hRopeKIdeal : Cert.RopeKIdeal.Facts] [hRopeRIdeal : Cert.RopeRIdeal.Facts] [hPre_rope_finite : Cert.Pre_rope_finite.Facts] : Prop :=
  ∀ (m : (ℓ : Loc Cert.RopeKIdeal.nD Cert.RopeKIdeal.τ Cert.RopeKIdeal.sig) → Buf (Elt Ideal) ℓ) (g : Dev Cert.RopeKIdeal.nD → PrngReg)
    (m' : (ℓ : Loc Cert.RopeRIdeal.nD Cert.RopeRIdeal.τ Cert.RopeRIdeal.sig) → Buf (Elt Ideal) ℓ) (g' : Dev Cert.RopeRIdeal.nD → PrngReg), Pre_RopeKIdeal_rope_finite m →
    (∀ c : Dev Cert.RopeKIdeal.nD,
      m' ((c.tc : Thread Cert.RopeRIdeal.nD Cert.RopeRIdeal.τ).loc Cert.RopeRIdeal.main_arg0) = m ((c.tc : Thread Cert.RopeKIdeal.nD Cert.RopeKIdeal.τ).loc Cert.RopeKIdeal.main_arg0)
      ∧ m' ((c.tc : Thread Cert.RopeRIdeal.nD Cert.RopeRIdeal.τ).loc Cert.RopeRIdeal.main_arg1) = m ((c.tc : Thread Cert.RopeKIdeal.nD Cert.RopeKIdeal.τ).loc Cert.RopeKIdeal.main_arg1)
      ∧ m' ((c.tc : Thread Cert.RopeRIdeal.nD Cert.RopeRIdeal.τ).loc Cert.RopeRIdeal.main_arg2) = m ((c.tc : Thread Cert.RopeKIdeal.nD Cert.RopeKIdeal.τ).loc Cert.RopeKIdeal.main_arg2)
      ∧ m' ((c.tc : Thread Cert.RopeRIdeal.nD Cert.RopeRIdeal.τ).loc Cert.RopeRIdeal.main_arg3) = m ((c.tc : Thread Cert.RopeKIdeal.nD Cert.RopeKIdeal.τ).loc Cert.RopeKIdeal.main_arg3)) →
    ∃ (v0 : (c : Dev Cert.RopeKIdeal.nD) → Buf (Elt Ideal) ((c.tc : Thread Cert.RopeKIdeal.nD Cert.RopeKIdeal.τ).loc Cert.RopeKIdeal.main_v44_0)) (v1 : (c : Dev Cert.RopeKIdeal.nD) → Buf (Elt Ideal) ((c.tc : Thread Cert.RopeKIdeal.nD Cert.RopeKIdeal.τ).loc Cert.RopeKIdeal.main_v44_1)) (v2 : (c : Dev Cert.RopeKIdeal.nD) → Buf (Elt Ideal) ((c.tc : Thread Cert.RopeKIdeal.nD Cert.RopeKIdeal.τ).loc Cert.RopeKIdeal.main_v55)),
      θ_run (Cert.RopeKIdeal.defs (F := Ideal)) (onTc (τ := Cert.RopeKIdeal.τ) (Cert.RopeKIdeal.main (F := Ideal))) ⟨m, fun _ => 0, g⟩ (fun r => ∀ c : Dev Cert.RopeKIdeal.nD,
          r.2.mem ((c.tc : Thread Cert.RopeKIdeal.nD Cert.RopeKIdeal.τ).loc Cert.RopeKIdeal.main_v44_0) = v0 c
          ∧ r.2.mem ((c.tc : Thread Cert.RopeKIdeal.nD Cert.RopeKIdeal.τ).loc Cert.RopeKIdeal.main_v44_1) = v1 c
          ∧ r.2.mem ((c.tc : Thread Cert.RopeKIdeal.nD Cert.RopeKIdeal.τ).loc Cert.RopeKIdeal.main_v55) = v2 c
          ∧ r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
          ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
          ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2)
          ∧ r.2.mem ((c.tc : Thread Cert.RopeKIdeal.nD Cert.RopeKIdeal.τ).loc Cert.RopeKIdeal.main_arg3) = m ((c.tc : Thread Cert.RopeKIdeal.nD Cert.RopeKIdeal.τ).loc Cert.RopeKIdeal.main_arg3))
      ∧ θ_run (Cert.RopeRIdeal.defs (F := Ideal)) (onTc (τ := Cert.RopeRIdeal.τ) (Cert.RopeRIdeal.main (F := Ideal))) ⟨m', fun _ => 0, g'⟩ (fun r => ∀ c : Dev Cert.RopeRIdeal.nD,
          r.2.mem ((c.tc : Thread Cert.RopeRIdeal.nD Cert.RopeRIdeal.τ).loc Cert.RopeRIdeal.main_v86) = v0 c
          ∧ r.2.mem ((c.tc : Thread Cert.RopeRIdeal.nD Cert.RopeRIdeal.τ).loc Cert.RopeRIdeal.main_v87) = v1 c
          ∧ r.2.mem ((c.tc : Thread Cert.RopeRIdeal.nD Cert.RopeRIdeal.τ).loc Cert.RopeRIdeal.main_v88) = v2 c
          ∧ r.2.mem ((c.tc : Thread Cert.RopeRIdeal.nD Cert.RopeRIdeal.τ).loc Cert.RopeRIdeal.main_arg0) = m' ((c.tc : Thread Cert.RopeRIdeal.nD Cert.RopeRIdeal.τ).loc Cert.RopeRIdeal.main_arg0)
          ∧ r.2.mem ((c.tc : Thread Cert.RopeRIdeal.nD Cert.RopeRIdeal.τ).loc Cert.RopeRIdeal.main_arg1) = m' ((c.tc : Thread Cert.RopeRIdeal.nD Cert.RopeRIdeal.τ).loc Cert.RopeRIdeal.main_arg1)
          ∧ r.2.mem ((c.tc : Thread Cert.RopeRIdeal.nD Cert.RopeRIdeal.τ).loc Cert.RopeRIdeal.main_arg2) = m' ((c.tc : Thread Cert.RopeRIdeal.nD Cert.RopeRIdeal.τ).loc Cert.RopeRIdeal.main_arg2)
          ∧ r.2.mem ((c.tc : Thread Cert.RopeRIdeal.nD Cert.RopeRIdeal.τ).loc Cert.RopeRIdeal.main_arg3) = m' ((c.tc : Thread Cert.RopeRIdeal.nD Cert.RopeRIdeal.τ).loc Cert.RopeRIdeal.main_arg3))

def Claim : Prop :=
  ∃ (hMergeK : Cert.MergeK.Facts) (hMergeKIdeal : Cert.MergeKIdeal.Facts) (hMergeRIdeal : Cert.MergeRIdeal.Facts) (hProjK : Cert.ProjK.Facts) (hProjKIdeal : Cert.ProjKIdeal.Facts) (hProjRIdeal : Cert.ProjRIdeal.Facts) (hProjSK : Cert.ProjSK.Facts) (hProjSKIdeal : Cert.ProjSKIdeal.Facts) (hProjSRIdeal : Cert.ProjSRIdeal.Facts) (hOutK : Cert.OutK.Facts) (hOutKIdeal : Cert.OutKIdeal.Facts) (hOutRIdeal : Cert.OutRIdeal.Facts) (hRopeK : Cert.RopeK.Facts) (hRopeKIdeal : Cert.RopeKIdeal.Facts) (hRopeRIdeal : Cert.RopeRIdeal.Facts) (hPre_rope_finite : Cert.Pre_rope_finite.Facts),
    quiescent_MergeK (hMergeK := hMergeK)
    ∧ quiescent_MergeKIdeal (hMergeKIdeal := hMergeKIdeal)
    ∧ quiescent_MergeRIdeal (hMergeRIdeal := hMergeRIdeal)
    ∧ quiescent_ProjK (hProjK := hProjK)
    ∧ quiescent_ProjKIdeal (hProjKIdeal := hProjKIdeal)
    ∧ quiescent_ProjRIdeal (hProjRIdeal := hProjRIdeal)
    ∧ quiescent_ProjSK (hProjSK := hProjSK)
    ∧ quiescent_ProjSKIdeal (hProjSKIdeal := hProjSKIdeal)
    ∧ quiescent_ProjSRIdeal (hProjSRIdeal := hProjSRIdeal)
    ∧ quiescent_OutK (hOutK := hOutK)
    ∧ quiescent_OutKIdeal (hOutKIdeal := hOutKIdeal)
    ∧ quiescent_OutRIdeal (hOutRIdeal := hOutRIdeal)
    ∧ quiescent_RopeK (hRopeK := hRopeK)
    ∧ quiescent_RopeKIdeal (hRopeKIdeal := hRopeKIdeal)
    ∧ quiescent_RopeKIdeal_pre_rope_finite (hRopeKIdeal := hRopeKIdeal) (hPre_rope_finite := hPre_rope_finite)
    ∧ quiescent_RopeRIdeal (hRopeRIdeal := hRopeRIdeal)
    ∧ quiescent_RopeRIdeal_pre_rope_finite (hRopeRIdeal := hRopeRIdeal) (hPre_rope_finite := hPre_rope_finite)
    ∧ preserves_MergeK_MergeKIdeal
    ∧ algebraic_MergeKIdeal_MergeRIdeal (hMergeKIdeal := hMergeKIdeal) (hMergeRIdeal := hMergeRIdeal)
    ∧ preserves_ProjK_ProjKIdeal
    ∧ algebraic_ProjKIdeal_ProjRIdeal (hProjKIdeal := hProjKIdeal) (hProjRIdeal := hProjRIdeal)
    ∧ preserves_ProjSK_ProjSKIdeal
    ∧ algebraic_ProjSKIdeal_ProjSRIdeal (hProjSKIdeal := hProjSKIdeal) (hProjSRIdeal := hProjSRIdeal)
    ∧ preserves_OutK_OutKIdeal
    ∧ algebraic_OutKIdeal_OutRIdeal (hOutKIdeal := hOutKIdeal) (hOutRIdeal := hOutRIdeal)
    ∧ preserves_RopeK_RopeKIdeal
    ∧ algebraic_RopeKIdeal_RopeRIdeal_pre_rope_finite (hRopeKIdeal := hRopeKIdeal) (hRopeRIdeal := hRopeRIdeal) (hPre_rope_finite := hPre_rope_finite)
-- ==== Pre_rope_finite.lean ====
abbrev S528x9728 : Shape := ⟨2, ![528, 9728]⟩
abbrev S1x128x144x4x64 : Shape := ⟨5, ![1, 128, 144, 4, 64]⟩
abbrev S1x64 : Shape := ⟨2, ![1, 64]⟩
abbrev S528x1280 : Shape := ⟨2, ![528, 1280]⟩
abbrev S_ : Shape := ⟨0, ![]⟩

class Facts : Prop where
  slices_S528x9728_S528x1280_0_8192 : S528x9728.Slices ![0, 8192] S528x1280
  bcast_S_S528x1280 : S_.BroadcastsInDim S528x1280 (![] : Fin 0 → Fin S528x1280.rank)

variable [Facts]

def fn {F : FTy → Type} [FloatOps F] (main_arg0 : FVec F S528x9728 .f32) (main_arg1 : FVec F S1x128x144x4x64 .f32) (main_arg2 : FVec F S1x64 .f32) (main_arg3 : FVec F S1x64 .f32) : IVec S528x1280 1 :=
  let main_v0 : FVec F S528x1280 .f32 := (extractStridedSlice S528x1280 ![0, 8192] · slices_S528x9728_S528x1280_0_8192) main_arg0
  let main_v1 : FVec F S528x1280 .f32 := Host.absf main_v0
  let main_cst : FVec F S_ .f32 := constant S_ .f32 0x7F800000#32
  let main_v2 : FVec F S528x1280 .f32 := broadcastInDim S528x1280 ![] bcast_S_S528x1280 main_cst
  let main_v3 : IVec S528x1280 1 := cmpf .olt main_v1 main_v2
  main_v3
-- ==== MergeK.lean ====
abbrev S16384x1024 : Shape := ⟨2, ![16384, 1024]⟩
abbrev S16384x9728 : Shape := ⟨2, ![16384, 9728]⟩
abbrev S1x1024x2048 : Shape := ⟨3, ![1, 1024, 2048]⟩
abbrev S1024x2048 : Shape := ⟨2, ![1024, 2048]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x9728, .f32⟩
  | .hbm, ⟨3, _⟩ => ⟨S1x1024x2048, .f32⟩
  | .hbm, ⟨4, _⟩ => ⟨S1x1024x2048, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x2048, .bf16⟩
  | .local _ .vmem, ⟨10, _⟩ => ⟨S512x2048, .bf16⟩
  | .local _ .vmem, ⟨11, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRIdeal.lean ====
abbrev S16384x1024 : Shape := ⟨2, ![16384, 1024]⟩
abbrev S16384x9728 : Shape := ⟨2, ![16384, 9728]⟩
abbrev S1x1024x2048 : Shape := ⟨3, ![1, 1024, 2048]⟩
abbrev S16384x2048 : Shape := ⟨2, ![16384, 2048]⟩
abbrev S_ : Shape := ⟨0, ![]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x9728, .f32⟩
  | .hbm, ⟨3, _⟩ => ⟨S1x1024x2048, .f32⟩
  | .hbm, ⟨4, _⟩ => ⟨S1x1024x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x1024, .f32⟩
  | .hbm, ⟨16, _⟩ => ⟨S1024x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x1024, .f32⟩
  | .hbm, ⟨28, _⟩ => ⟨S1024x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== ProjK.lean ====
abbrev S4x4096x2048 : Shape := ⟨3, ![4, 4096, 2048]⟩
abbrev S1x2048x9744 : Shape := ⟨3, ![1, 2048, 9744]⟩
abbrev S1x2048 : Shape := ⟨2, ![1, 2048]⟩
abbrev S2048x9744 : Shape := ⟨2, ![2048, 9744]⟩
abbrev S2048x2048 : Shape := ⟨2, ![2048, 2048]⟩
abbrev S2048x3072 : Shape := ⟨2, ![2048, 3072]⟩
abbrev S2048x1024 : Shape := ⟨2, ![2048, 1024]⟩
abbrev S2048x256 : Shape := ⟨2, ![2048, 256]⟩
abbrev S2048x9728 : Shape := ⟨2, ![2048, 9728]⟩
abbrev S2048x8 : Shape := ⟨2, ![2048, 8]⟩
abbrev S_ : Shape := ⟨0, ![]⟩
abbrev S2048x112 : Shape := ⟨2, ![2048, 112]⟩
abbrev S2048x128 : Shape := ⟨2, ![2048, 128]⟩
abbrev S2048 : Shape := ⟨1, ![2048]⟩
abbrev S16384x2048 : Shape := ⟨2, ![16384, 2048]⟩
abbrev S16384x9728 : Shape := ⟨2, ![16384, 9728]⟩
abbrev S16384x128 : Shape := ⟨2, ![16384, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S4x4096x9728 : Shape := ⟨3, ![4, 4096, 9728]⟩
abbrev S4x3x3072 : Shape := ⟨3, ![4, 3, 3072]⟩
abbrev S1x4x3x3072 : Shape := ⟨4, ![1, 4, 3, 3072]⟩

abbrev nBuf : Space → Nat
  | .hbm => 27
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S1x2048x9744, .f32⟩
  | .hbm, ⟨2, _⟩ => ⟨S1x2048, .f32⟩
  | .hbm, ⟨3, _⟩ => ⟨S2048x9744, .f32⟩
  | .hbm, ⟨4, _⟩ => ⟨S2048x2048, .f32⟩
  | .hbm, ⟨5, _⟩ => ⟨S2048x2048, .f32⟩
  | .hbm, ⟨6, _⟩ => ⟨S2048x3072, .f32⟩
  | .hbm, ⟨7, _⟩ => ⟨S2048x1024, .f32⟩
  | .hbm, ⟨8, _⟩ => ⟨S2048x1024, .f32⟩
  | .hbm, ⟨9, _⟩ => ⟨S2048x256, .f32⟩
  | .hbm, ⟨10, _⟩ => ⟨S2048x256, .f32⟩
  | .hbm, ⟨11, _⟩ => ⟨S2048x9728, .f32⟩
  | .hbm, ⟨12, _⟩ => ⟨S2048x9728, .bf16⟩
  | .hbm, ⟨13, _⟩ => ⟨S2048x8, .f32⟩
  | .hbm, ⟨14, _⟩ => ⟨S2048x8, .f32⟩
  | .hbm, ⟨15, _⟩ => ⟨S_, .f32⟩
  | .hbm, ⟨16, _⟩ => ⟨S2048x112, .f32⟩
  | .hbm, ⟨17, _⟩ => ⟨S2048x128, .f32⟩
  | .hbm, ⟨18, _⟩ => ⟨S2048x128, .bf16⟩
  | .hbm, ⟨19, _⟩ => ⟨S2048, .f32⟩
  | .hbm, ⟨20, _⟩ => ⟨S1x2048, .f32⟩
  | .hbm, ⟨21, _⟩ => ⟨S16384x2048, .f32⟩
  | .hbm, ⟨22, _⟩ => ⟨S16384x9728, .f32⟩
  | .hbm, ⟨23, _⟩ => ⟨S16384x128, .f32⟩
  | .hbm, ⟨24, _⟩ => ⟨S4x4096x9728, .f32⟩
  | .hbm, ⟨25, _⟩ => ⟨S4x3x3072, .f32⟩
  | .hbm, ⟨26, _⟩ => ⟨S1x4x3x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x128, .bf16⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 19], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c4_i32 : BitVec 32 := 4#32
  let v8 : BitVec 32 := Scalar.addi c0_i32_6 c4_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c256_i32 : BitVec 32 := 256#32
  let v14 : BitVec 32 := Scalar.muli arg9 c256_i32
  v14
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c256_i32 : BitVec 32 := 256#32
  let v14 : BitVec 32 := Scalar.muli arg9 c256_i32
  let v15 : BitVec 32 := v14
  let v16 : Index := Scalar.indexCast v15
  let c0_15 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRIdeal.lean ====
abbrev S4x4096x2048 : Shape := ⟨3, ![4, 4096, 2048]⟩
abbrev S1x2048x9744 : Shape := ⟨3, ![1, 2048, 9744]⟩
abbrev S1x2048 : Shape := ⟨2, ![1, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S2048 : Shape := ⟨1, ![2048]⟩
abbrev S2048x9744 : Shape := ⟨2, ![2048, 9744]⟩
abbrev S16384x9744 : Shape := ⟨2, ![16384, 9744]⟩
abbrev S16384x3072 : Shape := ⟨2, ![16384, 3072]⟩
abbrev S16384x8 : Shape := ⟨2, ![16384, 8]⟩
abbrev S16384x1024 : Shape := ⟨2, ![16384, 1024]⟩
abbrev S16384x256 : Shape := ⟨2, ![16384, 256]⟩
abbrev S16384x9728 : Shape := ⟨2, ![16384, 9728]⟩
abbrev S16384x112 : Shape := ⟨2, ![16384, 112]⟩
abbrev S16384x128 : Shape := ⟨2, ![16384, 128]⟩
abbrev S4x4096x3072 : Shape := ⟨3, ![4, 4096, 3072]⟩
abbrev S4x3x3072 : Shape := ⟨3, ![4, 3, 3072]⟩
abbrev S1x4x3x3072 : Shape := ⟨4, ![1, 4, 3, 3072]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x9744, .f32⟩
  | .hbm, ⟨2, _⟩ => ⟨S1x2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x9744, .f32⟩
  | .hbm, ⟨22, _⟩ => ⟨S16384x9744, .f32⟩
  | .hbm, ⟨23, _⟩ => ⟨S16384x3072, .f32⟩
  | .hbm, ⟨24, _⟩ => ⟨S16384x8, .f32⟩
  | .hbm, ⟨25, _⟩ => ⟨S16384x8, .f32⟩
  | .hbm, ⟨26, _⟩ => ⟨S16384x1024, .f32⟩
  | .hbm, ⟨27, _⟩ => ⟨S16384x1024, .f32⟩
  | .hbm, ⟨28, _⟩ => ⟨S16384x256, .f32⟩
  | .hbm, ⟨29, _⟩ => ⟨S16384x256, .f32⟩
  | .hbm, ⟨30, _⟩ => ⟨S16384x2048, .f32⟩
  | .hbm, ⟨31, _⟩ => ⟨S16384x2048, .f32⟩
  | .hbm, ⟨32, _⟩ => ⟨S16384x9728, .f32⟩
  | .hbm, ⟨33, _⟩ => ⟨S_, .f32⟩
  | .hbm, ⟨34, _⟩ => ⟨S16384x112, .f32⟩
  | .hbm, ⟨35, _⟩ => ⟨S16384x128, .f32⟩
  | .hbm, ⟨36, _⟩ => ⟨S4x4096x3072, .f32⟩
  | .hbm, ⟨37, _⟩ => ⟨S4x3x3072, .f32⟩
  | .hbm, ⟨38, _⟩ => ⟨S1x4x3x3072, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== ProjSK.lean ====
abbrev S128x4x2048 : Shape := ⟨3, ![128, 4, 2048]⟩
abbrev S16x2048 : Shape := ⟨2, ![16, 2048]⟩
abbrev S1x128x3x3072 : Shape := ⟨4, ![1, 128, 3, 3072]⟩
abbrev S1x128x144x4x64 : Shape := ⟨5, ![1, 128, 144, 4, 64]⟩
abbrev S1x2048x9744 : Shape := ⟨3, ![1, 2048, 9744]⟩
abbrev S1x2048 : Shape := ⟨2, ![1, 2048]⟩
abbrev S2048x9744 : Shape := ⟨2, ![2048, 9744]⟩
abbrev S2048x2048 : Shape := ⟨2, ![2048, 2048]⟩
abbrev S2048x3072 : Shape := ⟨2, ![2048, 3072]⟩
abbrev S2048x1024 : Shape := ⟨2, ![2048, 1024]⟩
abbrev S2048x256 : Shape := ⟨2, ![2048, 256]⟩
abbrev S2048x9728 : Shape := ⟨2, ![2048, 9728]⟩
abbrev S2048x8 : Shape := ⟨2, ![2048, 8]⟩
abbrev S_ : Shape := ⟨0, ![]⟩
abbrev S2048x112 : Shape := ⟨2, ![2048, 112]⟩
abbrev S2048x128 : Shape := ⟨2, ![2048, 128]⟩
abbrev S2048 : Shape := ⟨1, ![2048]⟩
abbrev S512x2048 : Shape := ⟨2, ![512, 2048]⟩
abbrev S528x2048 : Shape := ⟨2, ![528, 2048]⟩
abbrev S528x9728 : Shape := ⟨2, ![528, 9728]⟩
abbrev S528x128 : Shape := ⟨2, ![528, 128]⟩
abbrev S2048x512 : Shape := ⟨2, ![2048, 512]⟩
abbrev S528x512 : Shape := ⟨2, ![528, 512]⟩
abbrev S528 : Shape := ⟨1, ![528]⟩
abbrev S528x1 : Shape := ⟨2, ![528, 1]⟩
abbrev S512x3072 : Shape := ⟨2, ![512, 3072]⟩
abbrev S128x4x3072 : Shape := ⟨3, ![128, 4, 3072]⟩
abbrev S128x3x3072 : Shape := ⟨3, ![128, 3, 3072]⟩
abbrev S128x7x3072 : Shape := ⟨3, ![128, 7, 3072]⟩
abbrev S128x4x256 : Shape := ⟨3, ![128, 4, 256]⟩
abbrev S128x144x4x64 : Shape := ⟨4, ![128, 144, 4, 64]⟩
abbrev S128x144x256 : Shape := ⟨3, ![128, 144, 256]⟩
abbrev S512x256 : Shape := ⟨2, ![512, 256]⟩
abbrev S128x152x256 : Shape := ⟨3, ![128, 152, 256]⟩
abbrev S128x16x256 : Shape := ⟨3, ![128, 16, 256]⟩
abbrev S128x128x256 : Shape := ⟨3, ![128, 128, 256]⟩

abbrev nBuf : Space → Nat
  | .hbm => 46
  | .vmem => 9
  | .smem => 0
  | _ => 0

abbrev bufTy : (tb : Table) → Fin (tcTables nBuf tb) → BufTy
  | .hbm, ⟨0, _⟩ => ⟨S128x4x2048, .f32⟩
  | .hbm, ⟨1, _⟩ => ⟨S16x2048, .f32⟩
  | .hbm, ⟨2, _⟩ => ⟨S1x128x3x3072, .f32⟩
  | .hbm, ⟨3, _⟩ => ⟨S1x128x144x4x64, .f32⟩
  | .hbm, ⟨4, _⟩ => ⟨S1x2048x9744, .f32⟩
  | .hbm, ⟨5, _⟩ => ⟨S1x2048, .f32⟩
  | .hbm, ⟨6, _⟩ => ⟨S2048x9744, .f32⟩
  | .hbm, ⟨7, _⟩ => ⟨S2048x2048, .f32⟩
  | .hbm, ⟨8, _⟩ => ⟨S2048x2048, .f32⟩
  | .hbm, ⟨9, _⟩ => ⟨S2048x3072, .f32⟩
  | .hbm, ⟨10, _⟩ => ⟨S2048x1024, .f32⟩
  | .hbm, ⟨11, _⟩ => ⟨S2048x1024, .f32⟩
  | .hbm, ⟨12, _⟩ => ⟨S2048x256, .f32⟩
  | .hbm, ⟨13, _⟩ => ⟨S2048x256, .f32⟩
  | .hbm, ⟨14, _⟩ => ⟨S2048x9728, .f32⟩
  | .hbm, ⟨15, _⟩ => ⟨S2048x9728, .bf16⟩
  | .hbm, ⟨16, _⟩ => ⟨S2048x8, .f32⟩
  | .hbm, ⟨17, _⟩ => ⟨S2048x8, .f32⟩
  | .hbm, ⟨18, _⟩ => ⟨S_, .f32⟩
  | .hbm, ⟨19, _⟩ => ⟨S2048x112, .f32⟩
  | .hbm, ⟨20, _⟩ => ⟨S2048x128, .f32⟩
  | .hbm, ⟨21, _⟩ => ⟨S2048x128, .bf16⟩
  | .hbm, ⟨22, _⟩ => ⟨S2048, .f32⟩
  | .hbm, ⟨23, _⟩ => ⟨S1x2048, .f32⟩
  | .hbm, ⟨24, _⟩ => ⟨S512x2048, .f32⟩
  | .hbm, ⟨25, _⟩ => ⟨S528x2048, .f32⟩
  | .hbm, ⟨26, _⟩ => ⟨S528x9728, .f32⟩
  | .hbm, ⟨27, _⟩ => ⟨S528x128, .f32⟩
  | .hbm, ⟨28, _⟩ => ⟨S512x3072, .f32⟩
  | .hbm, ⟨29, _⟩ => ⟨S128x4x3072, .f32⟩
  | .hbm, ⟨30, _⟩ => ⟨S128x3x3072, .f32⟩
  | .hbm, ⟨31, _⟩ => ⟨S128x7x3072, .f32⟩
  | .hbm, ⟨32, _⟩ => ⟨S128x3x3072, .f32⟩
  | .hbm, ⟨33, _⟩ => ⟨S_, .f32⟩
  | .hbm, ⟨34, _⟩ => ⟨S128x4x256, .f32⟩
  | .hbm, ⟨35, _⟩ => ⟨S128x144x4x64, .f32⟩
  | .hbm, ⟨36, _⟩ => ⟨S128x144x256, .f32⟩
  | .hbm, ⟨37, _⟩ => ⟨S512x256, .f32⟩
  | .hbm, ⟨38, _⟩ => ⟨S128x4x256, .f32⟩
  | .hbm, ⟨39, _⟩ => ⟨S128x152x256, .f32⟩
  | .hbm, ⟨40, _⟩ => ⟨S1x128x3x3072, .f32⟩
  | .hbm, ⟨41, _⟩ => ⟨S128x16x256, .f32⟩
  | .hbm, ⟨42, _⟩ => ⟨S128x128x256, .f32⟩
  | .hbm, ⟨43, _⟩ => ⟨S128x144x256, .f32⟩
  | .hbm, ⟨44, _⟩ => ⟨S128x144x4x64, .f32⟩
  | .hbm, ⟨45, _⟩ => ⟨S1x128x144x4x64, .f32⟩
  | .local _ .vmem, ⟨0, _⟩ => ⟨S528x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S528x512, .f32⟩
  | .local _ .vmem, ⟨6, _⟩ => ⟨S528x512, .f32⟩
  | .local _ .vmem, ⟨7, _⟩ => ⟨S528x128, .f32⟩
  | .local _ .vmem, ⟨8, _⟩ => ⟨S528x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 19], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S528x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S528x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S528x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ProjSRIdeal.lean ====
abbrev S128x4x2048 : Shape := ⟨3, ![128, 4, 2048]⟩
abbrev S16x2048 : Shape := ⟨2, ![16, 2048]⟩
abbrev S1x128x3x3072 : Shape := ⟨4, ![1, 128, 3, 3072]⟩
abbrev S1x128x144x4x64 : Shape := ⟨5, ![1, 128, 144, 4, 64]⟩
abbrev S1x2048x9744 : Shape := ⟨3, ![1, 2048, 9744]⟩
abbrev S1x2048 : Shape := ⟨2, ![1, 2048]⟩
abbrev S512x2048 : Shape := ⟨2, ![512, 2048]⟩
abbrev S528x2048 : Shape := ⟨2, ![528, 2048]⟩
abbrev S_ : Shape := ⟨0, ![]⟩
abbrev S528 : Shape := ⟨1, ![528]⟩
abbrev S528x1 : Shape := ⟨2, ![528, 1]⟩
abbrev S2048 : Shape := ⟨1, ![2048]⟩
abbrev S2048x9744 : Shape := ⟨2, ![2048, 9744]⟩
abbrev S528x9744 : Shape := ⟨2, ![528, 9744]⟩
abbrev S528x3072 : Shape := ⟨2, ![528, 3072]⟩
abbrev S528x8 : Shape := ⟨2, ![528, 8]⟩
abbrev S528x1024 : Shape := ⟨2, ![528, 1024]⟩
abbrev S528x256 : Shape := ⟨2, ![528, 256]⟩
abbrev S528x9728 : Shape := ⟨2, ![528, 9728]⟩
abbrev S528x112 : Shape := ⟨2, ![528, 112]⟩
abbrev S528x128 : Shape := ⟨2, ![528, 128]⟩
abbrev S512x3072 : Shape := ⟨2, ![512, 3072]⟩
abbrev S128x4x3072 : Shape := ⟨3, ![128, 4, 3072]⟩
abbrev S128x3x3072 : Shape := ⟨3, ![128, 3, 3072]⟩
abbrev S128x7x3072 : Shape := ⟨3, ![128, 7, 3072]⟩
abbrev S512x256 : Shape := ⟨2, ![512, 256]⟩
abbrev S128x4x4x64 : Shape := ⟨4, ![128, 4, 4, 64]⟩
abbrev S128x144x4x64 : Shape := ⟨4, ![128, 144, 4, 64]⟩
abbrev S128x148x4x64 : Shape := ⟨4, ![128, 148, 4, 64]⟩
abbrev S128x16x4x64 : Shape := ⟨4, ![128, 16, 4, 64]⟩
abbrev S128x128x4x64 : Shape := ⟨4, ![128, 128, 4, 64]⟩

abbrev nBuf : Space → Nat
  | .hbm => 54
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S16x2048, .f32⟩
  | .hbm, ⟨2, _⟩ => ⟨S1x128x3x3072, .f32⟩
  | .hbm, ⟨3, _⟩ => ⟨S1x128x144x4x64, .f32⟩
  | .hbm, ⟨4, _⟩ => ⟨S1x2048x9744, .f32⟩
  | .hbm, ⟨5, _⟩ => ⟨S1x2048, .f32⟩
  | .hbm, ⟨6, _⟩ => ⟨S512x2048, .f32⟩
  | .hbm, ⟨7, _⟩ => ⟨S528x2048, .f32⟩
  | .hbm, ⟨8, _⟩ => ⟨S528x2048, .f32⟩
  | .hbm, ⟨9, _⟩ => ⟨S_, .f32⟩
  | .hbm, ⟨10, _⟩ => ⟨S528, .f32⟩
  | .hbm, ⟨11, _⟩ => ⟨S528x1, .f32⟩
  | .hbm, ⟨12, _⟩ => ⟨S_, .f32⟩
  | .hbm, ⟨13, _⟩ => ⟨S528x1, .f32⟩
  | .hbm, ⟨14, _⟩ => ⟨S528x1, .f32⟩
  | .hbm, ⟨15, _⟩ => ⟨S_, .f32⟩
  | .hbm, ⟨16, _⟩ => ⟨S528x1, .f32⟩
  | .hbm, ⟨17, _⟩ => ⟨S528x1, .f32⟩
  | .hbm, ⟨18, _⟩ => ⟨S528x1, .f32⟩
  | .hbm, ⟨19, _⟩ => ⟨S528x2048, .f32⟩
  | .hbm, ⟨20, _⟩ => ⟨S528x2048, .f32⟩
  | .hbm, ⟨21, _⟩ => ⟨S2048, .f32⟩
  | .hbm, ⟨22, _⟩ => ⟨S1x2048, .f32⟩
  | .hbm, ⟨23, _⟩ => ⟨S528x2048, .f32⟩
  | .hbm, ⟨24, _⟩ => ⟨S528x2048, .f32⟩
  | .hbm, ⟨25, _⟩ => ⟨S2048x9744, .f32⟩
  | .hbm, ⟨26, _⟩ => ⟨S528x9744, .f32⟩
  | .hbm, ⟨27, _⟩ => ⟨S528x3072, .f32⟩
  | .hbm, ⟨28, _⟩ => ⟨S528x8, .f32⟩
  | .hbm, ⟨29, _⟩ => ⟨S528x8, .f32⟩
  | .hbm, ⟨30, _⟩ => ⟨S528x1024, .f32⟩
  | .hbm, ⟨31, _⟩ => ⟨S528x1024, .f32⟩
  | .hbm, ⟨32, _⟩ => ⟨S528x256, .f32⟩
  | .hbm, ⟨33, _⟩ => ⟨S528x256, .f32⟩
  | .hbm, ⟨34, _⟩ => ⟨S528x2048, .f32⟩
  | .hbm, ⟨35, _⟩ => ⟨S528x2048, .f32⟩
  | .hbm, ⟨36, _⟩ => ⟨S528x9728, .f32⟩
  | .hbm, ⟨37, _⟩ => ⟨S_, .f32⟩
  | .hbm, ⟨38, _⟩ => ⟨S528x112, .f32⟩
  | .hbm, ⟨39, _⟩ => ⟨S528x128, .f32⟩
  | .hbm, ⟨40, _⟩ => ⟨S512x3072, .f32⟩
  | .hbm, ⟨41, _⟩ => ⟨S128x4x3072, .f32⟩
  | .hbm, ⟨42, _⟩ => ⟨S128x3x3072, .f32⟩
  | .hbm, ⟨43, _⟩ => ⟨S128x7x3072, .f32⟩
  | .hbm, ⟨44, _⟩ => ⟨S128x3x3072, .f32⟩
  | .hbm, ⟨45, _⟩ => ⟨S512x256, .f32⟩
  | .hbm, ⟨46, _⟩ => ⟨S128x4x4x64, .f32⟩
  | .hbm, ⟨47, _⟩ => ⟨S128x144x4x64, .f32⟩
  | .hbm, ⟨48, _⟩ => ⟨S128x148x4x64, .f32⟩
  | .hbm, ⟨49, _⟩ => ⟨S128x16x4x64, .f32⟩
  | .hbm, ⟨50, _⟩ => ⟨S128x128x4x64, .f32⟩
  | .hbm, ⟨51, _⟩ => ⟨S128x144x4x64, .f32⟩
  | .hbm, ⟨52, _⟩ => ⟨S1x128x3x3072, .f32⟩
  | .hbm, ⟨53, _⟩ => ⟨S1x128x144x4x64, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== OutK.lean ====
abbrev S16384x2048 : Shape := ⟨2, ![16384, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048x4 : Shape := ⟨2, ![2048, 4]⟩
abbrev S2048x32 : Shape := ⟨2, ![2048, 32]⟩
abbrev S_ : Shape := ⟨0, ![]⟩
abbrev S2048x92 : Shape := ⟨2, ![2048, 92]⟩
abbrev S2048x128 : Shape := ⟨2, ![2048, 128]⟩
abbrev S4 : Shape := ⟨1, ![4]⟩
abbrev S32 : Shape := ⟨1, ![32]⟩
abbrev S92 : Shape := ⟨1, ![92]⟩
abbrev S128 : Shape := ⟨1, ![128]⟩
abbrev S1x128 : Shape := ⟨2, ![1, 128]⟩
abbrev S2048 : Shape := ⟨1, ![2048]⟩
abbrev S16384x8x256 : Shape := ⟨3, ![16384, 8, 256]⟩
abbrev S16384x128 : Shape := ⟨2, ![16384, 128]⟩
abbrev S256x2048 : Shape := ⟨2, ![256, 2048]⟩
abbrev S256x8x256 : Shape := ⟨3, ![256, 8, 256]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x1x256 : Shape := ⟨3, ![256, 1, 256]⟩

abbrev nBuf : Space → Nat
  | .hbm => 31
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x2048x2048, .f32⟩
  | .hbm, ⟨3, _⟩ => ⟨S1x2048, .f32⟩
  | .hbm, ⟨4, _⟩ => ⟨S1x2048x4, .f32⟩
  | .hbm, ⟨5, _⟩ => ⟨S1x4, .f32⟩
  | .hbm, ⟨6, _⟩ => ⟨S1x2048x32, .f32⟩
  | .hbm, ⟨7, _⟩ => ⟨S1x32, .f32⟩
  | .hbm, ⟨8, _⟩ => ⟨S2048x2048, .f32⟩
  | .hbm, ⟨9, _⟩ => ⟨S2048x2048, .bf16⟩
  | .hbm, ⟨10, _⟩ => ⟨S2048x4, .f32⟩
  | .hbm, ⟨11, _⟩ => ⟨S2048x32, .f32⟩
  | .hbm, ⟨12, _⟩ => ⟨S_, .f32⟩
  | .hbm, ⟨13, _⟩ => ⟨S2048x92, .f32⟩
  | .hbm, ⟨14, _⟩ => ⟨S2048x128, .f32⟩
  | .hbm, ⟨15, _⟩ => ⟨S2048x128, .bf16⟩
  | .hbm, ⟨16, _⟩ => ⟨S4, .f32⟩
  | .hbm, ⟨17, _⟩ => ⟨S32, .f32⟩
  | .hbm, ⟨18, _⟩ => ⟨S_, .f32⟩
  | .hbm, ⟨19, _⟩ => ⟨S92, .f32⟩
  | .hbm, ⟨20, _⟩ => ⟨S128, .f32⟩
  | .hbm, ⟨21, _⟩ => ⟨S1x128, .f32⟩
  | .hbm, ⟨22, _⟩ => ⟨S2048, .f32⟩
  | .hbm, ⟨23, _⟩ => ⟨S1x2048, .f32⟩
  | .hbm, ⟨24, _⟩ => ⟨S_, .f32⟩
  | .hbm, ⟨25, _⟩ => ⟨S1x128, .f32⟩
  | .hbm, ⟨26, _⟩ => ⟨S16384x2048, .f32⟩
  | .hbm, ⟨27, _⟩ => ⟨S16384x8x256, .f32⟩
  | .hbm, ⟨28, _⟩ => ⟨S16384x128, .f32⟩
  | .hbm, ⟨29, _⟩ => ⟨S16384x128, .i32⟩
  | .hbm, ⟨30, _⟩ => ⟨S1x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x8x256, .f32⟩
  | .local _ .vmem, ⟨12, _⟩ => ⟨S256x8x256, .f32⟩
  | .local _ .vmem, ⟨13, _⟩ => ⟨S256x128, .f32⟩
  | .local _ .vmem, ⟨14, _⟩ => ⟨S256x128, .f32⟩
  | .local _ .vmem, ⟨15, _⟩ => ⟨S256x128, .i32⟩
  | .local _ .vmem, ⟨16, _⟩ => ⟨S256x128, .i32⟩
  | .local _ .vmem, ⟨17, _⟩ => ⟨S1x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutRIdeal.lean ====
abbrev S16384x2048 : Shape := ⟨2, ![16384, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S2048 : Shape := ⟨1, ![2048]⟩
abbrev S16384x8x256 : Shape := ⟨3, ![16384, 8, 256]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x2048x2048, .f32⟩
  | .hbm, ⟨3, _⟩ => ⟨S1x2048, .f32⟩
  | .hbm, ⟨4, _⟩ => ⟨S1x2048x4, .f32⟩
  | .hbm, ⟨5, _⟩ => ⟨S1x4, .f32⟩
  | .hbm, ⟨6, _⟩ => ⟨S1x2048x32, .f32⟩
  | .hbm, ⟨7, _⟩ => ⟨S1x32, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x8x256, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== RopeK.lean ====
abbrev S528x9728 : Shape := ⟨2, ![528, 9728]⟩
abbrev S1x128x144x4x64 : Shape := ⟨5, ![1, 128, 144, 4, 64]⟩
abbrev S1x64 : Shape := ⟨2, ![1, 64]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S512 : Shape := ⟨1, ![512]⟩
abbrev S16 : Shape := ⟨1, ![16]⟩
abbrev S528 : Shape := ⟨1, ![528]⟩
abbrev S32 : Shape := ⟨1, ![32]⟩
abbrev S528x1 : Shape := ⟨2, ![528, 1]⟩
abbrev S1x32 : Shape := ⟨2, ![1, 32]⟩
abbrev S528x32 : Shape := ⟨2, ![528, 32]⟩
abbrev S528x128 : Shape := ⟨2, ![528, 128]⟩
abbrev S528x1024 : Shape := ⟨2, ![528, 1024]⟩
abbrev S528x256 : Shape := ⟨2, ![528, 256]⟩
abbrev S256x128 : Shape := ⟨2, ![256, 128]⟩
abbrev S128x256 : Shape := ⟨2, ![128, 256]⟩
abbrev S128x4x256 : Shape := ⟨3, ![128, 4, 256]⟩
abbrev S128x144x4x64 : Shape := ⟨4, ![128, 144, 4, 64]⟩
abbrev S128x144x256 : Shape := ⟨3, ![128, 144, 256]⟩
abbrev S512x256 : Shape := ⟨2, ![512, 256]⟩
abbrev S128x152x256 : Shape := ⟨3, ![128, 152, 256]⟩
abbrev S128x16x256 : Shape := ⟨3, ![128, 16, 256]⟩
abbrev S128x128x256 : Shape := ⟨3, ![128, 128, 256]⟩

abbrev nBuf : Space → Nat
  | .hbm => 103
  | .vmem => 10
  | .smem => 0
  | _ => 0

abbrev bufTy : (tb : Table) → Fin (tcTables nBuf tb) → BufTy
  | .hbm, ⟨0, _⟩ => ⟨S528x9728, .f32⟩
  | .hbm, ⟨1, _⟩ => ⟨S1x128x144x4x64, .f32⟩
  | .hbm, ⟨2, _⟩ => ⟨S1x64, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S16x64, .f32⟩
  | .hbm, ⟨7, _⟩ => ⟨S1024, .f32⟩
  | .hbm, ⟨8, _⟩ => ⟨S1x1024, .f32⟩
  | .hbm, ⟨9, _⟩ => ⟨S64, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S128, .i32⟩
  | .hbm, ⟨35, _⟩ => ⟨S1x128, .i32⟩
  | .hbm, ⟨36, _⟩ => ⟨S1024x128, .i32⟩
  | .hbm, ⟨37, _⟩ => ⟨S1024x128, .i32⟩
  | .hbm, ⟨38, _⟩ => ⟨S1024x128, .i1⟩
  | .hbm, ⟨39, _⟩ => ⟨S1024x128, .bf16⟩
  | .hbm, ⟨40, _⟩ => ⟨S128x1024, .bf16⟩
  | .hbm, ⟨41, _⟩ => ⟨S512, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S_, .i32⟩
  | .hbm, ⟨51, _⟩ => ⟨S512, .i32⟩
  | .hbm, ⟨52, _⟩ => ⟨S512, .i1⟩
  | .hbm, ⟨53, _⟩ => ⟨S_, .i32⟩
  | .hbm, ⟨54, _⟩ => ⟨S512, .i32⟩
  | .hbm, ⟨55, _⟩ => ⟨S512, .i1⟩
  | .hbm, ⟨56, _⟩ => ⟨S_, .i32⟩
  | .hbm, ⟨57, _⟩ => ⟨S_, .i1⟩
  | .hbm, ⟨58, _⟩ => ⟨S512, .i1⟩
  | .hbm, ⟨59, _⟩ => ⟨S512, .i1⟩
  | .hbm, ⟨60, _⟩ => ⟨S512, .i1⟩
  | .hbm, ⟨61, _⟩ => ⟨S512, .i32⟩
  | .hbm, ⟨62, _⟩ => ⟨S512, .i32⟩
  | .hbm, ⟨63, _⟩ => ⟨S512, .i32⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S16, .i32⟩
  | .hbm, ⟨68, _⟩ => ⟨S528, .i32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S528, .f32⟩
  | .hbm, ⟨78, _⟩ => ⟨S528x1, .f32⟩
  | .hbm, ⟨79, _⟩ => ⟨S1x32, .f32⟩
  | .hbm, ⟨80, _⟩ => ⟨S528x32, .f32⟩
  | .hbm, ⟨81, _⟩ => ⟨S528x32, .f32⟩
  | .hbm, ⟨82, _⟩ => ⟨S528x32, .f32⟩
  | .hbm, ⟨83, _⟩ => ⟨S528x32, .f32⟩
  | .hbm, ⟨84, _⟩ => ⟨S528x32, .f32⟩
  | .hbm, ⟨85, _⟩ => ⟨S528x128, .f32⟩
  | .hbm, ⟨86, _⟩ => ⟨S528x32, .f32⟩
  | .hbm, ⟨87, _⟩ => ⟨S528x32, .f32⟩
  | .hbm, ⟨88, _⟩ => ⟨S528x128, .f32⟩
  | .hbm, ⟨89, _⟩ => ⟨S528x1024, .f32⟩
  | .hbm, ⟨90, _⟩ => ⟨S528x256, .f32⟩
  | .hbm, ⟨91, _⟩ => ⟨S_, .f32⟩
  | .hbm, ⟨92, _⟩ => ⟨S128x4x256, .f32⟩
  | .hbm, ⟨93, _⟩ => ⟨S128x144x4x64, .f32⟩
  | .hbm, ⟨94, _⟩ => ⟨S128x144x256, .f32⟩
  | .hbm, ⟨95, _⟩ => ⟨S512x256, .f32⟩
  | .hbm, ⟨96, _⟩ => ⟨S128x4x256, .f32⟩
  | .hbm, ⟨97, _⟩ => ⟨S128x152x256, .f32⟩
  | .hbm, ⟨98, _⟩ => ⟨S128x16x256, .f32⟩
  | .hbm, ⟨99, _⟩ => ⟨S128x128x256, .f32⟩
  | .hbm, ⟨100, _⟩ => ⟨S128x144x256, .f32⟩
  | .hbm, ⟨101, _⟩ => ⟨S128x144x4x64, .f32⟩
  | .hbm, ⟨102, _⟩ => ⟨S1x128x144x4x64, .f32⟩
  | .local _ .vmem, ⟨0, _⟩ => ⟨S528x1024, .f32⟩
  | .local _ .vmem, ⟨1, _⟩ => ⟨S528x256, .f32⟩
  | .local _ .vmem, ⟨2, _⟩ => ⟨S528x128, .f32⟩
  | .local _ .vmem, ⟨3, _⟩ => ⟨S528x128, .f32⟩
  | .local _ .vmem, ⟨4, _⟩ => ⟨S1x1024, .f32⟩
  | .local _ .vmem, ⟨5, _⟩ => ⟨S1x256, .f32⟩
  | .local _ .vmem, ⟨6, _⟩ => ⟨S1024x128, .bf16⟩
  | .local _ .vmem, ⟨7, _⟩ => ⟨S128x1024, .bf16⟩
  | .local _ .vmem, ⟨8, _⟩ => ⟨S528x1024, .f32⟩
  | .local _ .vmem, ⟨9, _⟩ => ⟨S528x256, .f32⟩
  | _, _ => ⟨S528x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v21 : Ref sig .tc := ⟨.hbm, 63, rfl⟩
abbrev main_c_1 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst : Ref sig .tc := ⟨.hbm, 71, rfl⟩
abbrev main_v28 : Ref sig .tc := ⟨.hbm, 72, rfl⟩
abbrev main_v29 : Ref sig .tc := ⟨.hbm, 73, rfl⟩
abbrev main_cst_2 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44_0 : Ref sig .tc := ⟨.hbm, 89, rfl⟩
abbrev main_v44_1 : Ref sig .tc := ⟨.hbm, 90, rfl⟩
abbrev main_cst_3 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_1 (i : grid0.Coords) : Fin 2 → Nat :=
  let arg0 : BitVec 32 := BitVec.ofNat 32 (i 0).val
  let c0_i32 : BitVec 32 := 0#32
  let c36_i32 : BitVec 32 := 36#32
  let c0_i32_0 : BitVec 32 := 0#32
  ![c0_i32.toNat, c36_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S528x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S528x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S528x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S528x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S528x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S528x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RopeRIdeal.lean ====
abbrev S528x9728 : Shape := ⟨2, ![528, 9728]⟩
abbrev S1x128x144x4x64 : Shape := ⟨5, ![1, 128, 144, 4, 64]⟩
abbrev S1x64 : Shape := ⟨2, ![1, 64]⟩
abbrev S512 : Shape := ⟨1, ![512]⟩
abbrev S_ : Shape := ⟨0, ![]⟩
abbrev S16 : Shape := ⟨1, ![16]⟩
abbrev S528 : Shape := ⟨1, ![528]⟩
abbrev S32 : Shape := ⟨1, ![32]⟩
abbrev S528x1 : Shape := ⟨2, ![528, 1]⟩
abbrev S1x32 : Shape := ⟨2, ![1, 32]⟩
abbrev S528x32 : Shape := ⟨2, ![528, 32]⟩
abbrev S528x1x32 : Shape := ⟨3, ![528, 1, 32]⟩
abbrev S528x1024 : Shape := ⟨2, ![528, 1024]⟩
abbrev S528x16x64 : Shape := ⟨3, ![528, 16, 64]⟩
abbrev S64 : Shape := ⟨1, ![64]⟩
abbrev S528x16 : Shape := ⟨2, ![528, 16]⟩
abbrev S528x16x1 : Shape := ⟨3, ![528, 16, 1]⟩
abbrev S1x1x64 : Shape := ⟨3, ![1, 1, 64]⟩
abbrev S528x16x32 : Shape := ⟨3, ![528, 16, 32]⟩
abbrev S528x256 : Shape := ⟨2, ![528, 256]⟩
abbrev S528x4x64 : Shape := ⟨3, ![528, 4, 64]⟩
abbrev S528x4 : Shape := ⟨2, ![528, 4]⟩
abbrev S528x4x1 : Shape := ⟨3, ![528, 4, 1]⟩
abbrev S528x4x32 : Shape := ⟨3, ![528, 4, 32]⟩
abbrev S512x4x64 : Shape := ⟨3, ![512, 4, 64]⟩
abbrev S128x4x4x64 : Shape := ⟨4, ![128, 4, 4, 64]⟩
abbrev S128x144x4x64 : Shape := ⟨4, ![128, 144, 4, 64]⟩
abbrev S128x16x4x64 : Shape := ⟨4, ![128, 16, 4, 64]⟩
abbrev S128x124x4x64 : Shape := ⟨4, ![128, 124, 4, 64]⟩

abbrev nBuf : Space → Nat
  | .hbm => 123
  | .vmem => 0
  | .smem => 0
  | _ => 0

abbrev bufTy : (tb : Table) → Fin (tcTables nBuf tb) → BufTy
  | .hbm, ⟨0, _⟩ => ⟨S528x9728, .f32⟩
  | .hbm, ⟨1, _⟩ => ⟨S1x128x144x4x64, .f32⟩
  | .hbm, ⟨2, _⟩ => ⟨S1x64, .f32⟩
  | .hbm, ⟨3, _⟩ => ⟨S1x64, .f32⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S_, .i1⟩
  | .hbm, ⟨21, _⟩ => ⟨S512, .i1⟩
  | .hbm, ⟨22, _⟩ => ⟨S512, .i1⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S16, .i32⟩
  | .hbm, ⟨31, _⟩ => ⟨S528, .i32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S528, .f32⟩
  | .hbm, ⟨41, _⟩ => ⟨S528x1, .f32⟩
  | .hbm, ⟨42, _⟩ => ⟨S1x32, .f32⟩
  | .hbm, ⟨43, _⟩ => ⟨S528x32, .f32⟩
  | .hbm, ⟨44, _⟩ => ⟨S528x32, .f32⟩
  | .hbm, ⟨45, _⟩ => ⟨S528x32, .f32⟩
  | .hbm, ⟨46, _⟩ => ⟨S528x32, .f32⟩
  | .hbm, ⟨47, _⟩ => ⟨S528x1x32, .f32⟩
  | .hbm, ⟨48, _⟩ => ⟨S528x32, .f32⟩
  | .hbm, ⟨49, _⟩ => ⟨S528x1x32, .f32⟩
  | .hbm, ⟨50, _⟩ => ⟨S528x1024, .f32⟩
  | .hbm, ⟨51, _⟩ => ⟨S528x16x64, .f32⟩
  | .hbm, ⟨52, _⟩ => ⟨S64, .f32⟩
  | .hbm, ⟨53, _⟩ => ⟨S528x16x64, .f32⟩
  | .hbm, ⟨54, _⟩ => ⟨S_, .f32⟩
  | .hbm, ⟨55, _⟩ => ⟨S528x16, .f32⟩
  | .hbm, ⟨56, _⟩ => ⟨S528x16x1, .f32⟩
  | .hbm, ⟨57, _⟩ => ⟨S_, .f32⟩
  | .hbm, ⟨58, _⟩ => ⟨S528x16x1, .f32⟩
  | .hbm, ⟨59, _⟩ => ⟨S528x16x1, .f32⟩
  | .hbm, ⟨60, _⟩ => ⟨S_, .f32⟩
  | .hbm, ⟨61, _⟩ => ⟨S528x16x1, .f32⟩
  | .hbm, ⟨62, _⟩ => ⟨S528x16x1, .f32⟩
  | .hbm, ⟨63, _⟩ => ⟨S528x16x1, .f32⟩
  | .hbm, ⟨64, _⟩ => ⟨S528x16x64, .f32⟩
  | .hbm, ⟨65, _⟩ => ⟨S528x16x64, .f32⟩
  | .hbm, ⟨66, _⟩ => ⟨S1x1x64, .f32⟩
  | .hbm, ⟨67, _⟩ => ⟨S528x16x64, .f32⟩
  | .hbm, ⟨68, _⟩ => ⟨S528x16x64, .f32⟩
  | .hbm, ⟨69, _⟩ => ⟨S528x16x32, .f32⟩
  | .hbm, ⟨70, _⟩ => ⟨S528x16x32, .f32⟩
  | .hbm, ⟨71, _⟩ => ⟨S528x16x32, .f32⟩
  | .hbm, ⟨72, _⟩ => ⟨S528x16x32, .f32⟩
  | .hbm, ⟨73, _⟩ => ⟨S528x16x32, .f32⟩
  | .hbm, ⟨74, _⟩ => ⟨S528x16x32, .f32⟩
  | .hbm, ⟨75, _⟩ => ⟨S528x16x32, .f32⟩
  | .hbm, ⟨76, _⟩ => ⟨S528x16x32, .f32⟩
  | .hbm, ⟨77, _⟩ => ⟨S528x16x32, .f32⟩
  | .hbm, ⟨78, _⟩ => ⟨S528x16x32, .f32⟩
  | .hbm, ⟨79, _⟩ => ⟨S528x16x32, .f32⟩
  | .hbm, ⟨80, _⟩ => ⟨S528x16x32, .f32⟩
  | .hbm, ⟨81, _⟩ => ⟨S528x16x64, .f32⟩
  | .hbm, ⟨82, _⟩ => ⟨S528x256, .f32⟩
  | .hbm, ⟨83, _⟩ => ⟨S528x4x64, .f32⟩
  | .hbm, ⟨84, _⟩ => ⟨S64, .f32⟩
  | .hbm, ⟨85, _⟩ => ⟨S528x4x64, .f32⟩
  | .hbm, ⟨86, _⟩ => ⟨S_, .f32⟩
  | .hbm, ⟨87, _⟩ => ⟨S528x4, .f32⟩
  | .hbm, ⟨88, _⟩ => ⟨S528x4x1, .f32⟩
  | .hbm, ⟨89, _⟩ => ⟨S_, .f32⟩
  | .hbm, ⟨90, _⟩ => ⟨S528x4x1, .f32⟩
  | .hbm, ⟨91, _⟩ => ⟨S528x4x1, .f32⟩
  | .hbm, ⟨92, _⟩ => ⟨S_, .f32⟩
  | .hbm, ⟨93, _⟩ => ⟨S528x4x1, .f32⟩
  | .hbm, ⟨94, _⟩ => ⟨S528x4x1, .f32⟩
  | .hbm, ⟨95, _⟩ => ⟨S528x4x1, .f32⟩
  | .hbm, ⟨96, _⟩ => ⟨S528x4x64, .f32⟩
  | .hbm, ⟨97, _⟩ => ⟨S528x4x64, .f32⟩
  | .hbm, ⟨98, _⟩ => ⟨S1x1x64, .f32⟩
  | .hbm, ⟨99, _⟩ => ⟨S528x4x64, .f32⟩
  | .hbm, ⟨100, _⟩ => ⟨S528x4x64, .f32⟩
  | .hbm, ⟨101, _⟩ => ⟨S528x4x32, .f32⟩
  | .hbm, ⟨102, _⟩ => ⟨S528x4x32, .f32⟩
  | .hbm, ⟨103, _⟩ => ⟨S528x4x32, .f32⟩
  | .hbm, ⟨104, _⟩ => ⟨S528x4x32, .f32⟩
  | .hbm, ⟨105, _⟩ => ⟨S528x4x32, .f32⟩
  | .hbm, ⟨106, _⟩ => ⟨S528x4x32, .f32⟩
  | .hbm, ⟨107, _⟩ => ⟨S528x4x32, .f32⟩
  | .hbm, ⟨108, _⟩ => ⟨S528x4x32, .f32⟩
  | .hbm, ⟨109, _⟩ => ⟨S528x4x32, .f32⟩
  | .hbm, ⟨110, _⟩ => ⟨S528x4x32, .f32⟩
  | .hbm, ⟨111, _⟩ => ⟨S528x4x32, .f32⟩
  | .hbm, ⟨112, _⟩ => ⟨S528x4x32, .f32⟩
  | .hbm, ⟨113, _⟩ => ⟨S528x4x64, .f32⟩
  | .hbm, ⟨114, _⟩ => ⟨S512x4x64, .f32⟩
  | .hbm, ⟨115, _⟩ => ⟨S128x4x4x64, .f32⟩
  | .hbm, ⟨116, _⟩ => ⟨S128x144x4x64, .f32⟩
  | .hbm, ⟨117, _⟩ => ⟨S128x16x4x64, .f32⟩
  | .hbm, ⟨118, _⟩ => ⟨S128x124x4x64, .f32⟩
  | .hbm, ⟨119, _⟩ => ⟨S128x144x4x64, .f32⟩
  | .hbm, ⟨120, _⟩ => ⟨S528x1024, .f32⟩
  | .hbm, ⟨121, _⟩ => ⟨S528x256, .f32⟩
  | .hbm, ⟨122, _⟩ => ⟨S1x128x144x4x64, .f32⟩
  | _, _ => ⟨S528x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_cst_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_5 : Ref sig .tc := ⟨.hbm, 86, rfl⟩
abbrev main_v55 : Ref sig .tc := ⟨.hbm, 87, rfl⟩
abbrev main_v56 : Ref sig .tc := ⟨.hbm, 88, rfl⟩
abbrev main_cst_6 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]
-- ==== Proof.Merge.Value.lean ====
/- The value of the gated merge: each entry of the kernel's result is the reference's entry. -/
module

public import proofs.«01_k».proof.Proof.Gen.MergeKIdeal.Value
public import proofs.«01_k».proof.Proof.Gen.MergeRIdeal.Run
public import proofs.«01_k».proof.Proof.Gen.MergeRIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeKIdeal.Val

open Cert.MergeKIdeal Cert.MergeKIdeal.Gen

variable (m : (ℓ : Loc nD τ sig) → Buf (Elt Ideal) ℓ)

/-- The reference's result over the arrays it takes. -/
abbrev REF (ya yb : FVec Ideal S16384x1024 .bf16) (pr : FVec Ideal S16384x9728 .f32)
    (wa wb : FVec Ideal S1x1024x2048 .f32) : FVec Ideal S16384x2048 .bf16 :=
  Cert.MergeRIdeal.Read.val_main_v23 (F := Ideal) ya yb pr wa wb

/-- Which block each window stages at point `t`. -/
theorem idx : ∀ t : Fin cfg0.N, win0_0.index t = ![t.val, 0] ∧ win0_1.index t = ![t.val, 0]
    ∧ win0_2.index t = ![t.val, 0] ∧ win0_3.index t = ![t.val, 1] ∧ win0_4.index t = ![0, 0]
    ∧ win0_5.index t = ![0, 0] ∧ win0_6.index t = ![t.val, 0] :=
  (by decide +kernel : ∀ t : Fin grid0.N, _)

/-- Row `r` of block `t` is a row of the array. -/
theorem row_lt (t : Fin cfg0.N) (r : Fin 512) : t.val * 512 + r.val < 16384 := by
  have ht : t.val < 32 := t.isLt
  have := r.isLt
  omega

/-- A column of the first gate is a column of the projections. -/
theorem col_lt2 (l : Fin 2048) : l.val < 9728 := by
  have := l.isLt
  omega

/-- A column of the second gate is a column of the projections. -/
theorem col_lt3 (l : Fin 2048) : 2048 + l.val < 9728 := by
  have := l.isLt
  omega

/-- The first gate's staged block, read at an index: no transfer of it is cut. -/
theorem X0_2_at (c : Dev nD) (t : Fin cfg0.N) (y : S512x2048.Idx) :
    X0_2 m c t y = m ((c : Thread nD τ).loc main_arg2)
      (ix2 ⟨t.val * 512 + (y 0).val, row_lt t (y 0)⟩ ⟨(y 1).val, col_lt2 (y 1)⟩) := by
  unfold X0_2 Pipeline.Window.fill
  rw [dif_pos (moved0_2 t y)]
  blk_ext [iblk, V, idx t]

/-- The second gate's staged block, read at an index. -/
theorem X0_3_at (c : Dev nD) (t : Fin cfg0.N) (y : S512x2048.Idx) :
    X0_3 m c t y = m ((c : Thread nD τ).loc main_arg2)
      (ix2 ⟨t.val * 512 + (y 0).val, row_lt t (y 0)⟩ ⟨2048 + (y 1).val, col_lt3 (y 1)⟩) := by
  unfold X0_3 Pipeline.Window.fill
  rw [dif_pos (moved0_3 t y)]
  blk_ext [iblk, V, idx t]

/-- The result array after the run is the reference's. -/
theorem final (c : Dev nD) : (dats m 0 c).arrAt 6 cfg0.N
    = REF (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t _ y => ?_
  blk_simp
  rw [after0_6, outsAt0]
  frame_out
  rw [REF, ← Cert.MergeRIdeal.Read.val_main_v23_eq]
  pointwise [k0_pay1]
  simp only [X0_2_at, X0_3_at, Ideal.logistic]
  blk_point [iblk, V, idx t]

end Cert.MergeKIdeal.Val

end
-- ==== Proof.Merge.Claims.lean ====
/- The claims about the gated merge. -/
module

public import proofs.«01_k».proof.Defs
public import proofs.«01_k».proof.Proof.Gen.MergeK.Frame
public import proofs.«01_k».proof.Proof.Gen.MergeKIdeal.Frame
public import proofs.«01_k».proof.Proof.Gen.MergeRIdeal
public import proofs.«01_k».proof.Proof.Merge.Value
public import Idealize.ShloMosaic.Lib.Claim

@[expose] public section

set_option maxRecDepth 16384

noncomputable section

namespace Cert.MergeClaims

open Idealize.ShloMosaic Idealize.ShloMosaic.TcCoe Idealize.SL.Sem

/-- The kernel's frame. -/
theorem quiescent_kernel : Cert.quiescent_MergeK (hMergeK := Cert.MergeK.Gen.facts) :=
  fun m g _ => Cert.MergeK.Gen.frame m g

/-- The frame of the kernel over the reals. -/
theorem quiescent_ideal : Cert.quiescent_MergeKIdeal (hMergeKIdeal := Cert.MergeKIdeal.Gen.facts) :=
  fun m g _ => Cert.MergeKIdeal.Gen.frame m g

/-- The reference's frame. -/
theorem quiescent_reference : Cert.quiescent_MergeRIdeal (hMergeRIdeal := Cert.MergeRIdeal.Gen.facts) := by
  intro m g _
  exact (θ_run Cert.MergeRIdeal.defs _ _).mono (fun r h => ⟨fun c => (h c).2, sem_eq_zero_of_no_sems (by decide) r.2⟩)
    (Cert.MergeRIdeal.Value.run (F := Ideal) m g)

/-- The kernel's result is the reference's. -/
theorem algebraic : Cert.algebraic_MergeKIdeal_MergeRIdeal (hMergeKIdeal := Cert.MergeKIdeal.Gen.facts)
    (hMergeRIdeal := Cert.MergeRIdeal.Gen.facts) := by
  pair_intro
  · run_from Cert.MergeKIdeal.Gen.run_main m g
  · run_from Cert.MergeRIdeal.Value.run m' g'
    exact ((Cert.MergeRIdeal.Read.val_main_v23_eq (F := Ideal) _ _ _ _ _).trans (Cert.MergeKIdeal.Val.final m c).symm)

end Cert.MergeClaims

end
-- ==== Proof.Proj.Cond.lean ====
/- The projection's branch condition over the grid points, and the buffers its body runs on. -/
module

public import proofs.«01_k».proof.Proof.Gen.ProjKIdeal.Frame
public import proofs.«01_k».proof.Proof.Gen.ProjKIdeal.Launch
public import proofs.«01_k».proof.Proof.Gen.ProjKIdeal.Skeleton
public import proofs.«01_k».proof.Proof.Gen.ProjKIdeal.Loops
public import proofs.«01_k».proof.Proof.Gen.ProjKIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.ProjKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the points ≡ 0 (mod 19) — by arithmetic of the point. -/
theorem hcond0_0 : ∀ t : Fin cfg0.N, cond0_0 (grid0.coords t) ↔ t.val % 19 = 0 :=
  (fun t => by
    have ht : t.val < 304 := Nat.lt_of_lt_of_eq t.isLt N_0
    have e0 : (grid0.coords t 0).val = t.val / 19 % 16 := Pipeline.Grid.coords_val t 0 (by decide) rfl
    have e1 : (grid0.coords t 1).val = t.val / 1 % 19 := Pipeline.Grid.coords_val t 1 (by decide) rfl
    simp only [cond0_0, k0_cond1, e0, e1]
    word_cmp
   : ∀ t : Fin grid0.N, cond0_0 (grid0.coords t) ↔ t.val % 19 = 0)

/-! ## The kernel body on any staging memrefs: a subtype the run finds -/

/-- One staging buffer of output window 4, through which its contents are stated (`View.read_writes_of_cover`: the
    choice does not matter). -/
abbrev VO0_4 : View sig .tc .vmem S1024x512 .f32 := (Memref.whole cc0_stg4_0 : Memref sig .tc .vmem S1024x512 .f32).view
/-- One staging buffer of output window 5, through which its contents are stated (`View.read_writes_of_cover`: the
    choice does not matter). -/
abbrev VO0_5 : View sig .tc .vmem S1024x128 .f32 := (Memref.whole cc0_stg5_0 : Memref sig .tc .vmem S1024x128 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2048 .bf16 := Memref.whole cc0_scratch0
/-- The scratch `arg8` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ProjKIdeal.Gen

end
-- ==== Proof.Proj.RunA.lean ====
/- One run of the projection's body at a row block's first point. -/
module

public import proofs.«01_k».proof.Proof.Proj.Cond

@[expose] public section

set_option maxRecDepth 16384

noncomputable section

namespace Cert.ProjKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0, 19, … 285: 16 of 304), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x512 .bf16) (x3 : Vec F S2048x128 .bf16) :
    Σ' (L4 : List (View.Piece (Elt F) S1024x512 .f32)), Σ' (L5 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, ?_, ?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    have hrd0 : ∀ (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (k0_h1 : k0_cond1 i = 1#1) (X_arg2 : BufTy.Contents (Elt F) arg2.view.ty) (X_arg3 : BufTy.Contents (Elt F) arg3.view.ty) (hrdF : BufTy.Contents (Elt F) arg8.view.ty) (hrdB : LoadRect S1024x2048), arg8.view.readAt (Elt F) hrdB (arg8.view.writes (Elt F) hrdF (pb_k0_t1 (F := F) 𝒱 c bd i arg2 harg2 arg3 harg3 arg4 harg4 arg5 harg5 arg6 harg6 arg7 harg7 arg8 harg8 k0_h1 X_arg2 X_arg3 (Scf.trips k0_t1_loop.lb k0_t1_loop.ub k0_t1_loop.st))) = arg8.view.readCov (pb_k0_t1 (F := F) 𝒱 c bd i arg2 harg2 arg3 harg3 arg4 harg4 arg5 harg5 arg6 harg6 arg7 harg7 arg8 harg8 k0_h1 X_arg2 X_arg3 (Scf.trips k0_t1_loop.lb k0_t1_loop.ub k0_t1_loop.st)) hrdB := fun 𝒱 c bd i arg2 harg2 arg3 harg3 arg4 harg4 arg5 harg5 arg6 harg6 arg7 harg7 arg8 harg8 k0_h1 X_arg2 X_arg3 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 k0_h1 X_arg2 X_arg3 (Scf.trips k0_t1_loop.lb k0_t1_loop.ub k0_t1_loop.st)) S256x2048.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.ProjKIdeal.Gen

end
-- ==== Proof.Proj.RunB.lean ====
/- One run of the projection's body at the other points of a row block. -/
module

public import proofs.«01_k».proof.Proof.Proj.RunA

@[expose] public section

set_option maxRecDepth 16384

noncomputable section

namespace Cert.ProjKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 303: 288 of 304), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S2048x512 .bf16) (x3 : Vec F S2048x128 .bf16) (xo5 : Vec F S1024x128 .f32) (xs0 : Vec F S1024x2048 .bf16) :
    Σ' (L4 : List (View.Piece (Elt F) S1024x512 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo5 ∗ owns (c : Thread nD τ) arg8 fullShare xs0) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, [], fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS0

end Cert.ProjKIdeal.Gen

end
-- ==== Proof.Proj.Exact.lean ====
/- What the projection's buffers hold after each grid point, and its run. -/
module

public import proofs.«01_k».proof.Proof.Proj.RunB
public import Idealize.ShloMosaic.Lib.Claim

@[expose] public section

set_option maxRecDepth 16384

noncomputable section

namespace Cert.ProjKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 4 tile its block (1 store of `S1024x512`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x512 .bf16) (x3 : Vec F S2048x128 .bf16) (y : S1024x512.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S1024x512.size (by sl_kernel_rfl) y

/-- What case A leaves in output 4's staging buffer: its pieces read back over junk. -/
def out0_A_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x512 .bf16) (x3 : Vec F S2048x128 .bf16) : Vec F S1024x512 .f32 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

/-- Case A's pieces for output 5 tile its block (1 store of `S1024x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x512 .bf16) (x3 : Vec F S2048x128 .bf16) (y : S1024x128.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S1024x128.size (by sl_kernel_rfl) y

/-- What case A leaves in output 5's staging buffer: its pieces read back over junk. -/
def out0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x512 .bf16) (x3 : Vec F S2048x128 .bf16) : Vec F S1024x128 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

/-- Case A's pieces for scratch `arg8`, which the kernel carries between points, cover it: 4 pieces of `S256x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x512 .bf16) (x3 : Vec F S2048x128 .bf16) (y : S1024x2048.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S256x2048.size (by sl_kernel_rfl) y

/-- What case A leaves in scratch `arg8`: its pieces read back over junk. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x512 .bf16) (x3 : Vec F S2048x128 .bf16) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2 x3).2.2.1)

/-- Case B's pieces for output 4 tile its block (1 store of `S1024x512`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S2048x512 .bf16) (x3 : Vec F S2048x128 .bf16) (xo5 : Vec F S1024x128 .f32) (xs0 : Vec F S1024x2048 .bf16) (y : S1024x512.Idx) :
    ∃ pc ∈ (kernelRun0_B c i arg2 harg2 arg3 harg3 arg4 harg4 arg5 harg5 arg6 harg6 arg7 harg7 arg8 harg8 hc0 x0 x1 x2 x3 xo5 xs0).1, y ∈ pc.1.set :=
  View.cover_of_tiledL (kernelRun0_B c i arg2 harg2 arg3 harg3 arg4 harg4 arg5 harg5 arg6 harg6 arg7 harg7 arg8 harg8 hc0 x0 x1 x2 x3 xo5 xs0).1 S1024x512.size (by sl_kernel_rfl) y

/-- What case B leaves in output 4's staging buffer: its pieces read back over junk. -/
def out0_B_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S2048x512 .bf16) (x3 : Vec F S2048x128 .bf16) (xo5 : Vec F S1024x128 .f32) (xs0 : Vec F S1024x2048 .bf16) : Vec F S1024x512 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xo5 xs0).1)

/-- Case B stores nothing into scratch `arg8`: it holds what the point before left. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S2048x512 .bf16) (x3 : Vec F S2048x128 .bf16) (xo5 : Vec F S1024x128 .f32) (xs0 : Vec F S1024x2048 .bf16) : Vec F S1024x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x512 .f32 × Vec F S1024x128 .f32 × Vec F S1024x2048 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 19 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 19 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 19 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The small output's buffer is handed to the body and taken back untouched at the points after a row block's first. -/
theorem idle5_iff : ∀ t : Fin cfg0.N, cfg0.idle 5 (cfg0.grid.coords t) = !decide (t.val % 19 = 0) :=
  (fun t => by
    have h := hcond0_0 t
    show (!(k0_cond1 (grid0.coords t) == 1#1)) = _
    congr 1
    by_cases h0 : t.val % 19 = 0
    · rw [decide_eq_true h0]; exact beq_iff_eq.mpr (h.mpr h0)
    · rw [decide_eq_false h0]; exact beq_eq_false_iff_ne.mpr fun e => h0 (h.mp e))

theorem fresh5 (n : ℕ) (hn : n ≤ cfg0.N) : cfg0.fresh 5 n = decide (n % 19 = 0) :=
  Pipeline.Cfg.fresh_tab cfg0 5 (fun n => decide (n % 19 = 0)) rfl (fun t => by
    rw [idle5_iff]
    have hN : t.val < 304 := lt_of_lt_of_eq t.isLt (show cfg0.N = 304 from N_0)
    have hf := flush0_5 t
    by_cases h18 : t.val % 19 = 18
    · rw [hf.mpr h18, Bool.true_or]; exact decide_eq_true (by omega)
    · rw [Bool.eq_false_iff.mpr fun e => h18 (hf.mp e), Bool.false_or]
      by_cases h0 : t.val % 19 = 0
      · simp only [h0, decide_true, Bool.not_true, Bool.false_and]; exact decide_eq_false (by omega)
      · simp only [h0, decide_false, Bool.and_false]; exact decide_eq_false (by omega)) n hn

/-- At a point after a row block's first, the small output's buffer holds what the point before left. -/
theorem before0_5_B (c : Dev nD) (t : Fin cfg0.N) (h0 : ¬t.val % 19 = 0) (d) :
    (dats m 0 c).before 5 t d = (outsAt0 m c (t.val - 1) (Nat.lt_of_le_of_lt (Nat.sub_le _ _) t.isLt)).2.1 := by
  rw [Dat.before_out_traj (dats m 0 c) 5 rfl (fun _ _ => rfl) (fun s hs hi hfr => by
    rw [idle5_iff] at hi
    have h1 : ¬s.val % 19 = 0 := by simpa using hi
    rw [after0_5, after0_5, outsAt0_B m c s h1]) t.val t rfl d, fresh5 _ (Nat.le_of_lt t.isLt), decide_eq_false h0]
  rw [if_neg Bool.false_ne_true, after0_5]

/-- What the body owes of the small output's buffer there. -/
theorem leaves0_5_B (c : Dev nD) (t : Fin cfg0.N) (h0 : ¬t.val % 19 = 0) :
    (owns (c : Thread nD τ) (ms0_5 t) fullShare ((outsAt0 m c (t.val - 1) (Nat.lt_of_le_of_lt (Nat.sub_le _ _) t.isLt)).2.1) : sProp 𝕄)
      ⊢ (dats m 0 c).leavesExact 5 t := by
  unfold Dat.leavesExact
  rw [idle5_iff, decide_eq_false h0]
  by_cases hf : (cfg0.win 5).flush t = true
  · rw [hf, after0_5, outsAt0_B m c t h0]; exact .rfl
  · rw [Bool.eq_false_iff.mpr hf]
    show _ ⊢ iprop(∃ d, owns (c : Thread nD τ) (ms0_5 t) fullShare ((dats m 0 c).before 5 t d))
    iintro H
    iexists ((dats m 0 c).after 5 t)
    rw [before0_5_B m c t h0]
    iexact H

theorem leaves0_5_A (c : Dev nD) (t : Fin cfg0.N) (h0 : t.val % 19 = 0) :
    (dats m 0 c).leavesExact 5 t = (owns (c : Thread nD τ) (ms0_5 t) fullShare ((outsAt0 m c t.val t.isLt).2.1) : sProp 𝕄) := by
  unfold Dat.leavesExact
  rw [idle5_iff, decide_eq_true h0, after0_5]
  rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t)

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 304 := lt_of_lt_of_eq t.isLt (show cfg0.N = 304 from N_0)
  by_cases h0 : t.val % 19 = 0
  · by_cases hz : t.val = 0
    · rw [PhiS_castSucc m c t, PhiS_zero m c _ _ hz, PhiA0_eq]
      rw [leaves0_5_A m c t h0, outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m c t, PhiS_pos m c _ _ hz]
      rw [leaves0_5_A m c t h0, outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · by_cases hz : t.val = 0
    · exfalso; have hN : t.val < 304 := lt_of_lt_of_eq t.isLt (show cfg0.N = 304 from N_0); omega
    · rw [PhiS_castSucc m c t, PhiS_pos m c _ _ hz]
      rw [outsAt0_B m c t h0]
      unfold out0_B_4 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      rw [before0_5_B m c t h0]
      iapply ((kernelRun0_B c (grid0.coords t) _ _ _ _ _ _ _ _ _ _ _ _ _ _ (fun h => h0 ((hcond0_0 t).mp h)) (iblk m c 0 t) (iblk m c 1 t) (iblk m c 2 t) (iblk m c 3 t) _ _).2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _)
      iapply (leaves0_5_B m c t h0)
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 304 := N_0; omega)

/-! ## The run and the frame -/

-- `θ_run_frame_track`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every final state has every array of the pipeline at what the library computes from the proof data and every other
    unscoped buffer at what the host lines after the region leave. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.ProjKIdeal.Gen

end
-- ==== Proof.Proj.Pieces.lean ====
/- What one run of the projection's body leaves: the normalised rows, and the two products over them. -/
module

public import proofs.«01_k».proof.Proof.Proj.Exact
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjKIdeal.Val

open Cert.ProjKIdeal Cert.ProjKIdeal.Gen

theorem hz : (![0, 0] : Fin 2 → Nat) = fun _ => 0 := funext fun a => by fin_cases a <;> rfl

/-- An entry of the normalised rows of a block: the entry over its row's root mean square, times the weight. -/
def nrm {n : ℕ} (x : (⟨2, ![n, 2048]⟩ : Shape).Idx → EReal) (g : Vec Ideal S1x2048 .f32) (r : Fin n) (l : Fin 2048) : EReal :=
  x (ix2 r l) * Ideal.rsqrt (Ideal.div (∑ k : Fin 2048, x (ix2 r k) * x (ix2 r k)) (Ideal.ofBits .f32 0x45000000#32)
    + Ideal.ofBits .f32 0x358637BD#32) * g (ix2 0 l)

theorem pay1_at (x : Vec Ideal S256x2048 .f32) (g : Vec Ideal S1x2048 .f32) (y : S256x2048.Idx) :
    k0_pay1 x g y = nrm x g (y 0) (y 1) := by
  unfold nrm
  pointwise [k0_pay1]

/-- Where trip `k` starts. -/
theorem off1 : ∀ k : Fin k0_t1_loop.trips, k0_off1 k = ![256 * k.val, 0] :=
  (by decide +kernel : ∀ k : Fin k0_t1_loop.trips, _)

theorem idx_whole (j : S1024x2048.Idx) : (Rect.unit (s := S1024x2048) ![0, 0] S1024x2048.size inb_S1024x2048_S1024x2048_0_0).idx j = j := by
  funext a
  apply Fin.ext
  match a with
  | ⟨0, _⟩ => show 0 + 1 * (j 0).val = (j 0).val; omega
  | ⟨1, _⟩ => show 0 + 1 * (j 1).val = (j 1).val; omega

theorem trips4 : k0_t1_loop.trips = 4 := by decide +kernel

/-- The pieces of the trips restrict the normalised rows of the whole block. -/
theorem trip_at (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S1024x512 .f32) (h6 : a6.IsWhole) (a7 : Memref sig .tc .vmem S1024x128 .f32) (h7 : a7.IsWhole) (a8 : Memref sig .tc .vmem S1024x2048 .bf16) (h8 : a8.IsWhole) (hc0 : cond0_0 i) (x0 : Vec Ideal S1024x2048 .f32) (x1 : Vec Ideal S1x2048 .f32) (k : Fin k0_t1_loop.trips) :
    ∀ pc ∈ tripL_k0_t1 Variants.none c none i a2 h2 a3 h3 a4 h4 a5 h5 a6 h6 a7 h7 a8 h8 hc0 (h2.unread x0) (h3.unread x1) k,
      ∀ x, pc.2 x = nrm x0 x1 (pc.1.idx x 0) (pc.1.idx x 1) := by
  have e : tripL_k0_t1 Variants.none c none i a2 h2 a3 h3 a4 h4 a5 h5 a6 h6 a7 h7 a8 h8 hc0 (h2.unread x0) (h3.unread x1) k
      = [⟨Rect.unit (s := S1024x2048) (k0_off1 k) S256x2048.size (k0_off1_inb i k hc0),
          k0_pay1 (View.readAt (Elt Ideal) a2.view (Rect.unit (s := S1024x2048) (k0_off1 k) S256x2048.size (k0_off1_inb i k hc0)).toLoadRect (h2.unread x0))
            (View.readAt (Elt Ideal) a3.view (Rect.unit (s := S1x2048) ![0, 0] S1x2048.size inb_S1x2048_S1x2048_0_0).toLoadRect (h3.unread x1))⟩] := by
    unfold tripL_k0_t1 trip_k0_t1
    rfl
  rw [e]
  intro pc hpc x
  obtain rfl := List.mem_singleton.mp hpc
  simp only [View.readAt_eq_ld, h2.read_unread, h3.read_unread, View.ld_unit_zero (S := S1x2048) hz]
  rw [pay1_at]
  have h0 : ∀ y : S256x2048.Idx, View.ld x0 (Rect.unit (s := S1024x2048) (k0_off1 k) S256x2048.size (k0_off1_inb i k hc0)) y
      = x0 ((Rect.unit (s := S1024x2048) (k0_off1 k) S256x2048.size (k0_off1_inb i k hc0)).idx y) := fun y => rfl
  have hk : k.val < 4 := lt_of_lt_of_eq k.isLt trips4
  have hi : ∀ y : S256x2048.Idx, (Rect.unit (s := S1024x2048) (k0_off1 k) S256x2048.size (k0_off1_inb i k hc0)).idx y
      = ix2 ⟨256 * k.val + (y 0).val, by have h : (y 0).val < 256 := (y 0).isLt; omega⟩ (y 1) := fun y => by
    funext a
    apply Fin.ext
    match a with
    | ⟨0, _⟩ => show k0_off1 k 0 + 1 * (y 0).val = 256 * k.val + (y 0).val; rw [off1]; show 256 * k.val + 1 * (y 0).val = _; omega
    | ⟨1, _⟩ => show k0_off1 k 1 + 1 * (y 1).val = (y 1).val; rw [off1]; show 0 + 1 * (y 1).val = _; omega
  have e0 : nrm (View.ld x0 (Rect.unit (s := S1024x2048) (k0_off1 k) S256x2048.size (k0_off1_inb i k hc0))) x1 (x 0) (x 1)
      = nrm x0 x1 ⟨256 * k.val + (x 0).val, by have h : (x 0).val < 256 := (x 0).isLt; omega⟩ (x 1) := by
    unfold nrm
    simp only [h0, hi]
    rfl
  refine e0.trans ?_
  have e1 := hi x
  show _ = nrm x0 x1 ((Rect.unit (s := S1024x2048) (k0_off1 k) S256x2048.size (k0_off1_inb i k hc0)).idx x 0) ((Rect.unit (s := S1024x2048) (k0_off1 k) S256x2048.size (k0_off1_inb i k hc0)).idx x 1)
  rw [hi x]
  rfl

theorem pb_at (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S1024x512 .f32) (h6 : a6.IsWhole) (a7 : Memref sig .tc .vmem S1024x128 .f32) (h7 : a7.IsWhole) (a8 : Memref sig .tc .vmem S1024x2048 .bf16) (h8 : a8.IsWhole) (hc0 : cond0_0 i) (x0 : Vec Ideal S1024x2048 .f32) (x1 : Vec Ideal S1x2048 .f32) : ∀ n ≤ k0_t1_loop.trips,
    ∀ pc ∈ pb_k0_t1 Variants.none c none i a2 h2 a3 h3 a4 h4 a5 h5 a6 h6 a7 h7 a8 h8 hc0 (h2.unread x0) (h3.unread x1) n,
      ∀ x, pc.2 x = nrm x0 x1 (pc.1.idx x 0) (pc.1.idx x 1)
  | 0, _ => fun pc hpc => absurd hpc List.not_mem_nil
  | n + 1, hn => fun pc hpc => by
    rw [pb_k0_t1_succ (F := Ideal) Variants.none c none i a2 h2 a3 h3 a4 h4 a5 h5 a6 h6 a7 h7 a8 h8 hc0 (h2.unread x0) (h3.unread x1) ⟨n, hn⟩] at hpc
    rcases List.mem_append.mp hpc with hpc | hpc
    · exact trip_at c i a2 h2 a3 h3 a4 h4 a5 h5 a6 h6 a7 h7 a8 h8 hc0 x0 x1 ⟨n, hn⟩ pc hpc
    · exact pb_at c i a2 h2 a3 h3 a4 h4 a5 h5 a6 h6 a7 h7 a8 h8 hc0 x0 x1 n (Nat.le_of_succ_le hn) pc hpc

/-- A row block's first point leaves the block's normalised rows in the scratch. -/
theorem sout_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S1024x512 .f32) (h6 : a6.IsWhole) (a7 : Memref sig .tc .vmem S1024x128 .f32) (h7 : a7.IsWhole) (a8 : Memref sig .tc .vmem S1024x2048 .bf16) (h8 : a8.IsWhole) (hc0 : cond0_0 i)
    (x0 : Vec Ideal S1024x2048 .f32) (x1 : Vec Ideal S1x2048 .f32) (x2 : Vec Ideal S2048x512 .bf16) (x3 : Vec Ideal S2048x128 .bf16) :
    sout0_A_0 (F := Ideal) c i a2 h2 a3 h3 a4 h4 a5 h5 a6 h6 a7 h7 a8 h8 hc0 x0 x1 x2 x3 = fun y => nrm x0 x1 (y 0) (y 1) := by
  unfold sout0_A_0
  rw [View.read_writes_eq_canon _ _ _ (scover0_A_0 c i a2 h2 a3 h3 a4 h4 a5 h5 a6 h6 a7 h7 a8 h8 hc0 x0 x1 x2 x3)]
  funext y
  refine View.canon_apply_of_pieces (fun y => nrm x0 x1 (y 0) (y 1)) _ ?_ y (scover0_A_0 c i a2 h2 a3 h3 a4 h4 a5 h5 a6 h6 a7 h7 a8 h8 hc0 x0 x1 x2 x3 y)
  unfold kernelRun0_A
  dsimp only
  sl_unfold_words
  exact pb_at c i a2 h2 a3 h3 a4 h4 a5 h5 a6 h6 a7 h7 a8 h8 hc0 x0 x1 _ (le_of_eq rfl)

/-- … and the products of those rows with the two weight blocks. -/
theorem out_A_4 (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S1024x512 .f32) (h6 : a6.IsWhole) (a7 : Memref sig .tc .vmem S1024x128 .f32) (h7 : a7.IsWhole) (a8 : Memref sig .tc .vmem S1024x2048 .bf16) (h8 : a8.IsWhole) (hc0 : cond0_0 i)
    (x0 : Vec Ideal S1024x2048 .f32) (x1 : Vec Ideal S1x2048 .f32) (x2 : Vec Ideal S2048x512 .bf16) (x3 : Vec Ideal S2048x128 .bf16) :
    out0_A_4 (F := Ideal) c i a2 h2 a3 h3 a4 h4 a5 h5 a6 h6 a7 h7 a8 h8 hc0 x0 x1 x2 x3 = k0_pay3 (fun y => nrm x0 x1 (y 0) (y 1)) x2 := by
  have hs := sout_A c i a2 h2 a3 h3 a4 h4 a5 h5 a6 h6 a7 h7 a8 h8 hc0 x0 x1 x2 x3
  unfold sout0_A_0 at hs
  rw [View.read_writes_eq_canon _ _ _ (scover0_A_0 c i a2 h2 a3 h3 a4 h4 a5 h5 a6 h6 a7 h7 a8 h8 hc0 x0 x1 x2 x3)] at hs
  rw [← hs]
  unfold out0_A_4
  rw [View.read_writes_eq_canon _ _ _ (cover0_A_4 c i a2 h2 a3 h3 a4 h4 a5 h5 a6 h6 a7 h7 a8 h8 hc0 x0 x1 x2 x3)]
  unfold kernelRun0_A
  dsimp only
  sl_unfold_words
  rw [View.canon_unit_zero hz]
  simp only [View.readCov_eq_canon', View.readAt_eq_ld, h4.read_unread, View.ld_unit_zero (S := S2048x512) hz, View.ld_unit_zero (S := S1024x2048) hz]
  exact congrArg (fun z => k0_pay3 z x2) (funext fun j => congrArg (View.canon _) (idx_whole j))

theorem out_A_5 (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S1024x512 .f32) (h6 : a6.IsWhole) (a7 : Memref sig .tc .vmem S1024x128 .f32) (h7 : a7.IsWhole) (a8 : Memref sig .tc .vmem S1024x2048 .bf16) (h8 : a8.IsWhole) (hc0 : cond0_0 i)
    (x0 : Vec Ideal S1024x2048 .f32) (x1 : Vec Ideal S1x2048 .f32) (x2 : Vec Ideal S2048x512 .bf16) (x3 : Vec Ideal S2048x128 .bf16) :
    out0_A_5 (F := Ideal) c i a2 h2 a3 h3 a4 h4 a5 h5 a6 h6 a7 h7 a8 h8 hc0 x0 x1 x2 x3 = k0_pay2 (fun y => nrm x0 x1 (y 0) (y 1)) x3 := by
  have hs := sout_A c i a2 h2 a3 h3 a4 h4 a5 h5 a6 h6 a7 h7 a8 h8 hc0 x0 x1 x2 x3
  unfold sout0_A_0 at hs
  rw [View.read_writes_eq_canon _ _ _ (scover0_A_0 c i a2 h2 a3 h3 a4 h4 a5 h5 a6 h6 a7 h7 a8 h8 hc0 x0 x1 x2 x3)] at hs
  rw [← hs]
  unfold out0_A_5
  rw [View.read_writes_eq_canon _ _ _ (cover0_A_5 c i a2 h2 a3 h3 a4 h4 a5 h5 a6 h6 a7 h7 a8 h8 hc0 x0 x1 x2 x3)]
  unfold kernelRun0_A
  dsimp only
  sl_unfold_words
  rw [View.canon_unit_zero hz]
  simp only [View.readCov_eq_canon', View.readAt_eq_ld, h5.read_unread, View.ld_unit_zero (S := S2048x128) hz, View.ld_unit_zero (S := S1024x2048) hz]
  exact congrArg (fun z => k0_pay2 z x3) (funext fun j => congrArg (View.canon _) (idx_whole j))

/-- At a row block's other points, the product over the rows the scratch holds, which stay. -/
theorem out_B_4 (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S1024x512 .f32) (h6 : a6.IsWhole) (a7 : Memref sig .tc .vmem S1024x128 .f32) (h7 : a7.IsWhole) (a8 : Memref sig .tc .vmem S1024x2048 .bf16) (h8 : a8.IsWhole) (hc0 : ¬cond0_0 i)
    (x0 : Vec Ideal S1024x2048 .f32) (x1 : Vec Ideal S1x2048 .f32) (x2 : Vec Ideal S2048x512 .bf16) (x3 : Vec Ideal S2048x128 .bf16) (xo5 : Vec Ideal S1024x128 .f32) (xs0 : Vec Ideal S1024x2048 .bf16) :
    out0_B_4 (F := Ideal) c i a2 h2 a3 h3 a4 h4 a5 h5 a6 h6 a7 h7 a8 h8 hc0 x0 x1 x2 x3 xo5 xs0 = k0_pay3 xs0 x2 := by
  unfold out0_B_4
  rw [View.read_writes_eq_canon _ _ _ (cover0_B_4 c i a2 h2 a3 h3 a4 h4 a5 h5 a6 h6 a7 h7 a8 h8 hc0 x0 x1 x2 x3 xo5 xs0)]
  unfold kernelRun0_B
  dsimp only
  sl_unfold_words
  rw [View.canon_unit_zero hz]
  simp only [View.readAt_eq_ld, h8.read_unread, h4.read_unread, View.ld_unit_zero (S := S2048x512) hz, View.ld_unit_zero (S := S1024x2048) hz]

theorem sout_B (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S1024x512 .f32) (h6 : a6.IsWhole) (a7 : Memref sig .tc .vmem S1024x128 .f32) (h7 : a7.IsWhole) (a8 : Memref sig .tc .vmem S1024x2048 .bf16) (h8 : a8.IsWhole) (hc0 : ¬cond0_0 i)
    (x0 : Vec Ideal S1024x2048 .f32) (x1 : Vec Ideal S1x2048 .f32) (x2 : Vec Ideal S2048x512 .bf16) (x3 : Vec Ideal S2048x128 .bf16) (xo5 : Vec Ideal S1024x128 .f32) (xs0 : Vec Ideal S1024x2048 .bf16) :
    sout0_B_0 (F := Ideal) c i a2 h2 a3 h3 a4 h4 a5 h5 a6 h6 a7 h7 a8 h8 hc0 x0 x1 x2 x3 xo5 xs0 = xs0 := by
  rfl

end Cert.ProjKIdeal.Val

end
-- ==== Proof.Proj.Arrays.lean ====
/- The arrays the projection's host code prepares, entry by entry, and the reference's, over the layer's arguments. -/
module

public import proofs.«01_k».proof.Proof.Proj.Pieces
public import proofs.«01_k».proof.Proof.Gen.ProjRIdeal.Run
public import proofs.«01_k».proof.Proof.Gen.ProjRIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjKIdeal.Val

open Cert.ProjKIdeal Cert.ProjKIdeal.Gen
open Cert.ProjRIdeal.Read (val_main_v0 val_main_v11 val_main_v14 val_main_v15 val_main_v16 val_main_v26 val_main_v28)

variable (m : (ℓ : Loc nD τ sig) → Buf (Elt Ideal) ℓ)

abbrev X (c : Dev nD) : FVec Ideal S4x4096x2048 .f32 := m ((c : Thread nD τ).loc main_arg0)
abbrev W (c : Dev nD) : FVec Ideal S1x2048x9744 .f32 := m ((c : Thread nD τ).loc main_arg1)
abbrev G (c : Dev nD) : FVec Ideal S1x2048 .f32 := m ((c : Thread nD τ).loc main_arg2)

/-- Where column `j` of the kernel's order of the projections lies in the weights' own order. -/
def colm (j : Fin 9728) : Fin 9744 :=
  if h : j.val < 4096 then ⟨j.val + 5648, by omega⟩ else if h : j.val < 7168 then ⟨j.val - 4096, by omega⟩ else ⟨j.val - 4080, by omega⟩

theorem colm_val (j : Fin 9728) : (colm j).val = if j.val < 4096 then j.val + 5648 else if j.val < 7168 then j.val - 4096 else j.val - 4080 := by
  unfold colm
  split_ifs <;> rfl

theorem col_congr {α : Type} {n : ℕ} (w : (⟨2, ![n, 9744]⟩ : Shape).Idx → α) (k : Fin n) {a b : Fin 9744} (h : a.val = b.val) : w (ix2 k a) = w (ix2 k b) :=
  congrArg (fun z => w (ix2 k z)) (Fin.ext h)

theorem ix2_one {n m : ℕ} (a : Fin n) (b : Fin m) : ix2 a b 1 = b := rfl

theorem idx_congr {α : Type} {n : ℕ} (w : (⟨2, ![n, 9744]⟩ : Shape).Idx → α) (k : Fin n) {b : Fin 9744} (i : (⟨2, ![n, 9744]⟩ : Shape).Idx)
    (h0 : (i 0).val = k.val) (h : (i 1).val = b.val) : w i = w (ix2 k b) :=
  congrArg w (funext fun a => Fin.ext (match a with | ⟨0, _⟩ => h0 | ⟨1, _⟩ => h))

theorem V_x (c : Dev nD) : V m c main_v17 = val_main_v0 (F := Ideal) (X m c) := by
  simp only [V, V0, List.flatten_cons, List.flatten_nil, List.append_nil]
  after_results
  rfl

theorem V_g (c : Dev nD) (l : Fin 2048) : (V m c main_v16 : Vec Ideal S1x2048 .f32) (ix2 0 l) = G m c (ix2 0 l) := by
  have e : (V m c main_v16 : Vec Ideal S1x2048 .f32) = Cert.ProjRIdeal.Read.val_main_v12 (F := Ideal) (G m c) := by
    simp only [V, V0, List.flatten_cons, List.flatten_nil, List.append_nil]
    after_results
    rfl
  rw [e, Cert.ProjRIdeal.Read.val_main_v12_apply, Cert.ProjRIdeal.Read.val_main_v11_apply]
  congr 1
  funext a
  apply Fin.ext
  match a with
  | ⟨0, _⟩ => rfl
  | ⟨1, _⟩ => show l.val % 2048 = l.val; omega

theorem w_at (c : Dev nD) (k : Fin 2048) (j : Fin 9744) : val_main_v15 (F := Ideal) (W m c) (ix2 k j) = W m c (ix3 0 k j) := by
  rw [Cert.ProjRIdeal.Read.val_main_v15_apply]
  congr 1
  funext a
  apply Fin.ext
  match a with
  | ⟨0, _⟩ => rfl
  | ⟨1, _⟩ => show (k.val * 9744 + j.val) / 9744 % 2048 = k.val; omega
  | ⟨2, _⟩ => show (k.val * 9744 + j.val) % 9744 = j.val; omega

/-- The weight's columns in the kernel's order. -/
def cw (w : FVec Ideal S2048x9744 .f32) : FVec Ideal S2048x9728 .f32 :=
  concatenate S2048x9728 1 [⟨S2048x2048, extractStridedSlice S2048x2048 ![0, 5648] w slices_S2048x9744_S2048x2048_0_5648⟩, ⟨S2048x2048, extractStridedSlice S2048x2048 ![0, 7696] w slices_S2048x9744_S2048x2048_0_7696⟩, ⟨S2048x3072, extractStridedSlice S2048x3072 ![0, 0] w slices_S2048x9744_S2048x3072_0_0⟩, ⟨S2048x1024, extractStridedSlice S2048x1024 ![0, 3088] w slices_S2048x9744_S2048x1024_0_3088⟩, ⟨S2048x1024, extractStridedSlice S2048x1024 ![0, 4112] w slices_S2048x9744_S2048x1024_0_4112⟩, ⟨S2048x256, extractStridedSlice S2048x256 ![0, 5136] w slices_S2048x9744_S2048x256_0_5136⟩, ⟨S2048x256, extractStridedSlice S2048x256 ![0, 5392] w slices_S2048x9744_S2048x256_0_5392⟩]
    concatenates_S2048x2048_S2048x2048_S2048x3072_S2048x1024_S2048x1024_S2048x256_S2048x256_S2048x9728_d1

/-- The small weight: the two gates' columns, and zeros. -/
def cs (w : FVec Ideal S2048x9744 .f32) : FVec Ideal S2048x128 .f32 :=
  concatenate S2048x128 1 [⟨S2048x8, extractStridedSlice S2048x8 ![0, 3072] w slices_S2048x9744_S2048x8_0_3072⟩, ⟨S2048x8, extractStridedSlice S2048x8 ![0, 3080] w slices_S2048x9744_S2048x8_0_3080⟩, ⟨S2048x112, broadcastInDim S2048x112 ![] bcast_S_S2048x112 (constant S_ .f32 0x00000000#32)⟩] concatenates_S2048x8_S2048x8_S2048x112_S2048x128_d1

theorem cw_at (w : FVec Ideal S2048x9744 .f32) (k : Fin 2048) (j : Fin 9728) : cw w (ix2 k j) = w (ix2 k (colm j)) := by
  have hj := j.isLt
  unfold cw
  pointwise
  split_ifs <;> exact col_congr w k (by rw [colm_val]; dsimp only; split_ifs <;> omega)

theorem cs_at (w : FVec Ideal S2048x9744 .f32) (k : Fin 2048) (j : Fin 128) :
    cs w (ix2 k j) = if h : j.val < 16 then w (ix2 k ⟨3072 + j.val, by omega⟩) else 0 := by
  unfold cs
  pointwise
  by_cases h8 : j.val < 8
  · rw [dif_pos h8, dif_pos (by omega)]
  · rw [dif_neg h8]
    by_cases h16 : j.val - 8 < 8
    · rw [dif_pos h16, dif_pos (by omega)]
      exact col_congr w k (by dsimp only; omega)
    · rw [dif_neg h16, dif_neg (by omega)]

theorem V_w (c : Dev nD) (k : Fin 2048) (j : Fin 9728) :
    (V m c main_v9 : Vec Ideal S2048x9728 .bf16) (ix2 k j) = val_main_v15 (F := Ideal) (W m c) (ix2 k (colm j)) := by
  have e : (V m c main_v9 : Vec Ideal S2048x9728 .bf16) = truncf .bf16 (cw (val_main_v15 (F := Ideal) (W m c))) bitsLt_bf16_f32 := by
    simp only [V, V0, List.flatten_cons, List.flatten_nil, List.append_nil]
    after_results
    rfl
  rw [e, ← cw_at (val_main_v15 (F := Ideal) (W m c))]
  rfl

theorem V_s (c : Dev nD) (k : Fin 2048) (j : Fin 128) :
    (V m c main_v14 : Vec Ideal S2048x128 .bf16) (ix2 k j) = cs (val_main_v15 (F := Ideal) (W m c)) (ix2 k j) := by
  have e : (V m c main_v14 : Vec Ideal S2048x128 .bf16) = truncf .bf16 (cs (val_main_v15 (F := Ideal) (W m c))) bitsLt_bf16_f32 := by
    simp only [V, V0, List.flatten_cons, List.flatten_nil, List.append_nil]
    after_results
    rfl
  rw [e]
  rfl

theorem ref_main (c : Dev nD) (r : Fin 16384) (j : Fin 9728) :
    val_main_v26 (F := Ideal) (X m c) (W m c) (G m c) (ix2 r j) = val_main_v16 (F := Ideal) (X m c) (W m c) (G m c) (ix2 r (colm j)) := by
  have hj := j.isLt
  unfold val_main_v26
  pointwise
  split_ifs <;>
    simp only [Cert.ProjRIdeal.Read.val_main_v24_apply, Cert.ProjRIdeal.Read.val_main_v25_apply, Cert.ProjRIdeal.Read.val_main_v17_apply, Cert.ProjRIdeal.Read.val_main_v20_apply, Cert.ProjRIdeal.Read.val_main_v21_apply, Cert.ProjRIdeal.Read.val_main_v22_apply, Cert.ProjRIdeal.Read.val_main_v23_apply] <;>
    exact idx_congr _ r _ rfl (by rw [colm_val]; simp only [ix2_one]; split_ifs <;> omega)

theorem ref_small (c : Dev nD) (r : Fin 16384) (j : Fin 128) :
    val_main_v28 (F := Ideal) (X m c) (W m c) (G m c) (ix2 r j) = if h : j.val < 16 then val_main_v16 (F := Ideal) (X m c) (W m c) (G m c) (ix2 r ⟨3072 + j.val, by omega⟩) else 0 := by
  unfold val_main_v28
  pointwise
  by_cases h8 : j.val < 8
  · rw [dif_pos h8, dif_pos (by omega), Cert.ProjRIdeal.Read.val_main_v18_apply]
    exact idx_congr _ r _ rfl rfl
  · rw [dif_neg h8]
    by_cases h16 : j.val - 8 < 8
    · rw [dif_pos h16, dif_pos (by omega), Cert.ProjRIdeal.Read.val_main_v19_apply]
      exact idx_congr _ r _ rfl (by show 3080 + (j.val - 8) = 3072 + j.val; omega)
    · rw [dif_neg h16, dif_neg (by omega), Cert.ProjRIdeal.Read.val_main_v27_apply, Cert.ProjRIdeal.Read.val_main_cst_2_apply]
      pointwise

end Cert.ProjKIdeal.Val

end
-- ==== Proof.Proj.Value.lean ====
/- The value of the input projection: each entry of the kernel's two results is the reference's entry. -/
module

public import proofs.«01_k».proof.Proof.Proj.Arrays

@[expose] public section

set_option maxRecDepth 16384

noncomputable section

open Idealize.ShloMosaic Idealize.ShloMosaic.TcCoe Idealize.SL.Sem
open Idealize.ShloMosaic.Pipeline (Dat)

namespace Cert.ProjKIdeal.Val

open Cert.ProjKIdeal Cert.ProjKIdeal.Gen
open Cert.ProjRIdeal.Read (val_main_v0 val_main_v11 val_main_v14 val_main_v15 val_main_v16 val_main_v26 val_main_v28)

variable (m : (ℓ : Loc nD τ sig) → Buf (Elt Ideal) ℓ)

/-- Which block each window stages at point `t`. -/
theorem idx : ∀ t : Fin cfg0.N, win0_0.index t = ![t.val / 19, 0] ∧ win0_1.index t = ![0, 0]
    ∧ win0_2.index t = ![0, t.val % 19] ∧ win0_3.index t = ![0, 0] ∧ win0_4.index t = ![t.val / 19, t.val % 19]
    ∧ win0_5.index t = ![t.val / 19, 0] :=
  (by decide +kernel : ∀ t : Fin grid0.N, _)

theorem row_lt (n : ℕ) (hn : n < cfg0.N) (r : Fin 1024) : n / 19 * 1024 + r.val < 16384 := by
  have ht : n < 304 := hn
  have := r.isLt
  omega

theorem col_lt (t : Fin cfg0.N) (l : Fin 512) : t.val % 19 * 512 + l.val < 9728 := by
  have := l.isLt
  omega

theorem iblk0_at (c : Dev nD) (t : Fin cfg0.N) (y : S1024x2048.Idx) :
    (iblk m c 0 t : Vec Ideal S1024x2048 .f32) y = val_main_v0 (F := Ideal) (X m c) (ix2 ⟨t.val / 19 * 1024 + (y 0).val, row_lt _ t.isLt (y 0)⟩ (y 1)) := by
  rw [← V_x]
  blk_ext [iblk, idx t]

theorem iblk1_at (c : Dev nD) (t : Fin cfg0.N) (l : Fin 2048) :
    (iblk m c 1 t : Vec Ideal S1x2048 .f32) (ix2 0 l) = G m c (ix2 0 l) := by
  rw [← V_g]
  blk_ext [iblk, idx t]

theorem iblk2_at (c : Dev nD) (t : Fin cfg0.N) (k : Fin 2048) (l : Fin 512) :
    (iblk m c 2 t : Vec Ideal S2048x512 .bf16) (ix2 k l) = val_main_v15 (F := Ideal) (W m c) (ix2 k (colm ⟨t.val % 19 * 512 + l.val, col_lt t l⟩)) := by
  rw [← V_w]
  blk_ext [iblk, idx t]

theorem iblk3_at (c : Dev nD) (t : Fin cfg0.N) (k : Fin 2048) (l : Fin 128) :
    (iblk m c 3 t : Vec Ideal S2048x128 .bf16) (ix2 k l) = cs (val_main_v15 (F := Ideal) (W m c)) (ix2 k l) := by
  rw [← V_s]
  blk_ext [iblk, idx t]

/-- A block's normalised rows are the reference's. -/
theorem nrm_at (c : Dev nD) (t : Fin cfg0.N) (r : Fin 1024) (l : Fin 2048) :
    nrm (iblk m c 0 t) (iblk m c 1 t) r l = val_main_v14 (F := Ideal) (X m c) (G m c) (ix2 ⟨t.val / 19 * 1024 + r.val, row_lt _ t.isLt r⟩ l) := by
  unfold nrm
  simp only [iblk0_at, iblk1_at]
  unfold val_main_v14
  unfold Cert.ProjRIdeal.Read.val_main_v10 Cert.ProjRIdeal.Read.val_main_v9 Cert.ProjRIdeal.Read.val_main_v8 Cert.ProjRIdeal.Read.val_main_v7 Cert.ProjRIdeal.Read.val_main_v6 Cert.ProjRIdeal.Read.val_main_v5 Cert.ProjRIdeal.Read.val_main_v4 Cert.ProjRIdeal.Read.val_main_v3 Cert.ProjRIdeal.Read.val_main_v2 Cert.ProjRIdeal.Read.val_main_v1 Cert.ProjRIdeal.Read.val_main_v13 Cert.ProjRIdeal.Read.val_main_v12 Cert.ProjRIdeal.Read.val_main_v11 Cert.ProjRIdeal.Read.val_main_cst Cert.ProjRIdeal.Read.val_main_cst_0 Cert.ProjRIdeal.Read.val_main_cst_1
  pointwise

theorem idx2_eq {a b : ℕ} (y : (⟨2, ![a, b]⟩ : Shape).Idx) : y = ix2 (y 0) (y 1) :=
  funext fun i => match i with
  | ⟨0, _⟩ => rfl
  | ⟨1, _⟩ => rfl

/-- The normalised rows of the row block that point `n` works on. -/
def rows (m : (ℓ : Loc nD τ sig) → Buf (Elt Ideal) ℓ) (c : Dev nD) (n : ℕ) (hn : n < cfg0.N) : Vec Ideal S1024x2048 .bf16 := fun y =>
  val_main_v14 (F := Ideal) (X m c) (G m c) (ix2 ⟨n / 19 * 1024 + (y 0).val, row_lt n hn (y 0)⟩ (y 1))

theorem rows_nrm (c : Dev nD) (t : Fin cfg0.N) :
    (fun y => nrm (iblk m c 0 t) (iblk m c 1 t) (y 0) (y 1) : Vec Ideal S1024x2048 .bf16) = rows m c t.val t.isLt :=
  funext fun y => nrm_at m c t (y 0) (y 1)

theorem rows_congr (c : Dev nD) (n n' : ℕ) (hn : n < cfg0.N) (hn' : n' < cfg0.N) (h : n / 19 = n' / 19) : rows m c n hn = rows m c n' hn' := by
  funext y
  unfold rows
  refine congrArg (val_main_v14 (F := Ideal) (X m c) (G m c)) (congrArg (fun z => ix2 z (y 1)) (Fin.ext ?_))
  show n / 19 * 1024 + (y 0).val = n' / 19 * 1024 + (y 0).val
  rw [h]

theorem scr_A (c : Dev nD) (t : Fin cfg0.N) (h0 : t.val % 19 = 0) : (outsAt0 m c t.val t.isLt).2.2 = rows m c t.val t.isLt :=
  ((congrArg (fun p => p.2.2) (outsAt0_A m c t h0)).trans (sout_A c _ _ _ _ _ _ _ _ _ _ _ _ _ _ _ _ _ _ _ _)).trans (rows_nrm m c t)

/-- After any point the scratch holds its row block's normalised rows. -/
theorem scr (c : Dev nD) : ∀ (n : ℕ) (hn : n < cfg0.N), (outsAt0 m c n hn).2.2 = rows m c n hn := by
  intro n
  induction n with
  | zero => exact fun hn => scr_A m c ⟨0, hn⟩ (Nat.zero_mod _)
  | succ n ih =>
    intro hn
    by_cases h0 : (n + 1) % 19 = 0
    · exact scr_A m c ⟨n + 1, hn⟩ h0
    · refine (congrArg (fun p => p.2.2) (outsAt0_B m c ⟨n + 1, hn⟩ h0)).trans ?_
      refine Eq.trans (b := (outsAt0 m c n (Nat.lt_of_succ_lt hn)).2.2) rfl ?_
      exact (ih (Nat.lt_of_succ_lt hn)).trans (rows_congr m c _ _ _ _ (by omega))

/-- What each point leaves in the main output's buffer. -/
theorem main_at (c : Dev nD) (t : Fin cfg0.N) : (outsAt0 m c t.val t.isLt).1 = k0_pay3 (F := Ideal) (rows m c t.val t.isLt) (iblk m c 2 t) := by
  by_cases h0 : t.val % 19 = 0
  · refine (congrArg (fun p => p.1) (outsAt0_A m c t h0)).trans ((out_A_4 (x3 := iblk m c 3 t) c _ _ _ _ _ _ _ _ _ _ _ _ _ _ _ _ _ _ _).trans ?_)
    rw [rows_nrm m c t]
  · rw [outsAt0_B m c t h0]
    dsimp only
    rw [out_B_4, scr m c (t.val - 1) _, rows_congr m c (t.val - 1) t.val _ t.isLt (by omega)]

theorem small_A (c : Dev nD) (t : Fin cfg0.N) (h0 : t.val % 19 = 0) : (outsAt0 m c t.val t.isLt).2.1
    = k0_pay2 (F := Ideal) (rows m c t.val t.isLt) (cs (val_main_v15 (F := Ideal) (W m c))) := by
  refine (congrArg (fun p => p.2.1) (outsAt0_A m c t h0)).trans ((out_A_5 (x2 := iblk m c 2 t) c _ _ _ _ _ _ _ _ _ _ _ _ _ _ _ _ _ _ _).trans ?_)
  rw [rows_nrm m c t]
  have e : (iblk m c 3 t : Vec Ideal S2048x128 .bf16) = cs (val_main_v15 (F := Ideal) (W m c)) := by
    funext y
    obtain ⟨k, l, rfl⟩ : ∃ k l, y = ix2 k l := ⟨y 0, y 1, idx2_eq y⟩
    exact iblk3_at m c t k l
  rw [e]

/-- What the small output's buffer holds after any point of a row block. -/
theorem small_at (c : Dev nD) : ∀ (n : ℕ) (hn : n < cfg0.N), (outsAt0 m c n hn).2.1
    = k0_pay2 (F := Ideal) (rows m c n hn) (cs (val_main_v15 (F := Ideal) (W m c))) := by
  intro n
  induction n with
  | zero => exact fun hn => small_A m c ⟨0, hn⟩ (Nat.zero_mod _)
  | succ n ih =>
    intro hn
    by_cases h0 : (n + 1) % 19 = 0
    · exact small_A m c ⟨n + 1, hn⟩ h0
    · refine (congrArg (fun p => p.2.1) (outsAt0_B m c ⟨n + 1, hn⟩ h0)).trans ?_
      refine Eq.trans (b := (outsAt0 m c n (Nat.lt_of_succ_lt hn)).2.1) rfl ?_
      rw [ih (Nat.lt_of_succ_lt hn), rows_congr m c n (n + 1) _ hn (by omega)]

theorem dot_at (c : Dev nD) (r : Fin 16384) (j : Fin 9744) : val_main_v16 (F := Ideal) (X m c) (W m c) (G m c) (ix2 r j)
    = ∑ k : Fin 2048, val_main_v14 (F := Ideal) (X m c) (G m c) (ix2 r k) * val_main_v15 (F := Ideal) (W m c) (ix2 k j) := by
  rw [Cert.ProjRIdeal.Read.val_main_v16_apply]
  refine Finset.sum_congr rfl fun k _ => ?_
  congr 2
  · funext a
    apply Fin.ext
    match a with
    | ⟨0, _⟩ => rfl
    | ⟨1, _⟩ => rfl
  · funext a
    apply Fin.ext
    match a with
    | ⟨0, _⟩ => rfl
    | ⟨1, _⟩ => rfl

/-- One element of the main output. -/
theorem main_elt (c : Dev nD) (t : Fin cfg0.N) (r : Fin 1024) (l : Fin 512) :
    k0_pay3 (F := Ideal) (rows m c t.val t.isLt) (iblk m c 2 t) (ix2 r l)
      = val_main_v26 (F := Ideal) (X m c) (W m c) (G m c) (ix2 ⟨t.val / 19 * 1024 + r.val, row_lt _ t.isLt r⟩ ⟨t.val % 19 * 512 + l.val, col_lt t l⟩) := by
  rw [ref_main, dot_at]
  pointwise [k0_pay3]
  exact Finset.sum_congr rfl fun k _ => congrArg₂ (· * ·) rfl (iblk2_at m c t k l)

/-- One element of the small output. -/
theorem small_elt (c : Dev nD) (n : ℕ) (hn : n < cfg0.N) (r : Fin 1024) (l : Fin 128) :
    k0_pay2 (F := Ideal) (rows m c n hn) (cs (val_main_v15 (F := Ideal) (W m c))) (ix2 r l)
      = val_main_v28 (F := Ideal) (X m c) (W m c) (G m c) (ix2 ⟨n / 19 * 1024 + r.val, row_lt n hn r⟩ l) := by
  rw [ref_small]
  have e : k0_pay2 (F := Ideal) (rows m c n hn) (cs (val_main_v15 (F := Ideal) (W m c))) (ix2 r l)
      = ∑ k : Fin 2048, rows m c n hn (ix2 r k) * cs (val_main_v15 (F := Ideal) (W m c)) (ix2 k l) := by
    pointwise [k0_pay2]
  rw [e]
  by_cases h : l.val < 16
  · rw [dif_pos h, dot_at]
    refine Finset.sum_congr rfl fun k _ => ?_
    rw [cs_at, dif_pos h]
    rfl
  · rw [dif_neg h]
    refine Finset.sum_eq_zero fun k _ => ?_
    rw [cs_at, dif_neg h, mul_zero]

theorem final4 (c : Dev nD) : (dats m 0 c).arrAt 4 cfg0.N = val_main_v26 (F := Ideal) (X m c) (W m c) (G m c) := by
  refine (dats m 0 c).arrAt_eq_of_covers 4 _ (by decide +kernel) fun t _ y => ?_
  blk_simp
  rw [after0_4, main_at]
  obtain ⟨r, l, rfl⟩ : ∃ (r : Fin 1024) (l : Fin 512), y = ix2 r l := ⟨y 0, y 1, idx2_eq y⟩
  refine (main_elt m c t r l).trans (congrArg (val_main_v26 (F := Ideal) (X m c) (W m c) (G m c)) ?_)
  blk_point [idx t]

theorem final5 (c : Dev nD) : (dats m 0 c).arrAt 5 cfg0.N = val_main_v28 (F := Ideal) (X m c) (W m c) (G m c) := by
  refine (dats m 0 c).arrAt_eq_of_covers 5 _ (by decide +kernel) fun t _ y => ?_
  blk_simp
  rw [after0_5, small_at]
  obtain ⟨r, l, rfl⟩ : ∃ (r : Fin 1024) (l : Fin 128), y = ix2 r l := ⟨y 0, y 1, idx2_eq y⟩
  refine (small_elt m c t.val t.isLt r l).trans (congrArg (val_main_v28 (F := Ideal) (X m c) (W m c) (G m c)) ?_)
  blk_point [idx t]

end Cert.ProjKIdeal.Val

end
-- ==== Proof.Proj.Tail.lean ====
/- The rolling state of the convolution: the last three rows of each prompt, in the projection's first branch. -/
module

public import proofs.«01_k».proof.Proof.Proj.Value

@[expose] public section

set_option maxRecDepth 16384

noncomputable section

open Idealize.ShloMosaic Idealize.ShloMosaic.TcCoe Idealize.SL.Sem
open Idealize.ShloMosaic.Pipeline (Dat)

namespace Cert.ProjKIdeal.Val

open Cert.ProjKIdeal Cert.ProjKIdeal.Gen
open Cert.ProjRIdeal.Read (val_main_v0 val_main_v11 val_main_v14 val_main_v15 val_main_v16 val_main_v17 val_main_v26 val_main_v28 val_main_v29 val_main_v30 val_main_v31)

variable (m : (ℓ : Loc nD τ sig) → Buf (Elt Ideal) ℓ)

/-- The branch's columns of the kernel's order are the reference's branch. -/
theorem branch (c : Dev nD) (r : Fin 16384) (j : Fin 3072) :
    val_main_v26 (F := Ideal) (X m c) (W m c) (G m c) (ix2 r ⟨4096 + j.val, by omega⟩) = val_main_v17 (F := Ideal) (X m c) (W m c) (G m c) (ix2 r j) := by
  rw [ref_main, Cert.ProjRIdeal.Read.val_main_v17_apply]
  exact (idx_congr _ r _ rfl (by rw [colm_val]; simp only [ix2_one]; split_ifs <;> (try dsimp only) <;> (try simp only [Cert.ProjRIdeal.Read.idx_main_v17]) <;> (try show _ = _) <;> omega)).symm

abbrev cutIdx (i : S4x3x3072.Idx) : S4x4096x9728.Idx := fun a => match a with
  | ⟨0, _⟩ => ⟨(i 0).val, (i 0).isLt⟩
  | ⟨1, _⟩ => ⟨4093 + (i 1).val, by have h1 : (i 1).val < 3 := (i 1).isLt; show 4093 + (i 1).val < 4096; omega⟩
  | ⟨2, _⟩ => ⟨4096 + (i 2).val, by have h1 : (i 2).val < 3072 := (i 2).isLt; show 4096 + (i 2).val < 9728; omega⟩

theorem cut_at (A : FVec Ideal S4x4096x9728 .f32) (i : S4x3x3072.Idx) :
    extractStridedSlice S4x3x3072 ![0, 4093, 4096] A slices_S4x4096x9728_S4x3x3072_0_4093_4096 i = A (cutIdx i) :=
  extractStridedSlice_apply ![0, 4093, 4096] A slices_S4x4096x9728_S4x3x3072_0_4093_4096 i (cutIdx i) (fun a => match a with
    | ⟨0, _⟩ => by show (i 0).val = 0 + (i 0).val; omega
    | ⟨1, _⟩ => by show 4093 + (i 1).val = 4093 + (i 1).val; omega
    | ⟨2, _⟩ => by show 4096 + (i 2).val = 4096 + (i 2).val; omega)

theorem fold_at (A : FVec Ideal S16384x9728 .f32) (b : Fin 4) (r : Fin 4096) (j : Fin 9728) (q : Fin 16384) (hq : q.val = b.val * 4096 + r.val) :
    shapeCast S4x4096x9728 A shapeCasts_S16384x9728_S4x4096x9728 (ix3 b r j) = A (ix2 q j) :=
  shapeCast_apply A shapeCasts_S16384x9728_S4x4096x9728 (ix3 b r j) (ix2 q j)
    (by rewrite [Shape.rowMajor_val_two, Shape.rowMajor_val_three]; show q.val * 9728 + j.val = (b.val * 4096 + r.val) * 9728 + j.val; rw [hq])

theorem bc_at (A : FVec Ideal S4x3x3072 .f32) (i : S1x4x3x3072.Idx) :
    broadcastInDim S1x4x3x3072 ![1, 2, 3] bcast_S4x3x3072_S1x4x3x3072_1_2_3 A i = A (Cert.ProjRIdeal.Read.idx_main_v31 i) :=
  broadcastInDim_apply _ bcast_S4x3x3072_S1x4x3x3072_1_2_3 A i (Cert.ProjRIdeal.Read.idx_main_v31 i) (fun a => match a with
    | ⟨0, _⟩ => by show (i 1).val = if (4 : Nat) = 1 then 0 else (i 1).val; rw [if_neg (by decide)]
    | ⟨1, _⟩ => by show (i 2).val = if (3 : Nat) = 1 then 0 else (i 2).val; rw [if_neg (by decide)]
    | ⟨2, _⟩ => by show (i 3).val = if (3072 : Nat) = 1 then 0 else (i 3).val; rw [if_neg (by decide)])

theorem row_of (b : Fin 4) (d : Fin 3) : b.val * 4096 + (4093 + d.val) < 16384 := by omega

/-- The kernel's last lines, over the main output, give the reference's rolling state. -/
theorem conv (c : Dev nD) (A : FVec Ideal S16384x9728 .f32) (hA : A = val_main_v26 (F := Ideal) (X m c) (W m c) (G m c)) :
    broadcastInDim S1x4x3x3072 ![1, 2, 3] bcast_S4x3x3072_S1x4x3x3072_1_2_3 (extractStridedSlice S4x3x3072 ![0, 4093, 4096] (shapeCast S4x4096x9728 A shapeCasts_S16384x9728_S4x4096x9728) slices_S4x4096x9728_S4x3x3072_0_4093_4096)
      = val_main_v31 (F := Ideal) (X m c) (W m c) (G m c) := by
  funext i
  rw [bc_at, cut_at, Cert.ProjRIdeal.Read.val_main_v31_apply, Cert.ProjRIdeal.Read.val_main_v30_apply, Cert.ProjRIdeal.Read.val_main_v29_apply]
  generalize Cert.ProjRIdeal.Read.idx_main_v31 i = k
  obtain ⟨b, d, e, rfl⟩ : ∃ (b : Fin 4) (d : Fin 3) (e : Fin 3072), k = ix3 b d e := ⟨k 0, k 1, k 2, funext fun x => match x with | ⟨0, _⟩ => rfl | ⟨1, _⟩ => rfl | ⟨2, _⟩ => rfl⟩
  have e1 : cutIdx (ix3 b d e) = ix3 b ⟨4093 + d.val, by omega⟩ ⟨4096 + e.val, by omega⟩ := funext fun x => match x with | ⟨0, _⟩ => rfl | ⟨1, _⟩ => rfl | ⟨2, _⟩ => rfl
  have e2 : Cert.ProjRIdeal.Read.idx_main_v29 (Cert.ProjRIdeal.Read.idx_main_v30 (ix3 b d e)) = ix2 ⟨b.val * 4096 + (4093 + d.val), row_of b d⟩ e := funext fun x => Fin.ext (match x with
    | ⟨0, _⟩ => by show ((b.val * 4096 + (4093 + d.val)) * 3072 + e.val) / 3072 = b.val * 4096 + (4093 + d.val); omega
    | ⟨1, _⟩ => by show ((b.val * 4096 + (4093 + d.val)) * 3072 + e.val) % 3072 = e.val; omega)
  rw [e1, fold_at A b _ _ ⟨b.val * 4096 + (4093 + d.val), row_of b d⟩ rfl, e2, hA]
  exact branch m c _ e

/-- The result the kernel's last lines leave. -/
theorem tail_conv (c : Dev nD) : Pipeline.afterTail₀ cfgs (dats m) 0 (V0 m) [hostOps1] c main_v21
    = val_main_v31 (F := Ideal) (X m c) (W m c) (G m c) := by
  unfold Pipeline.afterTail₀
  simp only [hostOps1, List.flatten_cons, List.flatten_nil, List.append_nil, List.cons_append, List.nil_append]
  after_results
  exact conv m c _ ((Pipeline.withArrays_arr spec0 (by decide) c (V0 m c) _ 4).trans (final4 m c))

end Cert.ProjKIdeal.Val

end
-- ==== Proof.Proj.Claims.lean ====
/- The claims about the input projection. -/
module

public import proofs.«01_k».proof.Defs
public import proofs.«01_k».proof.Proof.Proj.Kernel.Exact
public import proofs.«01_k».proof.Proof.Proj.Exact
public import proofs.«01_k».proof.Proof.Gen.ProjRIdeal
public import proofs.«01_k».proof.Proof.Proj.Value
public import proofs.«01_k».proof.Proof.Proj.Tail
public import Idealize.ShloMosaic.Lib.Claim

@[expose] public section

set_option maxRecDepth 16384

noncomputable section

namespace Cert.ProjClaims

open Idealize.ShloMosaic Idealize.ShloMosaic.TcCoe Idealize.SL.Sem

/-- The kernel's frame. -/
theorem quiescent_kernel : Cert.quiescent_ProjK (hProjK := Cert.ProjK.Gen.facts) :=
  fun m g _ => Cert.ProjK.Gen.frame m g

/-- The frame of the kernel over the reals. -/
theorem quiescent_ideal : Cert.quiescent_ProjKIdeal (hProjKIdeal := Cert.ProjKIdeal.Gen.facts) :=
  fun m g _ => Cert.ProjKIdeal.Gen.frame m g

/-- The reference's frame. -/
theorem quiescent_reference : Cert.quiescent_ProjRIdeal (hProjRIdeal := Cert.ProjRIdeal.Gen.facts) := by
  intro m g _
  exact (θ_run Cert.ProjRIdeal.defs _ _).mono (fun r h => ⟨fun c => (h c).2.2.2, sem_eq_zero_of_no_sems (by decide) r.2⟩)
    (Cert.ProjRIdeal.Value.run (F := Ideal) m g)

/-- The kernel's three results are the reference's. -/
theorem algebraic : Cert.algebraic_ProjKIdeal_ProjRIdeal (hProjKIdeal := Cert.ProjKIdeal.Gen.facts)
    (hProjRIdeal := Cert.ProjRIdeal.Gen.facts) := by
  pair_intro
  · run_from Cert.ProjKIdeal.Gen.run_main m g
    · exact Cert.ProjKIdeal.Gen.W_main_arg0 m _ c
    · exact Cert.ProjKIdeal.Gen.W_main_arg1 m _ c
    · exact Cert.ProjKIdeal.Gen.W_main_arg2 m _ c
  · run_from Cert.ProjRIdeal.Value.run m' g'
    · refine (Cert.ProjRIdeal.Read.val_main_v26_eq (F := Ideal) m' c).trans ?_
      rw [(hagree c).1, (hagree c).2.1, (hagree c).2.2]
      exact (Cert.ProjKIdeal.Val.final4 m c).symm
    · refine (Cert.ProjRIdeal.Read.val_main_v28_eq (F := Ideal) _ _ _).trans ?_
      rw [(hagree c).2.2]
      exact (Cert.ProjKIdeal.Val.final5 m c).symm
    · refine (Cert.ProjRIdeal.Read.val_main_v31_eq (F := Ideal) _ _ _).trans ?_
      exact (Cert.ProjKIdeal.Val.tail_conv m c).symm

end Cert.ProjClaims

end
-- ==== Proof.ProjS.Cond.lean ====
/- The projection's branch condition over the grid points, and the buffers its body runs on. -/
module

public import proofs.«01_k».proof.Proof.Gen.ProjSKIdeal.Frame
public import proofs.«01_k».proof.Proof.Gen.ProjSKIdeal.Launch
public import proofs.«01_k».proof.Proof.Gen.ProjSKIdeal.Skeleton
public import proofs.«01_k».proof.Proof.Gen.ProjSKIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.ProjSKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the first point only — by arithmetic of the point. -/
theorem hcond0_0 : ∀ t : Fin cfg0.N, cond0_0 (grid0.coords t) ↔ t.val % 19 = 0 :=
  (fun t => by
    have ht : t.val < 19 := Nat.lt_of_lt_of_eq t.isLt N_0
    have e0 : (grid0.coords t 0).val = t.val / 19 % 1 := Pipeline.Grid.coords_val t 0 (by decide) rfl
    have e1 : (grid0.coords t 1).val = t.val / 1 % 19 := Pipeline.Grid.coords_val t 1 (by decide) rfl
    simp only [cond0_0, e0, e1]
    word_cmp
   : ∀ t : Fin grid0.N, cond0_0 (grid0.coords t) ↔ t.val % 19 = 0)

/-! ## The kernel body on any staging memrefs: a subtype the run finds -/

/-- One staging buffer of output window 4, through which its contents are stated (`View.read_writes_of_cover`: the
    choice does not matter). -/
abbrev VO0_4 : View sig .tc .vmem S528x512 .f32 := (Memref.whole cc0_stg4_0 : Memref sig .tc .vmem S528x512 .f32).view
/-- One staging buffer of output window 5, through which its contents are stated (`View.read_writes_of_cover`: the
    choice does not matter). -/
abbrev VO0_5 : View sig .tc .vmem S528x128 .f32 := (Memref.whole cc0_stg5_0 : Memref sig .tc .vmem S528x128 .f32).view
/-- Each window's current staging memref at point `t`, spelled as the pipeline passes it (`bodyAt0`), and its wholeness. -/
abbrev ms0_0 (t : Fin cfg0.N) : Memref sig .tc .vmem S528x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S528x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S528x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S528x2048 .bf16 := Memref.whole cc0_scratch0
/-- The scratch `arg8` the kernel carries between points, as a view: what it holds is stated through it. -/
abbrev VS0_0 : View sig .tc .vmem S528x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ProjSKIdeal.Gen

end
-- ==== Proof.ProjS.RunA.lean ====
/- One run of the projection's body at a row block's first point. -/
module

public import proofs.«01_k».proof.Proof.ProjS.Cond

@[expose] public section

set_option maxRecDepth 16384

noncomputable section

namespace Cert.ProjSKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : cond0_0 i)
    (x0 : Vec F S528x2048 .f32) (x1 : Vec F S1x2048 .f32) (x2 : Vec F S2048x512 .bf16) (x3 : Vec F S2048x128 .bf16) :
    Σ' (L4 : List (View.Piece (Elt F) S528x512 .f32)), Σ' (L5 : List (View.Piece (Elt F) S528x128 .f32)), { LS0 : List (View.Piece (Elt F) S528x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, ?_, ?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.ProjSKIdeal.Gen

end
-- ==== Proof.ProjS.RunB.lean ====
/- One run of the projection's body at the other points of a row block. -/
module

public import proofs.«01_k».proof.Proof.ProjS.RunA

@[expose] public section

set_option maxRecDepth 16384

noncomputable section

namespace Cert.ProjSKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 18: 18 of 19), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : ¬cond0_0 i)
    (x0 : Vec F S528x2048 .f32) (x1 : Vec F S1x2048 .f32) (x2 : Vec F S2048x512 .bf16) (x3 : Vec F S2048x128 .bf16) (xo5 : Vec F S528x128 .f32) (xs0 : Vec F S528x2048 .bf16) :
    Σ' (L4 : List (View.Piece (Elt F) S528x512 .f32)), { LS0 : List (View.Piece (Elt F) S528x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo5 ∗ owns (c : Thread nD τ) arg8 fullShare xs0) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, [], fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS0

end Cert.ProjSKIdeal.Gen

end
-- ==== Proof.ProjS.Exact.lean ====
/- What the projection's buffers hold after each grid point, and its run. -/
module

public import proofs.«01_k».proof.Proof.ProjS.RunB
public import Idealize.ShloMosaic.Lib.Claim

@[expose] public section

set_option maxRecDepth 16384

noncomputable section

namespace Cert.ProjSKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 4 tile its block (1 store of `S528x512`, checked by the kernel's evaluation: Lib/Ring.lean `Piece.tiledL`, linear in the pieces, through a loop's `@[irreducible]` trip theorem too), so they cover it. -/
theorem cover0_A_4 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : cond0_0 i)
    (x0 : Vec F S528x2048 .f32) (x1 : Vec F S1x2048 .f32) (x2 : Vec F S2048x512 .bf16) (x3 : Vec F S2048x128 .bf16) (y : S528x512.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S528x512.size (by sl_kernel_rfl) y

/-- What case A leaves in output 4's staging buffer: its pieces read back over junk. -/
def out0_A_4 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : cond0_0 i)
    (x0 : Vec F S528x2048 .f32) (x1 : Vec F S1x2048 .f32) (x2 : Vec F S2048x512 .bf16) (x3 : Vec F S2048x128 .bf16) : Vec F S528x512 .f32 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

/-- Case A's pieces for output 5 tile its block (1 store of `S528x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : cond0_0 i)
    (x0 : Vec F S528x2048 .f32) (x1 : Vec F S1x2048 .f32) (x2 : Vec F S2048x512 .bf16) (x3 : Vec F S2048x128 .bf16) (y : S528x128.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S528x128.size (by sl_kernel_rfl) y

/-- What case A leaves in output 5's staging buffer: its pieces read back over junk. -/
def out0_A_5 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : cond0_0 i)
    (x0 : Vec F S528x2048 .f32) (x1 : Vec F S1x2048 .f32) (x2 : Vec F S2048x512 .bf16) (x3 : Vec F S2048x128 .bf16) : Vec F S528x128 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

/-- Case A's pieces for scratch `arg8`, which the kernel carries between points, cover it: 1 piece of `S528x2048` tiling it (Lib/Ring.lean `Piece.tiledL`). -/
theorem scover0_A_0 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : cond0_0 i)
    (x0 : Vec F S528x2048 .f32) (x1 : Vec F S1x2048 .f32) (x2 : Vec F S2048x512 .bf16) (x3 : Vec F S2048x128 .bf16) (y : S528x2048.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S528x2048.size (by sl_kernel_rfl) y

/-- What case A leaves in scratch `arg8`: its pieces read back over junk. -/
def sout0_A_0 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : cond0_0 i)
    (x0 : Vec F S528x2048 .f32) (x1 : Vec F S1x2048 .f32) (x2 : Vec F S2048x512 .bf16) (x3 : Vec F S2048x128 .bf16) : Vec F S528x2048 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2 x3).2.2.1)

/-- Case B's pieces for output 4 tile its block (1 store of `S528x512`, checked by the kernel's evaluation: Lib/Ring.lean `Piece.tiledL`, linear in the pieces, through a loop's `@[irreducible]` trip theorem too), so they cover it. -/
theorem cover0_B_4 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : ¬cond0_0 i)
    (x0 : Vec F S528x2048 .f32) (x1 : Vec F S1x2048 .f32) (x2 : Vec F S2048x512 .bf16) (x3 : Vec F S2048x128 .bf16) (xo5 : Vec F S528x128 .f32) (xs0 : Vec F S528x2048 .bf16) (y : S528x512.Idx) :
    ∃ pc ∈ (kernelRun0_B c i arg2 harg2 arg3 harg3 arg4 harg4 arg5 harg5 arg6 harg6 arg7 harg7 arg8 harg8 hc0 x0 x1 x2 x3 xo5 xs0).1, y ∈ pc.1.set :=
  View.cover_of_tiledL (kernelRun0_B c i arg2 harg2 arg3 harg3 arg4 harg4 arg5 harg5 arg6 harg6 arg7 harg7 arg8 harg8 hc0 x0 x1 x2 x3 xo5 xs0).1 S528x512.size (by sl_kernel_rfl) y

/-- What case B leaves in output 4's staging buffer: its pieces read back over junk. -/
def out0_B_4 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : ¬cond0_0 i)
    (x0 : Vec F S528x2048 .f32) (x1 : Vec F S1x2048 .f32) (x2 : Vec F S2048x512 .bf16) (x3 : Vec F S2048x128 .bf16) (xo5 : Vec F S528x128 .f32) (xs0 : Vec F S528x2048 .bf16) : Vec F S528x512 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xo5 xs0).1)

/-- Case B stores nothing into scratch `arg8`: it holds what the point before left. -/
def sout0_B_0 (c : Dev nD) (i : grid0.Coords) (arg2 : Memref sig .tc .vmem S528x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S528x512 .f32) (harg6 : arg6.IsWhole) (arg7 : Memref sig .tc .vmem S528x128 .f32) (harg7 : arg7.IsWhole) (arg8 : Memref sig .tc .vmem S528x2048 .bf16) (harg8 : arg8.IsWhole) (hc0 : ¬cond0_0 i)
    (x0 : Vec F S528x2048 .f32) (x1 : Vec F S1x2048 .f32) (x2 : Vec F S2048x512 .bf16) (x3 : Vec F S2048x128 .bf16) (xo5 : Vec F S528x128 .f32) (xs0 : Vec F S528x2048 .bf16) : Vec F S528x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S528x512 .f32 × Vec F S528x128 .f32 × Vec F S528x2048 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 19 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 19 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 19 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The small output's buffer is handed to the body and taken back untouched at the points after a row block's first. -/
theorem idle5_iff : ∀ t : Fin cfg0.N, cfg0.idle 5 (cfg0.grid.coords t) = !decide (t.val % 19 = 0) :=
  (fun t => by
    have h := hcond0_0 t
    show (!(k0_cond1 (grid0.coords t) == 1#1)) = _
    congr 1
    by_cases h0 : t.val % 19 = 0
    · rw [decide_eq_true h0]; exact beq_iff_eq.mpr (h.mpr h0)
    · rw [decide_eq_false h0]; exact beq_eq_false_iff_ne.mpr fun e => h0 (h.mp e))

theorem fresh5 (n : ℕ) (hn : n ≤ cfg0.N) : cfg0.fresh 5 n = decide (n % 19 = 0) :=
  Pipeline.Cfg.fresh_tab cfg0 5 (fun n => decide (n % 19 = 0)) rfl (fun t => by
    rw [idle5_iff]
    have hN : t.val < 19 := lt_of_lt_of_eq t.isLt (show cfg0.N = 19 from N_0)
    have hf := flush0_5 t
    by_cases h18 : t.val % 19 = 18
    · rw [hf.mpr h18, Bool.true_or]; exact decide_eq_true (by omega)
    · rw [Bool.eq_false_iff.mpr fun e => h18 (hf.mp e), Bool.false_or]
      by_cases h0 : t.val % 19 = 0
      · simp only [h0, decide_true, Bool.not_true, Bool.false_and]; exact decide_eq_false (by omega)
      · simp only [h0, decide_false, Bool.and_false]; exact decide_eq_false (by omega)) n hn

/-- At a point after a row block's first, the small output's buffer holds what the point before left. -/
theorem before0_5_B (c : Dev nD) (t : Fin cfg0.N) (h0 : ¬t.val % 19 = 0) (d) :
    (dats m 0 c).before 5 t d = (outsAt0 m c (t.val - 1) (Nat.lt_of_le_of_lt (Nat.sub_le _ _) t.isLt)).2.1 := by
  rw [Dat.before_out_traj (dats m 0 c) 5 rfl (fun _ _ => rfl) (fun s hs hi hfr => by
    rw [idle5_iff] at hi
    have h1 : ¬s.val % 19 = 0 := by simpa using hi
    rw [after0_5, after0_5, outsAt0_B m c s h1]) t.val t rfl d, fresh5 _ (Nat.le_of_lt t.isLt), decide_eq_false h0]
  rw [if_neg Bool.false_ne_true, after0_5]

/-- What the body owes of the small output's buffer there. -/
theorem leaves0_5_B (c : Dev nD) (t : Fin cfg0.N) (h0 : ¬t.val % 19 = 0) :
    (owns (c : Thread nD τ) (ms0_5 t) fullShare ((outsAt0 m c (t.val - 1) (Nat.lt_of_le_of_lt (Nat.sub_le _ _) t.isLt)).2.1) : sProp 𝕄)
      ⊢ (dats m 0 c).leavesExact 5 t := by
  unfold Dat.leavesExact
  rw [idle5_iff, decide_eq_false h0]
  by_cases hf : (cfg0.win 5).flush t = true
  · rw [hf, after0_5, outsAt0_B m c t h0]; exact .rfl
  · rw [Bool.eq_false_iff.mpr hf]
    show _ ⊢ iprop(∃ d, owns (c : Thread nD τ) (ms0_5 t) fullShare ((dats m 0 c).before 5 t d))
    iintro H
    iexists ((dats m 0 c).after 5 t)
    rw [before0_5_B m c t h0]
    iexact H

theorem leaves0_5_A (c : Dev nD) (t : Fin cfg0.N) (h0 : t.val % 19 = 0) :
    (dats m 0 c).leavesExact 5 t = (owns (c : Thread nD τ) (ms0_5 t) fullShare ((outsAt0 m c t.val t.isLt).2.1) : sProp 𝕄) := by
  unfold Dat.leavesExact
  rw [idle5_iff, decide_eq_true h0, after0_5]
  rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t)

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 19 := lt_of_lt_of_eq t.isLt (show cfg0.N = 19 from N_0)
  by_cases h0 : t.val % 19 = 0
  · by_cases hz : t.val = 0
    · rw [PhiS_castSucc m c t, PhiS_zero m c _ _ hz, PhiA0_eq]
      rw [leaves0_5_A m c t h0, outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · exfalso; have hN : t.val < 19 := lt_of_lt_of_eq t.isLt (show cfg0.N = 19 from N_0); omega
  · by_cases hz : t.val = 0
    · exfalso; have hN : t.val < 19 := lt_of_lt_of_eq t.isLt (show cfg0.N = 19 from N_0); omega
    · rw [PhiS_castSucc m c t, PhiS_pos m c _ _ hz]
      rw [outsAt0_B m c t h0]
      unfold out0_B_4 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      rw [before0_5_B m c t h0]
      iapply ((kernelRun0_B c (grid0.coords t) _ _ _ _ _ _ _ _ _ _ _ _ _ _ (fun h => h0 ((hcond0_0 t).mp h)) (iblk m c 0 t) (iblk m c 1 t) (iblk m c 2 t) (iblk m c 3 t) _ _).2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _)
      iapply (leaves0_5_B m c t h0)
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 19 := N_0; omega)

/-! ## The run and the frame -/

-- `θ_run_frame_track`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every final state has every array of the pipeline at what the library computes from the proof data and every other
    unscoped buffer at what the host lines after the region leave. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ProjSKIdeal.Gen

end
-- ==== Proof.ProjS.Pieces.lean ====
/- What one run of the projection's body leaves: the normalised rows, and the two products over them. -/
module

public import proofs.«01_k».proof.Proof.ProjS.Exact
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjSKIdeal.Val

open Cert.ProjSKIdeal Cert.ProjSKIdeal.Gen

theorem hz : (![0, 0] : Fin 2 → Nat) = fun _ => 0 := funext fun a => by fin_cases a <;> rfl

/-- An entry of the normalised rows of a block: the entry over its row's root mean square, times the weight. -/
def nrm {n : ℕ} (x : (⟨2, ![n, 2048]⟩ : Shape).Idx → EReal) (g : Vec Ideal S1x2048 .f32) (r : Fin n) (l : Fin 2048) : EReal :=
  x (ix2 r l) * Ideal.rsqrt (Ideal.div (∑ k : Fin 2048, x (ix2 r k) * x (ix2 r k)) (Ideal.ofBits .f32 0x45000000#32)
    + Ideal.ofBits .f32 0x358637BD#32) * g (ix2 0 l)

theorem pay1_at (x : Vec Ideal S528x2048 .f32) (g : Vec Ideal S1x2048 .f32) (y : S528x2048.Idx) :
    k0_pay1 x g y = nrm x g (y 0) (y 1) := by
  unfold nrm
  pointwise [k0_pay1]

theorem idx_whole (j : S528x2048.Idx) : (Rect.unit (s := S528x2048) ![0, 0] S528x2048.size inb_S528x2048_S528x2048_0_0).idx j = j := by
  funext a
  apply Fin.ext
  match a with
  | ⟨0, _⟩ => show 0 + 1 * (j 0).val = (j 0).val; omega
  | ⟨1, _⟩ => show 0 + 1 * (j 1).val = (j 1).val; omega

/-- A row block's first point leaves the block's normalised rows in the scratch. -/
theorem sout_A (c : Dev nD) (i : grid0.Coords) (a2 : Memref sig .tc .vmem S528x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S528x512 .f32) (h6 : a6.IsWhole) (a7 : Memref sig .tc .vmem S528x128 .f32) (h7 : a7.IsWhole) (a8 : Memref sig .tc .vmem S528x2048 .bf16) (h8 : a8.IsWhole) (hc0 : cond0_0 i)
    (x0 : Vec Ideal S528x2048 .f32) (x1 : Vec Ideal S1x2048 .f32) (x2 : Vec Ideal S2048x512 .bf16) (x3 : Vec Ideal S2048x128 .bf16) :
    sout0_A_0 (F := Ideal) c i a2 h2 a3 h3 a4 h4 a5 h5 a6 h6 a7 h7 a8 h8 hc0 x0 x1 x2 x3 = fun y => nrm x0 x1 (y 0) (y 1) := by
  unfold sout0_A_0
  rw [View.read_writes_eq_canon _ _ _ (scover0_A_0 c i a2 h2 a3 h3 a4 h4 a5 h5 a6 h6 a7 h7 a8 h8 hc0 x0 x1 x2 x3)]
  unfold kernelRun0_A
  dsimp only
  sl_unfold_words
  rw [View.canon_unit_zero hz]
  simp only [View.readAt_eq_ld, h2.read_unread, h3.read_unread, View.ld_unit_zero (S := S1x2048) hz, View.ld_unit_zero (S := S528x2048) hz]
  exact funext fun y => pay1_at x0 x1 y

/-- … and the products of those rows with the two weight blocks. -/
theorem out_A_4 (c : Dev nD) (i : grid0.Coords) (a2 : Memref sig .tc .vmem S528x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S528x512 .f32) (h6 : a6.IsWhole) (a7 : Memref sig .tc .vmem S528x128 .f32) (h7 : a7.IsWhole) (a8 : Memref sig .tc .vmem S528x2048 .bf16) (h8 : a8.IsWhole) (hc0 : cond0_0 i)
    (x0 : Vec Ideal S528x2048 .f32) (x1 : Vec Ideal S1x2048 .f32) (x2 : Vec Ideal S2048x512 .bf16) (x3 : Vec Ideal S2048x128 .bf16) :
    out0_A_4 (F := Ideal) c i a2 h2 a3 h3 a4 h4 a5 h5 a6 h6 a7 h7 a8 h8 hc0 x0 x1 x2 x3 = k0_pay3 (fun y => nrm x0 x1 (y 0) (y 1)) x2 := by
  have hs := sout_A c i a2 h2 a3 h3 a4 h4 a5 h5 a6 h6 a7 h7 a8 h8 hc0 x0 x1 x2 x3
  unfold sout0_A_0 at hs
  rw [View.read_writes_eq_canon _ _ _ (scover0_A_0 c i a2 h2 a3 h3 a4 h4 a5 h5 a6 h6 a7 h7 a8 h8 hc0 x0 x1 x2 x3)] at hs
  rw [← hs]
  unfold out0_A_4
  rw [View.read_writes_eq_canon _ _ _ (cover0_A_4 c i a2 h2 a3 h3 a4 h4 a5 h5 a6 h6 a7 h7 a8 h8 hc0 x0 x1 x2 x3)]
  unfold kernelRun0_A
  dsimp only
  sl_unfold_words
  rw [View.canon_unit_zero hz]
  simp only [View.readCov_eq_canon', View.readAt_eq_ld, h4.read_unread, View.ld_unit_zero (S := S2048x512) hz, View.ld_unit_zero (S := S528x2048) hz]
  exact congrArg (fun z => k0_pay3 z x2) (funext fun j => congrArg (View.canon _) (idx_whole j))

theorem out_A_5 (c : Dev nD) (i : grid0.Coords) (a2 : Memref sig .tc .vmem S528x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S528x512 .f32) (h6 : a6.IsWhole) (a7 : Memref sig .tc .vmem S528x128 .f32) (h7 : a7.IsWhole) (a8 : Memref sig .tc .vmem S528x2048 .bf16) (h8 : a8.IsWhole) (hc0 : cond0_0 i)
    (x0 : Vec Ideal S528x2048 .f32) (x1 : Vec Ideal S1x2048 .f32) (x2 : Vec Ideal S2048x512 .bf16) (x3 : Vec Ideal S2048x128 .bf16) :
    out0_A_5 (F := Ideal) c i a2 h2 a3 h3 a4 h4 a5 h5 a6 h6 a7 h7 a8 h8 hc0 x0 x1 x2 x3 = k0_pay2 (fun y => nrm x0 x1 (y 0) (y 1)) x3 := by
  have hs := sout_A c i a2 h2 a3 h3 a4 h4 a5 h5 a6 h6 a7 h7 a8 h8 hc0 x0 x1 x2 x3
  unfold sout0_A_0 at hs
  rw [View.read_writes_eq_canon _ _ _ (scover0_A_0 c i a2 h2 a3 h3 a4 h4 a5 h5 a6 h6 a7 h7 a8 h8 hc0 x0 x1 x2 x3)] at hs
  rw [← hs]
  unfold out0_A_5
  rw [View.read_writes_eq_canon _ _ _ (cover0_A_5 c i a2 h2 a3 h3 a4 h4 a5 h5 a6 h6 a7 h7 a8 h8 hc0 x0 x1 x2 x3)]
  unfold kernelRun0_A
  dsimp only
  sl_unfold_words
  rw [View.canon_unit_zero hz]
  simp only [View.readCov_eq_canon', View.readAt_eq_ld, h5.read_unread, View.ld_unit_zero (S := S2048x128) hz, View.ld_unit_zero (S := S528x2048) hz]
  exact congrArg (fun z => k0_pay2 z x3) (funext fun j => congrArg (View.canon _) (idx_whole j))

/-- At a row block's other points, the product over the rows the scratch holds, which stay. -/
theorem out_B_4 (c : Dev nD) (i : grid0.Coords) (a2 : Memref sig .tc .vmem S528x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S528x512 .f32) (h6 : a6.IsWhole) (a7 : Memref sig .tc .vmem S528x128 .f32) (h7 : a7.IsWhole) (a8 : Memref sig .tc .vmem S528x2048 .bf16) (h8 : a8.IsWhole) (hc0 : ¬cond0_0 i)
    (x0 : Vec Ideal S528x2048 .f32) (x1 : Vec Ideal S1x2048 .f32) (x2 : Vec Ideal S2048x512 .bf16) (x3 : Vec Ideal S2048x128 .bf16) (xo5 : Vec Ideal S528x128 .f32) (xs0 : Vec Ideal S528x2048 .bf16) :
    out0_B_4 (F := Ideal) c i a2 h2 a3 h3 a4 h4 a5 h5 a6 h6 a7 h7 a8 h8 hc0 x0 x1 x2 x3 xo5 xs0 = k0_pay3 xs0 x2 := by
  unfold out0_B_4
  rw [View.read_writes_eq_canon _ _ _ (cover0_B_4 c i a2 h2 a3 h3 a4 h4 a5 h5 a6 h6 a7 h7 a8 h8 hc0 x0 x1 x2 x3 xo5 xs0)]
  unfold kernelRun0_B
  dsimp only
  sl_unfold_words
  rw [View.canon_unit_zero hz]
  simp only [View.readAt_eq_ld, h8.read_unread, h4.read_unread, View.ld_unit_zero (S := S2048x512) hz, View.ld_unit_zero (S := S528x2048) hz]

theorem sout_B (c : Dev nD) (i : grid0.Coords) (a2 : Memref sig .tc .vmem S528x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x128 .bf16) (h5 : a5.IsWhole) (a6 : Memref sig .tc .vmem S528x512 .f32) (h6 : a6.IsWhole) (a7 : Memref sig .tc .vmem S528x128 .f32) (h7 : a7.IsWhole) (a8 : Memref sig .tc .vmem S528x2048 .bf16) (h8 : a8.IsWhole) (hc0 : ¬cond0_0 i)
    (x0 : Vec Ideal S528x2048 .f32) (x1 : Vec Ideal S1x2048 .f32) (x2 : Vec Ideal S2048x512 .bf16) (x3 : Vec Ideal S2048x128 .bf16) (xo5 : Vec Ideal S528x128 .f32) (xs0 : Vec Ideal S528x2048 .bf16) :
    sout0_B_0 (F := Ideal) c i a2 h2 a3 h3 a4 h4 a5 h5 a6 h6 a7 h7 a8 h8 hc0 x0 x1 x2 x3 xo5 xs0 = xs0 := by
  rfl

end Cert.ProjSKIdeal.Val

end
-- ==== Proof.ProjS.Arrays.lean ====
/- The arrays the projection's host code prepares, entry by entry, and the reference's, over the layer's arguments. -/
module

public import proofs.«01_k».proof.Proof.ProjS.Pieces
public import proofs.«01_k».proof.Proof.Gen.ProjSRIdeal.Run
public import proofs.«01_k».proof.Proof.Gen.ProjSRIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjSKIdeal.Val

open Cert.ProjSKIdeal Cert.ProjSKIdeal.Gen
open Cert.ProjSRIdeal.Read (val_main_v1 val_main_v12 val_main_v15 val_main_v16 val_main_v17 val_main_v27 val_main_v29)

variable (m : (ℓ : Loc nD τ sig) → Buf (Elt Ideal) ℓ)

abbrev X (c : Dev nD) : FVec Ideal S128x4x2048 .f32 := m ((c : Thread nD τ).loc main_arg0)
abbrev Mt (c : Dev nD) : FVec Ideal S16x2048 .f32 := m ((c : Thread nD τ).loc main_arg1)
abbrev Cv (c : Dev nD) : FVec Ideal S1x128x3x3072 .f32 := m ((c : Thread nD τ).loc main_arg2)
abbrev Ca (c : Dev nD) : FVec Ideal S1x128x144x4x64 .f32 := m ((c : Thread nD τ).loc main_arg3)
abbrev W (c : Dev nD) : FVec Ideal S1x2048x9744 .f32 := m ((c : Thread nD τ).loc main_arg4)
abbrev G (c : Dev nD) : FVec Ideal S1x2048 .f32 := m ((c : Thread nD τ).loc main_arg5)

/-- Where column `j` of the kernel's order of the projections lies in the weights' own order. -/
def colm (j : Fin 9728) : Fin 9744 :=
  if h : j.val < 4096 then ⟨j.val + 5648, by omega⟩ else if h : j.val < 7168 then ⟨j.val - 4096, by omega⟩ else ⟨j.val - 4080, by omega⟩

theorem colm_val (j : Fin 9728) : (colm j).val = if j.val < 4096 then j.val + 5648 else if j.val < 7168 then j.val - 4096 else j.val - 4080 := by
  unfold colm
  split_ifs <;> rfl

theorem col_congr {α : Type} {n : ℕ} (w : (⟨2, ![n, 9744]⟩ : Shape).Idx → α) (k : Fin n) {a b : Fin 9744} (h : a.val = b.val) : w (ix2 k a) = w (ix2 k b) :=
  congrArg (fun z => w (ix2 k z)) (Fin.ext h)

theorem ix2_one {n m : ℕ} (a : Fin n) (b : Fin m) : ix2 a b 1 = b := rfl

theorem idx_congr {α : Type} {n : ℕ} (w : (⟨2, ![n, 9744]⟩ : Shape).Idx → α) (k : Fin n) {b : Fin 9744} (i : (⟨2, ![n, 9744]⟩ : Shape).Idx)
    (h0 : (i 0).val = k.val) (h : (i 1).val = b.val) : w i = w (ix2 k b) :=
  congrArg w (funext fun a => Fin.ext (match a with | ⟨0, _⟩ => h0 | ⟨1, _⟩ => h))

theorem V_x (c : Dev nD) : V m c main_v18 = val_main_v1 (F := Ideal) (X m c) (Mt m c) := by
  simp only [V, V0, List.flatten_cons, List.flatten_nil, List.append_nil]
  after_results
  rfl

theorem V_g (c : Dev nD) (l : Fin 2048) : (V m c main_v16 : Vec Ideal S1x2048 .f32) (ix2 0 l) = G m c (ix2 0 l) := by
  have e : (V m c main_v16 : Vec Ideal S1x2048 .f32) = Cert.ProjSRIdeal.Read.val_main_v13 (F := Ideal) (G m c) := by
    simp only [V, V0, List.flatten_cons, List.flatten_nil, List.append_nil]
    after_results
    rfl
  rw [e, Cert.ProjSRIdeal.Read.val_main_v13_apply, Cert.ProjSRIdeal.Read.val_main_v12_apply]
  congr 1
  funext a
  apply Fin.ext
  match a with
  | ⟨0, _⟩ => rfl
  | ⟨1, _⟩ => show l.val % 2048 = l.val; omega

theorem w_at (c : Dev nD) (k : Fin 2048) (j : Fin 9744) : val_main_v16 (F := Ideal) (W m c) (ix2 k j) = W m c (ix3 0 k j) := by
  rw [Cert.ProjSRIdeal.Read.val_main_v16_apply]
  congr 1
  funext a
  apply Fin.ext
  match a with
  | ⟨0, _⟩ => rfl
  | ⟨1, _⟩ => show (k.val * 9744 + j.val) / 9744 % 2048 = k.val; omega
  | ⟨2, _⟩ => show (k.val * 9744 + j.val) % 9744 = j.val; omega

/-- The weight's columns in the kernel's order. -/
def cw (w : FVec Ideal S2048x9744 .f32) : FVec Ideal S2048x9728 .f32 :=
  concatenate S2048x9728 1 [⟨S2048x2048, extractStridedSlice S2048x2048 ![0, 5648] w slices_S2048x9744_S2048x2048_0_5648⟩, ⟨S2048x2048, extractStridedSlice S2048x2048 ![0, 7696] w slices_S2048x9744_S2048x2048_0_7696⟩, ⟨S2048x3072, extractStridedSlice S2048x3072 ![0, 0] w slices_S2048x9744_S2048x3072_0_0⟩, ⟨S2048x1024, extractStridedSlice S2048x1024 ![0, 3088] w slices_S2048x9744_S2048x1024_0_3088⟩, ⟨S2048x1024, extractStridedSlice S2048x1024 ![0, 4112] w slices_S2048x9744_S2048x1024_0_4112⟩, ⟨S2048x256, extractStridedSlice S2048x256 ![0, 5136] w slices_S2048x9744_S2048x256_0_5136⟩, ⟨S2048x256, extractStridedSlice S2048x256 ![0, 5392] w slices_S2048x9744_S2048x256_0_5392⟩]
    concatenates_S2048x2048_S2048x2048_S2048x3072_S2048x1024_S2048x1024_S2048x256_S2048x256_S2048x9728_d1

/-- The small weight: the two gates' columns, and zeros. -/
def cs (w : FVec Ideal S2048x9744 .f32) : FVec Ideal S2048x128 .f32 :=
  concatenate S2048x128 1 [⟨S2048x8, extractStridedSlice S2048x8 ![0, 3072] w slices_S2048x9744_S2048x8_0_3072⟩, ⟨S2048x8, extractStridedSlice S2048x8 ![0, 3080] w slices_S2048x9744_S2048x8_0_3080⟩, ⟨S2048x112, broadcastInDim S2048x112 ![] bcast_S_S2048x112 (constant S_ .f32 0x00000000#32)⟩] concatenates_S2048x8_S2048x8_S2048x112_S2048x128_d1

theorem cw_at (w : FVec Ideal S2048x9744 .f32) (k : Fin 2048) (j : Fin 9728) : cw w (ix2 k j) = w (ix2 k (colm j)) := by
  have hj := j.isLt
  unfold cw
  pointwise
  split_ifs <;> exact col_congr w k (by rw [colm_val]; dsimp only; split_ifs <;> omega)

theorem cs_at (w : FVec Ideal S2048x9744 .f32) (k : Fin 2048) (j : Fin 128) :
    cs w (ix2 k j) = if h : j.val < 16 then w (ix2 k ⟨3072 + j.val, by omega⟩) else 0 := by
  unfold cs
  pointwise
  by_cases h8 : j.val < 8
  · rw [dif_pos h8, dif_pos (by omega)]
  · rw [dif_neg h8]
    by_cases h16 : j.val - 8 < 8
    · rw [dif_pos h16, dif_pos (by omega)]
      exact col_congr w k (by dsimp only; omega)
    · rw [dif_neg h16, dif_neg (by omega)]

theorem V_w (c : Dev nD) (k : Fin 2048) (j : Fin 9728) :
    (V m c main_v9 : Vec Ideal S2048x9728 .bf16) (ix2 k j) = val_main_v16 (F := Ideal) (W m c) (ix2 k (colm j)) := by
  have e : (V m c main_v9 : Vec Ideal S2048x9728 .bf16) = truncf .bf16 (cw (val_main_v16 (F := Ideal) (W m c))) bitsLt_bf16_f32 := by
    simp only [V, V0, List.flatten_cons, List.flatten_nil, List.append_nil]
    after_results
    rfl
  rw [e, ← cw_at (val_main_v16 (F := Ideal) (W m c))]
  rfl

theorem V_s (c : Dev nD) (k : Fin 2048) (j : Fin 128) :
    (V m c main_v14 : Vec Ideal S2048x128 .bf16) (ix2 k j) = cs (val_main_v16 (F := Ideal) (W m c)) (ix2 k j) := by
  have e : (V m c main_v14 : Vec Ideal S2048x128 .bf16) = truncf .bf16 (cs (val_main_v16 (F := Ideal) (W m c))) bitsLt_bf16_f32 := by
    simp only [V, V0, List.flatten_cons, List.flatten_nil, List.append_nil]
    after_results
    rfl
  rw [e]
  rfl

theorem ref_main (c : Dev nD) (r : Fin 528) (j : Fin 9728) :
    val_main_v27 (F := Ideal) (X m c) (Mt m c) (W m c) (G m c) (ix2 r j) = val_main_v17 (F := Ideal) (X m c) (Mt m c) (W m c) (G m c) (ix2 r (colm j)) := by
  have hj := j.isLt
  unfold val_main_v27
  pointwise
  split_ifs <;>
    simp only [Cert.ProjSRIdeal.Read.val_main_v25_apply, Cert.ProjSRIdeal.Read.val_main_v26_apply, Cert.ProjSRIdeal.Read.val_main_v18_apply, Cert.ProjSRIdeal.Read.val_main_v21_apply, Cert.ProjSRIdeal.Read.val_main_v22_apply, Cert.ProjSRIdeal.Read.val_main_v23_apply, Cert.ProjSRIdeal.Read.val_main_v24_apply] <;>
    exact idx_congr _ r _ rfl (by rw [colm_val]; simp only [ix2_one]; split_ifs <;> omega)

theorem ref_small (c : Dev nD) (r : Fin 528) (j : Fin 128) :
    val_main_v29 (F := Ideal) (X m c) (Mt m c) (W m c) (G m c) (ix2 r j) = if h : j.val < 16 then val_main_v17 (F := Ideal) (X m c) (Mt m c) (W m c) (G m c) (ix2 r ⟨3072 + j.val, by omega⟩) else 0 := by
  unfold val_main_v29
  pointwise
  by_cases h8 : j.val < 8
  · rw [dif_pos h8, dif_pos (by omega), Cert.ProjSRIdeal.Read.val_main_v19_apply]
    exact idx_congr _ r _ rfl rfl
  · rw [dif_neg h8]
    by_cases h16 : j.val - 8 < 8
    · rw [dif_pos h16, dif_pos (by omega), Cert.ProjSRIdeal.Read.val_main_v20_apply]
      exact idx_congr _ r _ rfl (by show 3080 + (j.val - 8) = 3072 + j.val; omega)
    · rw [dif_neg h16, dif_neg (by omega), Cert.ProjSRIdeal.Read.val_main_v28_apply, Cert.ProjSRIdeal.Read.val_main_cst_2_apply]
      pointwise

end Cert.ProjSKIdeal.Val

end
-- ==== Proof.ProjS.Value.lean ====
/- The value of the input projection: each entry of the kernel's two results is the reference's entry. -/
module

public import proofs.«01_k».proof.Proof.ProjS.Arrays

@[expose] public section

set_option maxRecDepth 16384

noncomputable section

open Idealize.ShloMosaic Idealize.ShloMosaic.TcCoe Idealize.SL.Sem
open Idealize.ShloMosaic.Pipeline (Dat)

namespace Cert.ProjSKIdeal.Val

open Cert.ProjSKIdeal Cert.ProjSKIdeal.Gen
open Cert.ProjSRIdeal.Read (val_main_v1 val_main_v12 val_main_v15 val_main_v16 val_main_v17 val_main_v27 val_main_v29)

variable (m : (ℓ : Loc nD τ sig) → Buf (Elt Ideal) ℓ)

/-- Which block each window stages at point `t`. -/
theorem idx : ∀ t : Fin cfg0.N, win0_0.index t = ![t.val / 19, 0] ∧ win0_1.index t = ![0, 0]
    ∧ win0_2.index t = ![0, t.val % 19] ∧ win0_3.index t = ![0, 0] ∧ win0_4.index t = ![t.val / 19, t.val % 19]
    ∧ win0_5.index t = ![t.val / 19, 0] :=
  (by decide +kernel : ∀ t : Fin grid0.N, _)

theorem row_lt (n : ℕ) (hn : n < cfg0.N) (r : Fin 528) : n / 19 * 528 + r.val < 528 := by
  have ht : n < 19 := hn
  have := r.isLt
  omega

theorem col_lt (t : Fin cfg0.N) (l : Fin 512) : t.val % 19 * 512 + l.val < 9728 := by
  have := l.isLt
  omega

theorem iblk0_at (c : Dev nD) (t : Fin cfg0.N) (y : S528x2048.Idx) :
    (iblk m c 0 t : Vec Ideal S528x2048 .f32) y = val_main_v1 (F := Ideal) (X m c) (Mt m c) (ix2 ⟨t.val / 19 * 528 + (y 0).val, row_lt _ t.isLt (y 0)⟩ (y 1)) := by
  rw [← V_x]
  blk_ext [iblk, idx t]

theorem iblk1_at (c : Dev nD) (t : Fin cfg0.N) (l : Fin 2048) :
    (iblk m c 1 t : Vec Ideal S1x2048 .f32) (ix2 0 l) = G m c (ix2 0 l) := by
  rw [← V_g]
  blk_ext [iblk, idx t]

theorem iblk2_at (c : Dev nD) (t : Fin cfg0.N) (k : Fin 2048) (l : Fin 512) :
    (iblk m c 2 t : Vec Ideal S2048x512 .bf16) (ix2 k l) = val_main_v16 (F := Ideal) (W m c) (ix2 k (colm ⟨t.val % 19 * 512 + l.val, col_lt t l⟩)) := by
  rw [← V_w]
  blk_ext [iblk, idx t]

theorem iblk3_at (c : Dev nD) (t : Fin cfg0.N) (k : Fin 2048) (l : Fin 128) :
    (iblk m c 3 t : Vec Ideal S2048x128 .bf16) (ix2 k l) = cs (val_main_v16 (F := Ideal) (W m c)) (ix2 k l) := by
  rw [← V_s]
  blk_ext [iblk, idx t]

/-- A block's normalised rows are the reference's. -/
theorem nrm_at (c : Dev nD) (t : Fin cfg0.N) (r : Fin 528) (l : Fin 2048) :
    nrm (iblk m c 0 t) (iblk m c 1 t) r l = val_main_v15 (F := Ideal) (X m c) (Mt m c) (G m c) (ix2 ⟨t.val / 19 * 528 + r.val, row_lt _ t.isLt r⟩ l) := by
  unfold nrm
  simp only [iblk0_at, iblk1_at]
  unfold val_main_v15
  unfold Cert.ProjSRIdeal.Read.val_main_v11 Cert.ProjSRIdeal.Read.val_main_v10 Cert.ProjSRIdeal.Read.val_main_v9 Cert.ProjSRIdeal.Read.val_main_v8 Cert.ProjSRIdeal.Read.val_main_v7 Cert.ProjSRIdeal.Read.val_main_v6 Cert.ProjSRIdeal.Read.val_main_v5 Cert.ProjSRIdeal.Read.val_main_v4 Cert.ProjSRIdeal.Read.val_main_v3 Cert.ProjSRIdeal.Read.val_main_v2 Cert.ProjSRIdeal.Read.val_main_v14 Cert.ProjSRIdeal.Read.val_main_v13 Cert.ProjSRIdeal.Read.val_main_v12 Cert.ProjSRIdeal.Read.val_main_cst Cert.ProjSRIdeal.Read.val_main_cst_0 Cert.ProjSRIdeal.Read.val_main_cst_1
  pointwise

theorem idx2_eq {a b : ℕ} (y : (⟨2, ![a, b]⟩ : Shape).Idx) : y = ix2 (y 0) (y 1) :=
  funext fun i => match i with
  | ⟨0, _⟩ => rfl
  | ⟨1, _⟩ => rfl

/-- The normalised rows of the row block that point `n` works on. -/
def rows (m : (ℓ : Loc nD τ sig) → Buf (Elt Ideal) ℓ) (c : Dev nD) (n : ℕ) (hn : n < cfg0.N) : Vec Ideal S528x2048 .bf16 := fun y =>
  val_main_v15 (F := Ideal) (X m c) (Mt m c) (G m c) (ix2 ⟨n / 19 * 528 + (y 0).val, row_lt n hn (y 0)⟩ (y 1))

theorem rows_nrm (c : Dev nD) (t : Fin cfg0.N) :
    (fun y => nrm (iblk m c 0 t) (iblk m c 1 t) (y 0) (y 1) : Vec Ideal S528x2048 .bf16) = rows m c t.val t.isLt :=
  funext fun y => nrm_at m c t (y 0) (y 1)

theorem rows_congr (c : Dev nD) (n n' : ℕ) (hn : n < cfg0.N) (hn' : n' < cfg0.N) (h : n / 19 = n' / 19) : rows m c n hn = rows m c n' hn' := by
  funext y
  unfold rows
  refine congrArg (val_main_v15 (F := Ideal) (X m c) (Mt m c) (G m c)) (congrArg (fun z => ix2 z (y 1)) (Fin.ext ?_))
  show n / 19 * 528 + (y 0).val = n' / 19 * 528 + (y 0).val
  rw [h]

theorem scr_A (c : Dev nD) (t : Fin cfg0.N) (h0 : t.val % 19 = 0) : (outsAt0 m c t.val t.isLt).2.2 = rows m c t.val t.isLt := by
  rw [outsAt0_A m c t h0]
  dsimp only
  rw [sout_A]
  exact rows_nrm m c t

/-- After any point the scratch holds its row block's normalised rows. -/
theorem scr (c : Dev nD) : ∀ (n : ℕ) (hn : n < cfg0.N), (outsAt0 m c n hn).2.2 = rows m c n hn := by
  intro n
  induction n with
  | zero => exact fun hn => scr_A m c ⟨0, hn⟩ (Nat.zero_mod _)
  | succ n ih =>
    intro hn
    by_cases h0 : (n + 1) % 19 = 0
    · exact scr_A m c ⟨n + 1, hn⟩ h0
    · refine (congrArg (fun p => p.2.2) (outsAt0_B m c ⟨n + 1, hn⟩ h0)).trans ?_
      refine Eq.trans (b := (outsAt0 m c n (Nat.lt_of_succ_lt hn)).2.2) rfl ?_
      exact (ih (Nat.lt_of_succ_lt hn)).trans (rows_congr m c _ _ _ _ (by omega))

/-- What each point leaves in the main output's buffer. -/
theorem main_at (c : Dev nD) (t : Fin cfg0.N) : (outsAt0 m c t.val t.isLt).1 = k0_pay3 (F := Ideal) (rows m c t.val t.isLt) (iblk m c 2 t) := by
  by_cases h0 : t.val % 19 = 0
  · rw [outsAt0_A m c t h0]
    dsimp only
    rw [out_A_4, rows_nrm m c t]
  · rw [outsAt0_B m c t h0]
    dsimp only
    rw [out_B_4, scr m c (t.val - 1) _, rows_congr m c (t.val - 1) t.val _ t.isLt (by omega)]

theorem small_A (c : Dev nD) (t : Fin cfg0.N) (h0 : t.val % 19 = 0) : (outsAt0 m c t.val t.isLt).2.1
    = k0_pay2 (F := Ideal) (rows m c t.val t.isLt) (cs (val_main_v16 (F := Ideal) (W m c))) := by
  rw [outsAt0_A m c t h0]
  dsimp only
  rw [out_A_5, rows_nrm m c t]
  have e : (iblk m c 3 t : Vec Ideal S2048x128 .bf16) = cs (val_main_v16 (F := Ideal) (W m c)) := by
    funext y
    obtain ⟨k, l, rfl⟩ : ∃ k l, y = ix2 k l := ⟨y 0, y 1, idx2_eq y⟩
    exact iblk3_at m c t k l
  rw [e]

/-- What the small output's buffer holds after any point of a row block. -/
theorem small_at (c : Dev nD) : ∀ (n : ℕ) (hn : n < cfg0.N), (outsAt0 m c n hn).2.1
    = k0_pay2 (F := Ideal) (rows m c n hn) (cs (val_main_v16 (F := Ideal) (W m c))) := by
  intro n
  induction n with
  | zero => exact fun hn => small_A m c ⟨0, hn⟩ (Nat.zero_mod _)
  | succ n ih =>
    intro hn
    by_cases h0 : (n + 1) % 19 = 0
    · exact small_A m c ⟨n + 1, hn⟩ h0
    · refine (congrArg (fun p => p.2.1) (outsAt0_B m c ⟨n + 1, hn⟩ h0)).trans ?_
      refine Eq.trans (b := (outsAt0 m c n (Nat.lt_of_succ_lt hn)).2.1) rfl ?_
      rw [ih (Nat.lt_of_succ_lt hn), rows_congr m c n (n + 1) _ hn (by omega)]

theorem dot_at (c : Dev nD) (r : Fin 528) (j : Fin 9744) : val_main_v17 (F := Ideal) (X m c) (Mt m c) (W m c) (G m c) (ix2 r j)
    = ∑ k : Fin 2048, val_main_v15 (F := Ideal) (X m c) (Mt m c) (G m c) (ix2 r k) * val_main_v16 (F := Ideal) (W m c) (ix2 k j) := by
  rw [Cert.ProjSRIdeal.Read.val_main_v17_apply]
  refine Finset.sum_congr rfl fun k _ => ?_
  congr 2
  · funext a
    apply Fin.ext
    match a with
    | ⟨0, _⟩ => rfl
    | ⟨1, _⟩ => rfl
  · funext a
    apply Fin.ext
    match a with
    | ⟨0, _⟩ => rfl
    | ⟨1, _⟩ => rfl

/-- One element of the main output. -/
theorem main_elt (c : Dev nD) (t : Fin cfg0.N) (r : Fin 528) (l : Fin 512) :
    k0_pay3 (F := Ideal) (rows m c t.val t.isLt) (iblk m c 2 t) (ix2 r l)
      = val_main_v27 (F := Ideal) (X m c) (Mt m c) (W m c) (G m c) (ix2 ⟨t.val / 19 * 528 + r.val, row_lt _ t.isLt r⟩ ⟨t.val % 19 * 512 + l.val, col_lt t l⟩) := by
  rw [ref_main, dot_at]
  pointwise [k0_pay3]
  exact Finset.sum_congr rfl fun k _ => congrArg₂ (· * ·) rfl (iblk2_at m c t k l)

/-- One element of the small output. -/
theorem small_elt (c : Dev nD) (n : ℕ) (hn : n < cfg0.N) (r : Fin 528) (l : Fin 128) :
    k0_pay2 (F := Ideal) (rows m c n hn) (cs (val_main_v16 (F := Ideal) (W m c))) (ix2 r l)
      = val_main_v29 (F := Ideal) (X m c) (Mt m c) (W m c) (G m c) (ix2 ⟨n / 19 * 528 + r.val, row_lt n hn r⟩ l) := by
  rw [ref_small]
  have e : k0_pay2 (F := Ideal) (rows m c n hn) (cs (val_main_v16 (F := Ideal) (W m c))) (ix2 r l)
      = ∑ k : Fin 2048, rows m c n hn (ix2 r k) * cs (val_main_v16 (F := Ideal) (W m c)) (ix2 k l) := by
    pointwise [k0_pay2]
  rw [e]
  by_cases h : l.val < 16
  · rw [dif_pos h, dot_at]
    refine Finset.sum_congr rfl fun k _ => ?_
    rw [cs_at, dif_pos h]
    rfl
  · rw [dif_neg h]
    refine Finset.sum_eq_zero fun k _ => ?_
    rw [cs_at, dif_neg h, mul_zero]

theorem final4 (c : Dev nD) : (dats m 0 c).arrAt 4 cfg0.N = val_main_v27 (F := Ideal) (X m c) (Mt m c) (W m c) (G m c) := by
  refine (dats m 0 c).arrAt_eq_of_covers 4 _ (by decide +kernel) fun t _ y => ?_
  blk_simp
  rw [after0_4, main_at]
  obtain ⟨r, l, rfl⟩ : ∃ (r : Fin 528) (l : Fin 512), y = ix2 r l := ⟨y 0, y 1, idx2_eq y⟩
  refine (main_elt m c t r l).trans (congrArg (val_main_v27 (F := Ideal) (X m c) (Mt m c) (W m c) (G m c)) ?_)
  blk_point [idx t]

theorem final5 (c : Dev nD) : (dats m 0 c).arrAt 5 cfg0.N = val_main_v29 (F := Ideal) (X m c) (Mt m c) (W m c) (G m c) := by
  refine (dats m 0 c).arrAt_eq_of_covers 5 _ (by decide +kernel) fun t _ y => ?_
  blk_simp
  rw [after0_5, small_at]
  obtain ⟨r, l, rfl⟩ : ∃ (r : Fin 528) (l : Fin 128), y = ix2 r l := ⟨y 0, y 1, idx2_eq y⟩
  refine (small_elt m c t.val t.isLt r l).trans (congrArg (val_main_v29 (F := Ideal) (X m c) (Mt m c) (W m c) (G m c)) ?_)
  blk_point [idx t]

end Cert.ProjSKIdeal.Val

end
-- ==== Proof.ProjS.Tail.lean ====
/- The host lines after the sample rows' projection: the rolling state of the convolution, and the cache of values. -/
module

public import proofs.«01_k».proof.Proof.ProjS.Value
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.ProjSKIdeal.Val

open Cert.ProjSKIdeal Cert.ProjSKIdeal.Gen
open Cert.ProjSRIdeal.Read (val_main_v17 val_main_v27 val_main_v30 val_main_v35 val_main_v36 val_main_v37 val_main_v38 val_main_v39 val_main_v40 val_main_v41 val_main_v42 val_main_v43)

variable (m : (ℓ : Loc nD τ sig) → Buf (Elt Ideal) ℓ)

/-- The sample rows' columns of the first branch, in the kernel's order and in the reference's. -/
theorem branch (c : Dev nD) : extractStridedSlice S512x3072 ![0, 4096] (val_main_v27 (F := Ideal) (X m c) (Mt m c) (W m c) (G m c)) slices_S528x9728_S512x3072_0_4096
    = val_main_v30 (F := Ideal) (X m c) (Mt m c) (W m c) (G m c) := by
  funext i
  obtain ⟨r, j, rfl⟩ : ∃ (r : Fin 512) (j : Fin 3072), i = ix2 r j := ⟨i 0, i 1, funext fun x => match x with | ⟨0, _⟩ => rfl | ⟨1, _⟩ => rfl⟩
  refine (extractStridedSlice_apply ![0, 4096] _ slices_S528x9728_S512x3072_0_4096 (ix2 r j) (ix2 ⟨r.val, by omega⟩ ⟨4096 + j.val, by omega⟩) (fun a => match a with
    | ⟨0, _⟩ => by show r.val = 0 + r.val; omega
    | ⟨1, _⟩ => by show 4096 + j.val = 4096 + j.val; omega)).trans ?_
  rw [ref_main, Cert.ProjSRIdeal.Read.val_main_v30_apply, Cert.ProjSRIdeal.Read.val_main_v18_apply]
  exact (idx_congr _ ⟨r.val, by omega⟩ _ rfl (by
    rw [colm_val]
    show j.val = if 4096 + j.val < 4096 then 4096 + j.val + 5648 else if 4096 + j.val < 7168 then 4096 + j.val - 4096 else 4096 + j.val - 4080
    split_ifs <;> omega)).symm

/-- The same of the values. -/
theorem values (c : Dev nD) : extractStridedSlice S512x256 ![0, 9472] (val_main_v27 (F := Ideal) (X m c) (Mt m c) (W m c) (G m c)) slices_S528x9728_S512x256_0_9472
    = val_main_v35 (F := Ideal) (X m c) (Mt m c) (W m c) (G m c) := by
  funext i
  obtain ⟨r, j, rfl⟩ : ∃ (r : Fin 512) (j : Fin 256), i = ix2 r j := ⟨i 0, i 1, funext fun x => match x with | ⟨0, _⟩ => rfl | ⟨1, _⟩ => rfl⟩
  refine (extractStridedSlice_apply ![0, 9472] _ slices_S528x9728_S512x256_0_9472 (ix2 r j) (ix2 ⟨r.val, by omega⟩ ⟨9472 + j.val, by omega⟩) (fun a => match a with
    | ⟨0, _⟩ => by show r.val = 0 + r.val; omega
    | ⟨1, _⟩ => by show 9472 + j.val = 9472 + j.val; omega)).trans ?_
  rw [ref_main, Cert.ProjSRIdeal.Read.val_main_v35_apply, Cert.ProjSRIdeal.Read.val_main_v24_apply]
  exact (idx_congr _ ⟨r.val, by omega⟩ _ rfl (by
    rw [colm_val]
    show 5392 + j.val = if 9472 + j.val < 4096 then 9472 + j.val + 5648 else if 9472 + j.val < 7168 then 9472 + j.val - 4096 else 9472 + j.val - 4080
    split_ifs <;> omega)).symm

/-- The kernel's lines for the rolling state give the reference's. -/
theorem conv (c : Dev nD) (A : FVec Ideal S528x9728 .f32) (hA : A = val_main_v27 (F := Ideal) (X m c) (Mt m c) (W m c) (G m c)) :
    broadcastInDim S1x128x3x3072 ![1, 2, 3] bcast_S128x3x3072_S1x128x3x3072_1_2_3 (extractStridedSlice S128x3x3072 ![0, 4, 0]
      (concatenate S128x7x3072 1 [⟨S128x3x3072, shapeCast S128x3x3072 (Cv m c) shapeCasts_S1x128x3x3072_S128x3x3072⟩,
        ⟨S128x4x3072, shapeCast S128x4x3072 (extractStridedSlice S512x3072 ![0, 4096] A slices_S528x9728_S512x3072_0_4096) shapeCasts_S512x3072_S128x4x3072⟩] concatenates_S128x3x3072_S128x4x3072_S128x7x3072_d1)
      slices_S128x7x3072_S128x3x3072_0_4_0)
      = val_main_v42 (F := Ideal) (X m c) (Mt m c) (Cv m c) (W m c) (G m c) := by
  subst hA
  rw [branch]
  rfl

theorem head_lane (h : Fin 4) (l : Fin 64) : 64 * h.val + l.val < 256 := by omega

/-- The heads of a row of the cache, side by side. -/
theorem flat_at (y : FVec Ideal S128x144x4x64 .f32) (b : Fin 128) (q : Fin 144) (h : Fin 4) (l : Fin 64) :
    shapeCast S128x144x256 y shapeCasts_S128x144x4x64_S128x144x256 (ix3 b q ⟨64 * h.val + l.val, head_lane h l⟩) = y (ix4 b q h l) :=
  shapeCast_apply y shapeCasts_S128x144x4x64_S128x144x256 (ix3 b q ⟨64 * h.val + l.val, head_lane h l⟩) (ix4 b q h l)
    (by rewrite [Shape.rowMajor_val_four, Shape.rowMajor_val_three]
        show ((b.val * 144 + q.val) * 4 + h.val) * 64 + l.val = (b.val * 144 + q.val) * 256 + (64 * h.val + l.val)
        omega)

/-- And apart again. -/
theorem heads_at (y : FVec Ideal S128x144x256 .f32) (b : Fin 128) (q : Fin 144) (h : Fin 4) (l : Fin 64) :
    shapeCast S128x144x4x64 y shapeCasts_S128x144x256_S128x144x4x64 (ix4 b q h l) = y (ix3 b q ⟨64 * h.val + l.val, head_lane h l⟩) :=
  shapeCast_apply y shapeCasts_S128x144x256_S128x144x4x64 (ix4 b q h l) (ix3 b q ⟨64 * h.val + l.val, head_lane h l⟩)
    (by rewrite [Shape.rowMajor_val_four, Shape.rowMajor_val_three]
        show (b.val * 144 + q.val) * 256 + (64 * h.val + l.val) = ((b.val * 144 + q.val) * 4 + h.val) * 64 + l.val
        omega)

theorem sample_row (b : Fin 128) (n : Fin 4) : 4 * b.val + n.val < 512 := by omega

/-- A new row of values, in either layout. -/
theorem new_at (y : FVec Ideal S512x256 .f32) (b : Fin 128) (n : Fin 4) (h : Fin 4) (l : Fin 64) :
    shapeCast S128x4x256 y shapeCasts_S512x256_S128x4x256 (ix3 b n ⟨64 * h.val + l.val, head_lane h l⟩)
      = y (ix2 ⟨4 * b.val + n.val, sample_row b n⟩ ⟨64 * h.val + l.val, head_lane h l⟩) :=
  shapeCast_apply y shapeCasts_S512x256_S128x4x256 (ix3 b n ⟨64 * h.val + l.val, head_lane h l⟩) (ix2 ⟨4 * b.val + n.val, sample_row b n⟩ ⟨64 * h.val + l.val, head_lane h l⟩)
    (by rewrite [Shape.rowMajor_val_two, Shape.rowMajor_val_three]
        show (4 * b.val + n.val) * 256 + (64 * h.val + l.val) = (b.val * 4 + n.val) * 256 + (64 * h.val + l.val)
        omega)

theorem new_ref (c : Dev nD) (b : Fin 128) (n : Fin 4) (h : Fin 4) (l : Fin 64) :
    val_main_v36 (F := Ideal) (X m c) (Mt m c) (W m c) (G m c) (ix4 b n h l)
      = val_main_v35 (F := Ideal) (X m c) (Mt m c) (W m c) (G m c) (ix2 ⟨4 * b.val + n.val, sample_row b n⟩ ⟨64 * h.val + l.val, head_lane h l⟩) := by
  rw [Cert.ProjSRIdeal.Read.val_main_v36_apply]
  refine congrArg _ (funext fun x => Fin.ext ?_)
  match x with
  | ⟨0, _⟩ => show (((b.val * 4 + n.val) * 4 + h.val) * 64 + l.val) / 256 = 4 * b.val + n.val; omega
  | ⟨1, _⟩ => show (((b.val * 4 + n.val) * 4 + h.val) * 64 + l.val) % 256 = 64 * h.val + l.val; omega

/-- The kernel's keys in a row: the cache, the new rows, and the padding. -/
abbrev longRows (p : FVec Ideal S128x144x4x64 .f32) (y : FVec Ideal S512x256 .f32) (z : FVec Ideal S128x4x256 .f32) : FVec Ideal S128x152x256 .f32 :=
  concatenate S128x152x256 1 [⟨S128x144x256, shapeCast S128x144x256 p shapeCasts_S128x144x4x64_S128x144x256⟩,
    ⟨S128x4x256, shapeCast S128x4x256 y shapeCasts_S512x256_S128x4x256⟩, ⟨S128x4x256, z⟩] concatenates_S128x144x256_S128x4x256_S128x4x256_S128x152x256_d1

theorem long_old (p : FVec Ideal S128x144x4x64 .f32) (y : FVec Ideal S512x256 .f32) (z : FVec Ideal S128x4x256 .f32) (b : Fin 128) (q : Fin 144) (e : Fin 256) :
    longRows p y z (ix3 b ⟨q.val, by omega⟩ e) = shapeCast S128x144x256 p shapeCasts_S128x144x4x64_S128x144x256 (ix3 b q e) :=
  concatenate_apply_piece (t := S128x152x256) 1 [⟨S128x144x256, shapeCast S128x144x256 p shapeCasts_S128x144x4x64_S128x144x256⟩,
    ⟨S128x4x256, shapeCast S128x4x256 y shapeCasts_S512x256_S128x4x256⟩, ⟨S128x4x256, z⟩] concatenates_S128x144x256_S128x4x256_S128x4x256_S128x152x256_d1 (ix3 b ⟨q.val, by omega⟩ e) 0 (Nat.succ_pos _) S128x144x256 _ rfl rfl 0 rfl (ix3 b q e)
    (fun x => match x with
      | ⟨0, _⟩ => fun _ => rfl
      | ⟨1, _⟩ => fun hx => absurd rfl hx
      | ⟨2, _⟩ => fun _ => rfl)
    (by show 0 + q.val = q.val; omega)

theorem long_new (p : FVec Ideal S128x144x4x64 .f32) (y : FVec Ideal S512x256 .f32) (z : FVec Ideal S128x4x256 .f32) (b : Fin 128) (n : Fin 4) (e : Fin 256) :
    longRows p y z (ix3 b ⟨144 + n.val, by omega⟩ e) = shapeCast S128x4x256 y shapeCasts_S512x256_S128x4x256 (ix3 b n e) :=
  concatenate_apply_piece (t := S128x152x256) 1 [⟨S128x144x256, shapeCast S128x144x256 p shapeCasts_S128x144x4x64_S128x144x256⟩,
    ⟨S128x4x256, shapeCast S128x4x256 y shapeCasts_S512x256_S128x4x256⟩, ⟨S128x4x256, z⟩] concatenates_S128x144x256_S128x4x256_S128x4x256_S128x152x256_d1 (ix3 b ⟨144 + n.val, by omega⟩ e) 1 (Nat.succ_lt_succ (Nat.succ_pos _)) S128x4x256 _ rfl rfl 144 rfl (ix3 b n e)
    (fun x => match x with
      | ⟨0, _⟩ => fun _ => rfl
      | ⟨1, _⟩ => fun hx => absurd rfl hx
      | ⟨2, _⟩ => fun _ => rfl)
    rfl

theorem ref_old (c : Dev nD) (b : Fin 128) (q : Fin 144) (h : Fin 4) (l : Fin 64) :
    val_main_v38 (F := Ideal) (X m c) (Mt m c) (Ca m c) (W m c) (G m c) (ix4 b ⟨q.val, by omega⟩ h l) = val_main_v37 (F := Ideal) (Ca m c) (ix4 b q h l) := by
  unfold val_main_v38
  generalize val_main_v37 (F := Ideal) (Ca m c) = p
  generalize val_main_v36 (F := Ideal) (X m c) (Mt m c) (W m c) (G m c) = y
  exact concatenate_pair_apply_left (t := Cert.ProjSRIdeal.S128x148x4x64) 1 p y _ (ix4 b ⟨q.val, by omega⟩ h l) rfl (ix4 b q h l)
    (fun x => match x with | ⟨0, _⟩ => rfl | ⟨1, _⟩ => rfl | ⟨2, _⟩ => rfl | ⟨3, _⟩ => rfl)

theorem ref_new (c : Dev nD) (b : Fin 128) (n : Fin 4) (h : Fin 4) (l : Fin 64) :
    val_main_v38 (F := Ideal) (X m c) (Mt m c) (Ca m c) (W m c) (G m c) (ix4 b ⟨144 + n.val, by omega⟩ h l) = val_main_v36 (F := Ideal) (X m c) (Mt m c) (W m c) (G m c) (ix4 b n h l) := by
  unfold val_main_v38
  generalize val_main_v37 (F := Ideal) (Ca m c) = p
  generalize val_main_v36 (F := Ideal) (X m c) (Mt m c) (W m c) (G m c) = y
  exact concatenate_pair_apply_right (t := Cert.ProjSRIdeal.S128x148x4x64) 1 p y _ (ix4 b ⟨144 + n.val, by omega⟩ h l) rfl rfl (ix4 b n h l)
    (fun x => match x with
      | ⟨0, _⟩ => fun _ => rfl
      | ⟨1, _⟩ => fun hx => absurd rfl hx
      | ⟨2, _⟩ => fun _ => rfl
      | ⟨3, _⟩ => fun _ => rfl)
    (by show n.val + 144 = 144 + n.val; omega)

/-- The kernel's long rows are the reference's, the heads side by side. -/
theorem long_eq (c : Dev nD) (z : FVec Ideal S128x4x256 .f32) (b : Fin 128) (q : Fin 148) (h : Fin 4) (l : Fin 64) :
    longRows (val_main_v37 (F := Ideal) (Ca m c)) (val_main_v35 (F := Ideal) (X m c) (Mt m c) (W m c) (G m c)) z (ix3 b ⟨q.val, by omega⟩ ⟨64 * h.val + l.val, head_lane h l⟩)
      = val_main_v38 (F := Ideal) (X m c) (Mt m c) (Ca m c) (W m c) (G m c) (ix4 b q h l) := by
  by_cases hq : q.val < 144
  · exact ((long_old _ _ z b ⟨q.val, hq⟩ _).trans (flat_at _ b ⟨q.val, hq⟩ h l)).trans (ref_old m c b ⟨q.val, hq⟩ h l).symm
  · obtain ⟨n, rfl⟩ : ∃ n : Fin 4, q = ⟨144 + n.val, Nat.add_lt_add_left n.isLt 144⟩ := ⟨⟨q.val - 144, by omega⟩, Fin.ext (by show q.val = 144 + (q.val - 144); omega)⟩
    exact ((long_new _ _ z b n _).trans (new_at _ b n h l)).trans ((new_ref m c b n h l).symm.trans (ref_new m c b n h l).symm)

/-- The kernel's new cache: the rows it keeps for good, and the window's. -/
abbrev keptRows (R : FVec Ideal S128x152x256 .f32) : FVec Ideal S128x144x256 .f32 :=
  concatenate S128x144x256 1 [⟨S128x16x256, extractStridedSlice S128x16x256 ![0, 0, 0] R slices_S128x152x256_S128x16x256_0_0_0⟩,
    ⟨S128x128x256, extractStridedSlice S128x128x256 ![0, 20, 0] R slices_S128x152x256_S128x128x256_0_20_0⟩] concatenates_S128x16x256_S128x128x256_S128x144x256_d1

theorem kept_meta (R : FVec Ideal S128x152x256 .f32) (b : Fin 128) (q : Fin 16) (e : Fin 256) : keptRows R (ix3 b ⟨q.val, by omega⟩ e) = R (ix3 b ⟨q.val, by omega⟩ e) :=
  (concatenate_pair_apply_left (t := S128x144x256) 1 _ _ concatenates_S128x16x256_S128x128x256_S128x144x256_d1 (ix3 b ⟨q.val, by omega⟩ e) rfl (ix3 b q e)
    (fun x => match x with | ⟨0, _⟩ => rfl | ⟨1, _⟩ => rfl | ⟨2, _⟩ => rfl)).trans
  (extractStridedSlice_apply ![0, 0, 0] R slices_S128x152x256_S128x16x256_0_0_0 (ix3 b q e) (ix3 b ⟨q.val, by omega⟩ e) (fun x => match x with
    | ⟨0, _⟩ => by show b.val = 0 + b.val; omega
    | ⟨1, _⟩ => by show q.val = 0 + q.val; omega
    | ⟨2, _⟩ => by show e.val = 0 + e.val; omega))

theorem kept_window (R : FVec Ideal S128x152x256 .f32) (b : Fin 128) (q : Fin 128) (e : Fin 256) : keptRows R (ix3 b ⟨16 + q.val, by omega⟩ e) = R (ix3 b ⟨20 + q.val, by omega⟩ e) :=
  (concatenate_pair_apply_right (t := S128x144x256) 1 _ _ concatenates_S128x16x256_S128x128x256_S128x144x256_d1 (ix3 b ⟨16 + q.val, by omega⟩ e) rfl rfl (ix3 b q e)
    (fun x => match x with
      | ⟨0, _⟩ => fun _ => rfl
      | ⟨1, _⟩ => fun hx => absurd rfl hx
      | ⟨2, _⟩ => fun _ => rfl)
    (by show q.val + 16 = 16 + q.val; omega)).trans
  (extractStridedSlice_apply ![0, 20, 0] R slices_S128x152x256_S128x128x256_0_20_0 (ix3 b q e) (ix3 b ⟨20 + q.val, by omega⟩ e) (fun x => match x with
    | ⟨0, _⟩ => by show b.val = 0 + b.val; omega
    | ⟨1, _⟩ => by show 20 + q.val = 20 + q.val; omega
    | ⟨2, _⟩ => by show e.val = 0 + e.val; omega))

theorem ref_meta (c : Dev nD) (b : Fin 128) (q : Fin 16) (h : Fin 4) (l : Fin 64) :
    val_main_v41 (F := Ideal) (X m c) (Mt m c) (Ca m c) (W m c) (G m c) (ix4 b ⟨q.val, by omega⟩ h l) = val_main_v38 (F := Ideal) (X m c) (Mt m c) (Ca m c) (W m c) (G m c) (ix4 b ⟨q.val, by omega⟩ h l) := by
  have e : val_main_v41 (F := Ideal) (X m c) (Mt m c) (Ca m c) (W m c) (G m c) (ix4 b ⟨q.val, by omega⟩ h l) = val_main_v39 (F := Ideal) (X m c) (Mt m c) (Ca m c) (W m c) (G m c) (ix4 b q h l) := by
    unfold val_main_v41
    generalize val_main_v39 (F := Ideal) (X m c) (Mt m c) (Ca m c) (W m c) (G m c) = p
    generalize val_main_v40 (F := Ideal) (X m c) (Mt m c) (Ca m c) (W m c) (G m c) = y
    exact concatenate_pair_apply_left (t := Cert.ProjSRIdeal.S128x144x4x64) 1 p y _ (ix4 b ⟨q.val, by omega⟩ h l) rfl (ix4 b q h l)
      (fun x => match x with | ⟨0, _⟩ => rfl | ⟨1, _⟩ => rfl | ⟨2, _⟩ => rfl | ⟨3, _⟩ => rfl)
  rw [e, Cert.ProjSRIdeal.Read.val_main_v39_apply]
  refine congrArg _ (funext fun x => Fin.ext ?_)
  match x with
  | ⟨0, _⟩ => rfl
  | ⟨1, _⟩ => rfl
  | ⟨2, _⟩ => rfl
  | ⟨3, _⟩ => rfl

theorem ref_window (c : Dev nD) (b : Fin 128) (q : Fin 128) (h : Fin 4) (l : Fin 64) :
    val_main_v41 (F := Ideal) (X m c) (Mt m c) (Ca m c) (W m c) (G m c) (ix4 b ⟨16 + q.val, by omega⟩ h l) = val_main_v38 (F := Ideal) (X m c) (Mt m c) (Ca m c) (W m c) (G m c) (ix4 b ⟨20 + q.val, by omega⟩ h l) := by
  have e : val_main_v41 (F := Ideal) (X m c) (Mt m c) (Ca m c) (W m c) (G m c) (ix4 b ⟨16 + q.val, by omega⟩ h l) = val_main_v40 (F := Ideal) (X m c) (Mt m c) (Ca m c) (W m c) (G m c) (ix4 b q h l) := by
    unfold val_main_v41
    generalize val_main_v39 (F := Ideal) (X m c) (Mt m c) (Ca m c) (W m c) (G m c) = p
    generalize val_main_v40 (F := Ideal) (X m c) (Mt m c) (Ca m c) (W m c) (G m c) = y
    exact concatenate_pair_apply_right (t := Cert.ProjSRIdeal.S128x144x4x64) 1 p y _ (ix4 b ⟨16 + q.val, by omega⟩ h l) rfl rfl (ix4 b q h l)
      (fun x => match x with
        | ⟨0, _⟩ => fun _ => rfl
        | ⟨1, _⟩ => fun hx => absurd rfl hx
        | ⟨2, _⟩ => fun _ => rfl
        | ⟨3, _⟩ => fun _ => rfl)
      (by show q.val + 16 = 16 + q.val; omega)
  rw [e, Cert.ProjSRIdeal.Read.val_main_v40_apply]
  refine congrArg _ (funext fun x => Fin.ext ?_)
  match x with
  | ⟨0, _⟩ => rfl
  | ⟨1, _⟩ => rfl
  | ⟨2, _⟩ => rfl
  | ⟨3, _⟩ => rfl

/-- The kernel's lines for the cache of values give the reference's. -/
theorem cache (c : Dev nD) (A : FVec Ideal S528x9728 .f32) (z : FVec Ideal S128x4x256 .f32) (hA : A = val_main_v27 (F := Ideal) (X m c) (Mt m c) (W m c) (G m c)) :
    broadcastInDim S1x128x144x4x64 ![1, 2, 3, 4] bcast_S128x144x4x64_S1x128x144x4x64_1_2_3_4 (shapeCast S128x144x4x64
      (keptRows (longRows (shapeCast S128x144x4x64 (Ca m c) shapeCasts_S1x128x144x4x64_S128x144x4x64) (extractStridedSlice S512x256 ![0, 9472] A slices_S528x9728_S512x256_0_9472) z)) shapeCasts_S128x144x256_S128x144x4x64)
      = val_main_v43 (F := Ideal) (X m c) (Mt m c) (Ca m c) (W m c) (G m c) := by
  subst hA
  rw [values]
  unfold val_main_v43
  refine congrArg (broadcastInDim (s := S128x144x4x64) S1x128x144x4x64 ![1, 2, 3, 4] bcast_S128x144x4x64_S1x128x144x4x64_1_2_3_4) (funext fun i => ?_)
  obtain ⟨b, q, h, l, rfl⟩ : ∃ (b : Fin 128) (q : Fin 144) (h : Fin 4) (l : Fin 64), i = ix4 b q h l :=
    ⟨i 0, i 1, i 2, i 3, funext fun x => match x with | ⟨0, _⟩ => rfl | ⟨1, _⟩ => rfl | ⟨2, _⟩ => rfl | ⟨3, _⟩ => rfl⟩
  refine (heads_at _ b q h l).trans ?_
  by_cases hq : q.val < 16
  · exact (kept_meta _ b ⟨q.val, hq⟩ _).trans ((long_eq m c z b ⟨q.val, by omega⟩ h l).trans (ref_meta m c b ⟨q.val, hq⟩ h l).symm)
  · obtain ⟨n, rfl⟩ : ∃ n : Fin 128, q = ⟨16 + n.val, Nat.add_lt_add_left n.isLt 16⟩ := ⟨⟨q.val - 16, by omega⟩, Fin.ext (by show q.val = 16 + (q.val - 16); omega)⟩
    exact (kept_window _ b n _).trans ((long_eq m c z b ⟨20 + n.val, by omega⟩ h l).trans (ref_window m c b n h l).symm)

/-- The rolling state that the kernel's last lines leave. -/
theorem tail_conv (c : Dev nD) : Pipeline.afterTail₀ cfgs (dats m) 0 (V0 m) [hostOps1] c main_v31
    = val_main_v42 (F := Ideal) (X m c) (Mt m c) (Cv m c) (W m c) (G m c) := by
  unfold Pipeline.afterTail₀
  simp only [hostOps1, List.flatten_cons, List.flatten_nil, List.append_nil, List.cons_append, List.nil_append]
  after_results
  rw [Pipeline.withArrays_of_ne spec0 c (V0 m c) _ main_arg2 (by exact (by decide : ∀ w, Pipeline.arrRef spec0 w ≠ main_arg2))]
  rw [show V0 m c (Proc.devRef .tc main_arg2) = m ((c : Thread nD τ).loc main_arg2) from V_main_arg2 m c]
  exact conv m c _ ((Pipeline.withArrays_arr spec0 (by decide) c (V0 m c) _ 4).trans (final4 m c))

/-- What the lines for the cache leave, over any contents before them. -/
theorem after_cache (U : Valuation τ sig (Elt Ideal)) : StableHlo.after hostOps1 U (Proc.devRef .tc main_v36)
    = broadcastInDim S1x128x144x4x64 ![1, 2, 3, 4] bcast_S128x144x4x64_S1x128x144x4x64_1_2_3_4 (shapeCast S128x144x4x64
      (keptRows (longRows (shapeCast S128x144x4x64 (U (Proc.devRef .tc main_arg3)) shapeCasts_S1x128x144x4x64_S128x144x4x64) (extractStridedSlice S512x256 ![0, 9472] (U (Proc.devRef .tc main_v19_0)) slices_S528x9728_S512x256_0_9472)
        (broadcastInDim S128x4x256 ![] bcast_S_S128x4x256 (constant S_ .f32 0#32)))) shapeCasts_S128x144x256_S128x144x4x64) := by
  unfold hostOps1
  after_results_entrywise (rounds := 1) []

/-- The cache of values that they leave. -/
theorem tail_cache (c : Dev nD) : Pipeline.afterTail₀ cfgs (dats m) 0 (V0 m) [hostOps1] c main_v36
    = val_main_v43 (F := Ideal) (X m c) (Mt m c) (Ca m c) (W m c) (G m c) := by
  unfold Pipeline.afterTail₀
  rw [show ([hostOps1] : List (List (HloOp τ sig (Elt Ideal)))).flatten = hostOps1 from List.append_nil _, after_cache]
  rw [Pipeline.withArrays_of_ne spec0 c (V0 m c) _ main_arg3 (by exact (by decide : ∀ w, Pipeline.arrRef spec0 w ≠ main_arg3))]
  rw [show V0 m c (Proc.devRef .tc main_arg3) = m ((c : Thread nD τ).loc main_arg3) from V_main_arg3 m c]
  exact cache m c _ _ ((Pipeline.withArrays_arr spec0 (by decide) c (V0 m c) _ 4).trans (final4 m c))

end Cert.ProjSKIdeal.Val

end
-- ==== Proof.ProjS.Claims.lean ====
/- The claims about the input projection. -/
module

public import proofs.«01_k».proof.Defs
public import proofs.«01_k».proof.Proof.ProjS.Kernel.Exact
public import proofs.«01_k».proof.Proof.ProjS.Exact
public import proofs.«01_k».proof.Proof.Gen.ProjSRIdeal
public import proofs.«01_k».proof.Proof.ProjS.Value
public import proofs.«01_k».proof.Proof.ProjS.Tail
public import Idealize.ShloMosaic.Lib.Claim

@[expose] public section

set_option maxRecDepth 16384

noncomputable section

namespace Cert.ProjSClaims

open Idealize.ShloMosaic Idealize.ShloMosaic.TcCoe Idealize.SL.Sem

/-- The kernel's frame. -/
theorem quiescent_kernel : Cert.quiescent_ProjSK (hProjSK := Cert.ProjSK.Gen.facts) :=
  fun m g _ => Cert.ProjSK.Gen.frame m g

/-- The frame of the kernel over the reals. -/
theorem quiescent_ideal : Cert.quiescent_ProjSKIdeal (hProjSKIdeal := Cert.ProjSKIdeal.Gen.facts) :=
  fun m g _ => Cert.ProjSKIdeal.Gen.frame m g

/-- The reference's frame. -/
theorem quiescent_reference : Cert.quiescent_ProjSRIdeal (hProjSRIdeal := Cert.ProjSRIdeal.Gen.facts) := by
  intro m g _
  exact (θ_run Cert.ProjSRIdeal.defs _ _).mono (fun r h => ⟨fun c => (h c).2.2.2.2, sem_eq_zero_of_no_sems (by decide) r.2⟩)
    (Cert.ProjSRIdeal.Value.run (F := Ideal) m g)

set_option maxHeartbeats 600000 in
/-- The kernel's four results are the reference's. -/
theorem algebraic : Cert.algebraic_ProjSKIdeal_ProjSRIdeal (hProjSKIdeal := Cert.ProjSKIdeal.Gen.facts)
    (hProjSRIdeal := Cert.ProjSRIdeal.Gen.facts) := by
  pair_intro
  · run_from Cert.ProjSKIdeal.Gen.run_main m g
    · exact Cert.ProjSKIdeal.Gen.W_main_arg0 m _ c
    · exact Cert.ProjSKIdeal.Gen.W_main_arg1 m _ c
    · exact Cert.ProjSKIdeal.Gen.W_main_arg2 m _ c
    · exact Cert.ProjSKIdeal.Gen.W_main_arg3 m _ c
    · exact Cert.ProjSKIdeal.Gen.W_main_arg4 m _ c
    · exact Cert.ProjSKIdeal.Gen.W_main_arg5 m _ c
  · run_from Cert.ProjSRIdeal.Value.run m' g'
    · refine (Cert.ProjSRIdeal.Read.val_main_v27_eq (F := Ideal) m' c).trans ?_
      rw [(hagree c).1, (hagree c).2.1, (hagree c).2.2.2.2.1, (hagree c).2.2.2.2.2]
      exact (Cert.ProjSKIdeal.Val.final4 m c).symm
    · refine (Cert.ProjSRIdeal.Read.val_main_v29_eq (F := Ideal) _ _ _ _).trans ?_
      try rw [(hagree c).1]
      try rw [(hagree c).2.1]
      try rw [(hagree c).2.2.1]
      try rw [(hagree c).2.2.2.2.1]
      try rw [(hagree c).2.2.2.2.2]
      exact (Cert.ProjSKIdeal.Val.final5 m c).symm
    · refine (Cert.ProjSRIdeal.Read.val_main_v42_eq (F := Ideal) _ _ _ _ _).trans ?_
      try rw [(hagree c).1]
      try rw [(hagree c).2.1]
      try rw [(hagree c).2.2.1]
      try rw [(hagree c).2.2.2.2.1]
      try rw [(hagree c).2.2.2.2.2]
      exact (Cert.ProjSKIdeal.Val.tail_conv m c).symm
    · refine (Cert.ProjSRIdeal.Read.val_main_v43_eq (F := Ideal) m' c).trans ?_
      rw [(hagree c).1, (hagree c).2.1, (hagree c).2.2.2.1, (hagree c).2.2.2.2.1, (hagree c).2.2.2.2.2]
      exact (Cert.ProjSKIdeal.Val.tail_cache m c).symm

end Cert.ProjSClaims

end
-- ==== Proof.Out.Pieces.lean ====
/- What one grid point of the output projection leaves: the new rows, and the normalised rows in their slabs. -/
module

public import proofs.«01_k».proof.Proof.Gen.OutKIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutKIdeal.Val

open Cert.OutKIdeal Cert.OutKIdeal.Gen

theorem hz : (![0, 0] : Fin 2 → Nat) = fun _ => 0 := funext fun a => by fin_cases a <;> rfl

/-- A row's slabs: lane `l` of slab `s` is column `256 s + l`. -/
def slab (v : FVec Ideal S256x2048 .f32) : FVec Ideal S256x8x256 .f32 := fun y =>
  v (ix2 (y 0) ⟨256 * (y 1).val + (y 2).val, by have h1 : (y 1).val < 8 := (y 1).isLt; have h2 : (y 2).val < 256 := (y 2).isLt; omega⟩)

/-- The store of slab `s` holds the slab's columns. -/
theorem slab_piece (v : FVec Ideal S256x2048 .f32) (s o : ℕ) (ho : o = 256 * s) (hs : s < 8) (hi : ∀ a, ![0, s, 0] a + S256x1x256.size a ≤ S256x8x256.size a) (hv : S256x2048.Slices ![0, o] S256x256)
    (x : S256x1x256.Idx) : shapeCast S256x1x256 (extractStridedSlice S256x256 ![0, o] v hv) shapeCasts_S256x256_S256x1x256 x
      = slab v ((Rect.unit (s := S256x8x256) ![0, s, 0] S256x1x256.size hi).emb x) := by
  subst ho
  unfold slab
  obtain ⟨a, b, d, rfl⟩ : ∃ (a : Fin 256) (b : Fin 1) (d : Fin 256), x = ix3 a b d := ⟨x 0, x 1, x 2, funext fun z => match z with | ⟨0, _⟩ => rfl | ⟨1, _⟩ => rfl | ⟨2, _⟩ => rfl⟩
  pointwise
  have hb : b.val = 0 := by omega
  refine congrArg v (funext fun z => Fin.ext ?_)
  match z with
  | ⟨0, _⟩ => show a.val = 0 + 1 * a.val; omega
  | ⟨1, _⟩ => show 256 * s + d.val = 256 * (s + 1 * b.val) + (0 + 1 * d.val); omega

theorem out_A_7 (c : Dev nD) (i : grid0.Coords) (a1 : Memref sig .tc .vmem S256x2048 .bf16) (h1 : a1.IsWhole) (a2 : Memref sig .tc .vmem S256x2048 .f32) (h2 : a2.IsWhole) (a3 : Memref sig .tc .vmem S2048x2048 .bf16) (h3 : a3.IsWhole) (a4 : Memref sig .tc .vmem S1x2048 .f32) (h4 : a4.IsWhole) (a5 : Memref sig .tc .vmem S2048x128 .bf16) (h5 : a5.IsWhole) (a6 : Memref sig .tc .vmem S1x128 .f32) (h6 : a6.IsWhole) (a7 : Memref sig .tc .vmem S1x128 .f32) (h7 : a7.IsWhole) (a8 : Memref sig .tc .vmem S256x2048 .f32) (h8 : a8.IsWhole) (a9 : Memref sig .tc .vmem S256x8x256 .f32) (h9 : a9.IsWhole) (a10 : Memref sig .tc .vmem S256x128 .f32) (h10 : a10.IsWhole) (a11 : Memref sig .tc .vmem S256x128 .i32) (h11 : a11.IsWhole) (a12 : Memref sig .tc .vmem S1x128 .f32) (h12 : a12.IsWhole) (hc0 : cond0_0 i)
    (x0 : Vec Ideal S256x2048 .bf16) (x1 : Vec Ideal S256x2048 .f32) (x2 : Vec Ideal S2048x2048 .bf16) (x3 : Vec Ideal S1x2048 .f32) (x4 : Vec Ideal S2048x128 .bf16) (x5 : Vec Ideal S1x128 .f32) (x6 : Vec Ideal S1x128 .f32) :
    out0_A_7 (F := Ideal) c i a1 h1 a2 h2 a3 h3 a4 h4 a5 h5 a6 h6 a7 h7 a8 h8 a9 h9 a10 h10 a11 h11 a12 h12 hc0 x0 x1 x2 x3 x4 x5 x6 = k0_pay3 x1 x0 x2 := by
  unfold out0_A_7
  rw [View.read_writes_eq_canon _ _ _ (cover0_A_7 c i a1 h1 a2 h2 a3 h3 a4 h4 a5 h5 a6 h6 a7 h7 a8 h8 a9 h9 a10 h10 a11 h11 a12 h12 hc0 x0 x1 x2 x3 x4 x5 x6)]
  unfold kernelRun0_A
  dsimp only
  sl_unfold_words
  rw [View.canon_unit_zero hz]
  simp only [View.readAt_eq_ld, h1.read_unread, h2.read_unread, h3.read_unread, View.ld_unit_zero (S := S256x2048) hz, View.ld_unit_zero (S := S2048x2048) hz]

theorem out_A_8 (c : Dev nD) (i : grid0.Coords) (a1 : Memref sig .tc .vmem S256x2048 .bf16) (h1 : a1.IsWhole) (a2 : Memref sig .tc .vmem S256x2048 .f32) (h2 : a2.IsWhole) (a3 : Memref sig .tc .vmem S2048x2048 .bf16) (h3 : a3.IsWhole) (a4 : Memref sig .tc .vmem S1x2048 .f32) (h4 : a4.IsWhole) (a5 : Memref sig .tc .vmem S2048x128 .bf16) (h5 : a5.IsWhole) (a6 : Memref sig .tc .vmem S1x128 .f32) (h6 : a6.IsWhole) (a7 : Memref sig .tc .vmem S1x128 .f32) (h7 : a7.IsWhole) (a8 : Memref sig .tc .vmem S256x2048 .f32) (h8 : a8.IsWhole) (a9 : Memref sig .tc .vmem S256x8x256 .f32) (h9 : a9.IsWhole) (a10 : Memref sig .tc .vmem S256x128 .f32) (h10 : a10.IsWhole) (a11 : Memref sig .tc .vmem S256x128 .i32) (h11 : a11.IsWhole) (a12 : Memref sig .tc .vmem S1x128 .f32) (h12 : a12.IsWhole) (hc0 : cond0_0 i)
    (x0 : Vec Ideal S256x2048 .bf16) (x1 : Vec Ideal S256x2048 .f32) (x2 : Vec Ideal S2048x2048 .bf16) (x3 : Vec Ideal S1x2048 .f32) (x4 : Vec Ideal S2048x128 .bf16) (x5 : Vec Ideal S1x128 .f32) (x6 : Vec Ideal S1x128 .f32) :
    out0_A_8 (F := Ideal) c i a1 h1 a2 h2 a3 h3 a4 h4 a5 h5 a6 h6 a7 h7 a8 h8 a9 h9 a10 h10 a11 h11 a12 h12 hc0 x0 x1 x2 x3 x4 x5 x6 = slab (k0_pay4 x1 x0 x2 x3) := by
  unfold out0_A_8
  rw [View.read_writes_eq_canon _ _ _ (cover0_A_8 c i a1 h1 a2 h2 a3 h3 a4 h4 a5 h5 a6 h6 a7 h7 a8 h8 a9 h9 a10 h10 a11 h11 a12 h12 hc0 x0 x1 x2 x3 x4 x5 x6)]
  funext y
  refine View.canon_apply_of_pieces (slab (k0_pay4 x1 x0 x2 x3)) _ ?_ y (cover0_A_8 c i a1 h1 a2 h2 a3 h3 a4 h4 a5 h5 a6 h6 a7 h7 a8 h8 a9 h9 a10 h10 a11 h11 a12 h12 hc0 x0 x1 x2 x3 x4 x5 x6 y)
  unfold kernelRun0_A
  dsimp only
  sl_unfold_words
  simp only [View.readAt_eq_ld, h1.read_unread, h2.read_unread, h3.read_unread, h4.read_unread, View.ld_unit_zero (S := S256x2048) hz, View.ld_unit_zero (S := S2048x2048) hz, View.ld_unit_zero (S := S1x2048) hz]
  refine List.forall_mem_cons.2 ⟨fun x => slab_piece (k0_pay4 x1 x0 x2 x3) 7 1792 rfl (by decide) inb_S256x8x256_S256x1x256_0_7_0 slices_S256x2048_o0_1792_S256x256 x, List.forall_mem_cons.2 ⟨fun x => slab_piece (k0_pay4 x1 x0 x2 x3) 6 1536 rfl (by decide) inb_S256x8x256_S256x1x256_0_6_0 slices_S256x2048_o0_1536_S256x256 x,
    List.forall_mem_cons.2 ⟨fun x => slab_piece (k0_pay4 x1 x0 x2 x3) 5 1280 rfl (by decide) inb_S256x8x256_S256x1x256_0_5_0 slices_S256x2048_o0_1280_S256x256 x, List.forall_mem_cons.2 ⟨fun x => slab_piece (k0_pay4 x1 x0 x2 x3) 4 1024 rfl (by decide) inb_S256x8x256_S256x1x256_0_4_0 slices_S256x2048_o0_1024_S256x256 x,
    List.forall_mem_cons.2 ⟨fun x => slab_piece (k0_pay4 x1 x0 x2 x3) 3 768 rfl (by decide) inb_S256x8x256_S256x1x256_0_3_0 slices_S256x2048_o0_768_S256x256 x, List.forall_mem_cons.2 ⟨fun x => slab_piece (k0_pay4 x1 x0 x2 x3) 2 512 rfl (by decide) inb_S256x8x256_S256x1x256_0_2_0 slices_S256x2048_o0_512_S256x256 x,
    List.forall_mem_cons.2 ⟨fun x => slab_piece (k0_pay4 x1 x0 x2 x3) 1 256 rfl (by decide) inb_S256x8x256_S256x1x256_0_1_0 slices_S256x2048_o0_256_S256x256 x, List.forall_mem_cons.2 ⟨fun x => slab_piece (k0_pay4 x1 x0 x2 x3) 0 0 rfl (by decide) inb_S256x8x256_S256x1x256_0_0_0 slices_S256x2048_o0_0_S256x256 x, fun p hp => absurd hp List.not_mem_nil⟩⟩⟩⟩⟩⟩⟩⟩

theorem out_B_7 (c : Dev nD) (i : grid0.Coords) (a1 : Memref sig .tc .vmem S256x2048 .bf16) (h1 : a1.IsWhole) (a2 : Memref sig .tc .vmem S256x2048 .f32) (h2 : a2.IsWhole) (a3 : Memref sig .tc .vmem S2048x2048 .bf16) (h3 : a3.IsWhole) (a4 : Memref sig .tc .vmem S1x2048 .f32) (h4 : a4.IsWhole) (a5 : Memref sig .tc .vmem S2048x128 .bf16) (h5 : a5.IsWhole) (a6 : Memref sig .tc .vmem S1x128 .f32) (h6 : a6.IsWhole) (a7 : Memref sig .tc .vmem S1x128 .f32) (h7 : a7.IsWhole) (a8 : Memref sig .tc .vmem S256x2048 .f32) (h8 : a8.IsWhole) (a9 : Memref sig .tc .vmem S256x8x256 .f32) (h9 : a9.IsWhole) (a10 : Memref sig .tc .vmem S256x128 .f32) (h10 : a10.IsWhole) (a11 : Memref sig .tc .vmem S256x128 .i32) (h11 : a11.IsWhole) (a12 : Memref sig .tc .vmem S1x128 .f32) (h12 : a12.IsWhole) (hc0 : ¬cond0_0 i)
    (x0 : Vec Ideal S256x2048 .bf16) (x1 : Vec Ideal S256x2048 .f32) (x2 : Vec Ideal S2048x2048 .bf16) (x3 : Vec Ideal S1x2048 .f32) (x4 : Vec Ideal S2048x128 .bf16) (x5 : Vec Ideal S1x128 .f32) (x6 : Vec Ideal S1x128 .f32) (xo11 : Vec Ideal S1x128 .f32) :
    out0_B_7 (F := Ideal) c i a1 h1 a2 h2 a3 h3 a4 h4 a5 h5 a6 h6 a7 h7 a8 h8 a9 h9 a10 h10 a11 h11 a12 h12 hc0 x0 x1 x2 x3 x4 x5 x6 xo11 = k0_pay3 x1 x0 x2 := by
  unfold out0_B_7
  rw [View.read_writes_eq_canon _ _ _ (cover0_B_7 c i a1 h1 a2 h2 a3 h3 a4 h4 a5 h5 a6 h6 a7 h7 a8 h8 a9 h9 a10 h10 a11 h11 a12 h12 hc0 x0 x1 x2 x3 x4 x5 x6 xo11)]
  unfold kernelRun0_B
  dsimp only
  sl_unfold_words
  rw [View.canon_unit_zero hz]
  simp only [View.readAt_eq_ld, h1.read_unread, h2.read_unread, h3.read_unread, View.ld_unit_zero (S := S256x2048) hz, View.ld_unit_zero (S := S2048x2048) hz]

theorem out_B_8 (c : Dev nD) (i : grid0.Coords) (a1 : Memref sig .tc .vmem S256x2048 .bf16) (h1 : a1.IsWhole) (a2 : Memref sig .tc .vmem S256x2048 .f32) (h2 : a2.IsWhole) (a3 : Memref sig .tc .vmem S2048x2048 .bf16) (h3 : a3.IsWhole) (a4 : Memref sig .tc .vmem S1x2048 .f32) (h4 : a4.IsWhole) (a5 : Memref sig .tc .vmem S2048x128 .bf16) (h5 : a5.IsWhole) (a6 : Memref sig .tc .vmem S1x128 .f32) (h6 : a6.IsWhole) (a7 : Memref sig .tc .vmem S1x128 .f32) (h7 : a7.IsWhole) (a8 : Memref sig .tc .vmem S256x2048 .f32) (h8 : a8.IsWhole) (a9 : Memref sig .tc .vmem S256x8x256 .f32) (h9 : a9.IsWhole) (a10 : Memref sig .tc .vmem S256x128 .f32) (h10 : a10.IsWhole) (a11 : Memref sig .tc .vmem S256x128 .i32) (h11 : a11.IsWhole) (a12 : Memref sig .tc .vmem S1x128 .f32) (h12 : a12.IsWhole) (hc0 : ¬cond0_0 i)
    (x0 : Vec Ideal S256x2048 .bf16) (x1 : Vec Ideal S256x2048 .f32) (x2 : Vec Ideal S2048x2048 .bf16) (x3 : Vec Ideal S1x2048 .f32) (x4 : Vec Ideal S2048x128 .bf16) (x5 : Vec Ideal S1x128 .f32) (x6 : Vec Ideal S1x128 .f32) (xo11 : Vec Ideal S1x128 .f32) :
    out0_B_8 (F := Ideal) c i a1 h1 a2 h2 a3 h3 a4 h4 a5 h5 a6 h6 a7 h7 a8 h8 a9 h9 a10 h10 a11 h11 a12 h12 hc0 x0 x1 x2 x3 x4 x5 x6 xo11 = slab (k0_pay4 x1 x0 x2 x3) := by
  unfold out0_B_8
  rw [View.read_writes_eq_canon _ _ _ (cover0_B_8 c i a1 h1 a2 h2 a3 h3 a4 h4 a5 h5 a6 h6 a7 h7 a8 h8 a9 h9 a10 h10 a11 h11 a12 h12 hc0 x0 x1 x2 x3 x4 x5 x6 xo11)]
  funext y
  refine View.canon_apply_of_pieces (slab (k0_pay4 x1 x0 x2 x3)) _ ?_ y (cover0_B_8 c i a1 h1 a2 h2 a3 h3 a4 h4 a5 h5 a6 h6 a7 h7 a8 h8 a9 h9 a10 h10 a11 h11 a12 h12 hc0 x0 x1 x2 x3 x4 x5 x6 xo11 y)
  unfold kernelRun0_B
  dsimp only
  sl_unfold_words
  simp only [View.readAt_eq_ld, h1.read_unread, h2.read_unread, h3.read_unread, h4.read_unread, View.ld_unit_zero (S := S256x2048) hz, View.ld_unit_zero (S := S2048x2048) hz, View.ld_unit_zero (S := S1x2048) hz]
  refine List.forall_mem_cons.2 ⟨fun x => slab_piece (k0_pay4 x1 x0 x2 x3) 7 1792 rfl (by decide) inb_S256x8x256_S256x1x256_0_7_0 slices_S256x2048_o0_1792_S256x256 x, List.forall_mem_cons.2 ⟨fun x => slab_piece (k0_pay4 x1 x0 x2 x3) 6 1536 rfl (by decide) inb_S256x8x256_S256x1x256_0_6_0 slices_S256x2048_o0_1536_S256x256 x,
    List.forall_mem_cons.2 ⟨fun x => slab_piece (k0_pay4 x1 x0 x2 x3) 5 1280 rfl (by decide) inb_S256x8x256_S256x1x256_0_5_0 slices_S256x2048_o0_1280_S256x256 x, List.forall_mem_cons.2 ⟨fun x => slab_piece (k0_pay4 x1 x0 x2 x3) 4 1024 rfl (by decide) inb_S256x8x256_S256x1x256_0_4_0 slices_S256x2048_o0_1024_S256x256 x,
    List.forall_mem_cons.2 ⟨fun x => slab_piece (k0_pay4 x1 x0 x2 x3) 3 768 rfl (by decide) inb_S256x8x256_S256x1x256_0_3_0 slices_S256x2048_o0_768_S256x256 x, List.forall_mem_cons.2 ⟨fun x => slab_piece (k0_pay4 x1 x0 x2 x3) 2 512 rfl (by decide) inb_S256x8x256_S256x1x256_0_2_0 slices_S256x2048_o0_512_S256x256 x,
    List.forall_mem_cons.2 ⟨fun x => slab_piece (k0_pay4 x1 x0 x2 x3) 1 256 rfl (by decide) inb_S256x8x256_S256x1x256_0_1_0 slices_S256x2048_o0_256_S256x256 x, List.forall_mem_cons.2 ⟨fun x => slab_piece (k0_pay4 x1 x0 x2 x3) 0 0 rfl (by decide) inb_S256x8x256_S256x1x256_0_0_0 slices_S256x2048_o0_0_S256x256 x, fun p hp => absurd hp List.not_mem_nil⟩⟩⟩⟩⟩⟩⟩⟩

end Cert.OutKIdeal.Val

end
-- ==== Proof.Out.Value.lean ====
/- The value of the output projection: each entry of the new rows, and of their normalised rows, is the reference's. -/
module

public import proofs.«01_k».proof.Proof.Out.Pieces
public import proofs.«01_k».proof.Proof.Gen.OutRIdeal.Run
public import proofs.«01_k».proof.Proof.Gen.OutRIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutKIdeal.Val

open Cert.OutKIdeal Cert.OutKIdeal.Gen
open Cert.OutRIdeal.Read (val_main_v0 val_main_v1 val_main_v3 val_main_v15 val_main_v17 val_main_v18)

variable (m : (ℓ : Loc nD τ sig) → Buf (Elt Ideal) ℓ)

abbrev Mg (c : Dev nD) : FVec Ideal S16384x2048 .bf16 := m ((c : Thread nD τ).loc main_arg0)
abbrev X (c : Dev nD) : FVec Ideal S16384x2048 .f32 := m ((c : Thread nD τ).loc main_arg1)
abbrev W (c : Dev nD) : FVec Ideal S1x2048x2048 .f32 := m ((c : Thread nD τ).loc main_arg2)
abbrev G (c : Dev nD) : FVec Ideal S1x2048 .f32 := m ((c : Thread nD τ).loc main_arg3)

theorem idx2_eq {a b : ℕ} (y : (⟨2, ![a, b]⟩ : Shape).Idx) : y = ix2 (y 0) (y 1) :=
  funext fun i => match i with
  | ⟨0, _⟩ => rfl
  | ⟨1, _⟩ => rfl

/-- Which block each window stages at point `t`. -/
theorem idx : ∀ t : Fin cfg0.N, win0_0.index t = ![t.val, 0] ∧ win0_1.index t = ![t.val, 0]
    ∧ win0_2.index t = ![0, 0] ∧ win0_3.index t = ![0, 0] ∧ win0_7.index t = ![t.val, 0] ∧ win0_8.index t = ![t.val, 0, 0] :=
  (by decide +kernel : ∀ t : Fin grid0.N, _)

theorem row_lt (t : Fin cfg0.N) (r : Fin 256) : t.val * 256 + r.val < 16384 := by
  have ht : t.val < 64 := t.isLt
  have := r.isLt
  omega

theorem iblk0_at (c : Dev nD) (t : Fin cfg0.N) (r : Fin 256) (k : Fin 2048) :
    (iblk m c 0 t : Vec Ideal S256x2048 .bf16) (ix2 r k) = Mg m c (ix2 ⟨t.val * 256 + r.val, row_lt t r⟩ k) := by
  blk_ext [iblk, idx t]

theorem iblk1_at (c : Dev nD) (t : Fin cfg0.N) (r : Fin 256) (k : Fin 2048) :
    (iblk m c 1 t : Vec Ideal S256x2048 .f32) (ix2 r k) = X m c (ix2 ⟨t.val * 256 + r.val, row_lt t r⟩ k) := by
  blk_ext [iblk, idx t]

theorem V_w (c : Dev nD) : (V m c main_v1 : Vec Ideal S2048x2048 .bf16) = val_main_v1 (F := Ideal) (W m c) := by
  unfold V
  after_results
  rfl

theorem V_g (c : Dev nD) : (V m c main_v13 : Vec Ideal S1x2048 .f32) = val_main_v15 (F := Ideal) (G m c) := by
  unfold V
  after_results
  rfl

theorem iblk2_eq (c : Dev nD) (t : Fin cfg0.N) : (iblk m c 2 t : Vec Ideal S2048x2048 .bf16) = val_main_v1 (F := Ideal) (W m c) := by
  rw [← V_w]
  funext y
  obtain ⟨k, l, rfl⟩ : ∃ k l, y = ix2 k l := ⟨y 0, y 1, idx2_eq y⟩
  blk_ext [iblk, idx t]

theorem iblk3_eq (c : Dev nD) (t : Fin cfg0.N) : (iblk m c 3 t : Vec Ideal S1x2048 .f32) = val_main_v15 (F := Ideal) (G m c) := by
  rw [← V_g]
  funext y
  obtain ⟨k, l, rfl⟩ : ∃ k l, y = ix2 k l := ⟨y 0, y 1, idx2_eq y⟩
  blk_ext [iblk, idx t]

theorem dot_at (c : Dev nD) (r : Fin 16384) (j : Fin 2048) : val_main_v3 (F := Ideal) (Mg m c) (X m c) (W m c) (ix2 r j)
    = X m c (ix2 r j) + ∑ k : Fin 2048, Mg m c (ix2 r k) * val_main_v1 (F := Ideal) (W m c) (ix2 k j) := by
  unfold val_main_v3 Cert.OutRIdeal.Read.val_main_v2 Cert.OutRIdeal.Read.val_main_v0
  generalize val_main_v1 (F := Ideal) (W m c) = w
  pointwise

/-- The new rows of a block: the residual and the product with the output weights. -/
theorem h2_at (x : Vec Ideal S256x2048 .f32) (a : Vec Ideal S256x2048 .bf16) (w : Vec Ideal S2048x2048 .bf16) (r : Fin 256) (l : Fin 2048) :
    k0_pay3 (F := Ideal) x a w (ix2 r l) = x (ix2 r l) + ∑ k : Fin 2048, a (ix2 r k) * w (ix2 k l) := by
  pointwise [k0_pay3]

/-- One element of the new rows. -/
theorem h2_elt (c : Dev nD) (t : Fin cfg0.N) (r : Fin 256) (l : Fin 2048) :
    k0_pay3 (F := Ideal) (iblk m c 1 t) (iblk m c 0 t) (iblk m c 2 t) (ix2 r l)
      = val_main_v3 (F := Ideal) (Mg m c) (X m c) (W m c) (ix2 ⟨t.val * 256 + r.val, row_lt t r⟩ l) := by
  rw [dot_at, iblk2_eq]
  refine (h2_at _ _ _ r l).trans ?_
  refine congrArg₂ (fun p q : EReal => p + q) (iblk1_at m c t r l) ?_
  exact Finset.sum_congr rfl fun k _ => congrArg (fun p : EReal => p * val_main_v1 (F := Ideal) (W m c) (ix2 k l)) (iblk0_at m c t r k)

/-- The normalisation, of rows whose entries are given. -/
theorem norm_at (x : Vec Ideal S256x2048 .f32) (a : Vec Ideal S256x2048 .bf16) (w : Vec Ideal S2048x2048 .bf16) (g : Vec Ideal S1x2048 .f32) (r : Fin 256) (l : Fin 2048) :
    k0_pay4 (F := Ideal) x a w g (ix2 r l) = k0_pay3 (F := Ideal) x a w (ix2 r l)
      * Ideal.rsqrt (Ideal.div (∑ k : Fin 2048, k0_pay3 (F := Ideal) x a w (ix2 r k) * k0_pay3 (F := Ideal) x a w (ix2 r k)) (Ideal.ofBits .f32 0x45000000#32)
        + Ideal.ofBits .f32 0x358637BD#32) * g (ix2 0 l) := by
  unfold k0_pay4
  generalize k0_pay3 (F := Ideal) x a w = h
  pointwise

theorem ref_norm (c : Dev nD) (r : Fin 16384) (l : Fin 2048) :
    val_main_v17 (F := Ideal) (Mg m c) (X m c) (W m c) (G m c) (ix2 r l) = val_main_v3 (F := Ideal) (Mg m c) (X m c) (W m c) (ix2 r l)
      * Ideal.rsqrt (Ideal.div (∑ k : Fin 2048, val_main_v3 (F := Ideal) (Mg m c) (X m c) (W m c) (ix2 r k) * val_main_v3 (F := Ideal) (Mg m c) (X m c) (W m c) (ix2 r k)) (Ideal.ofBits .f32 0x45000000#32)
        + Ideal.ofBits .f32 0x358637BD#32) * val_main_v15 (F := Ideal) (G m c) (ix2 0 l) := by
  unfold val_main_v17 Cert.OutRIdeal.Read.val_main_v16 Cert.OutRIdeal.Read.val_main_v13 Cert.OutRIdeal.Read.val_main_v12 Cert.OutRIdeal.Read.val_main_v11 Cert.OutRIdeal.Read.val_main_v10 Cert.OutRIdeal.Read.val_main_v9 Cert.OutRIdeal.Read.val_main_v8 Cert.OutRIdeal.Read.val_main_v7 Cert.OutRIdeal.Read.val_main_v6 Cert.OutRIdeal.Read.val_main_v5 Cert.OutRIdeal.Read.val_main_v4 Cert.OutRIdeal.Read.val_main_cst Cert.OutRIdeal.Read.val_main_cst_0 Cert.OutRIdeal.Read.val_main_cst_1
  generalize val_main_v3 (F := Ideal) (Mg m c) (X m c) (W m c) = h
  generalize val_main_v15 (F := Ideal) (G m c) = g
  pointwise

theorem xn_elt (c : Dev nD) (t : Fin cfg0.N) (r : Fin 256) (l : Fin 2048) :
    k0_pay4 (F := Ideal) (iblk m c 1 t) (iblk m c 0 t) (iblk m c 2 t) (iblk m c 3 t) (ix2 r l)
      = val_main_v17 (F := Ideal) (Mg m c) (X m c) (W m c) (G m c) (ix2 ⟨t.val * 256 + r.val, row_lt t r⟩ l) := by
  rw [norm_at, ref_norm, iblk3_eq]
  simp only [h2_elt]

theorem slab_lt (s : Fin 8) (l : Fin 256) : 256 * s.val + l.val < 2048 := by omega

theorem ref_slab (c : Dev nD) (r : Fin 16384) (s : Fin 8) (l : Fin 256) :
    val_main_v18 (F := Ideal) (Mg m c) (X m c) (W m c) (G m c) (ix3 r s l)
      = val_main_v17 (F := Ideal) (Mg m c) (X m c) (W m c) (G m c) (ix2 r ⟨256 * s.val + l.val, slab_lt s l⟩) := by
  rw [Cert.OutRIdeal.Read.val_main_v18_apply]
  refine congrArg _ (funext fun z => Fin.ext ?_)
  match z with
  | ⟨0, _⟩ => show ((r.val * 8 + s.val) * 256 + l.val) / 2048 = r.val; omega
  | ⟨1, _⟩ => show ((r.val * 8 + s.val) * 256 + l.val) % 2048 = 256 * s.val + l.val; omega

theorem out7 (c : Dev nD) (t : Fin cfg0.N) : (outsAt0 m c t.val t.isLt).1 = k0_pay3 (F := Ideal) (iblk m c 1 t) (iblk m c 0 t) (iblk m c 2 t) := by
  by_cases h0 : t.val % 64 = 0
  · rw [outsAt0_A m c t h0]
    dsimp only
    rw [out_A_7]
  · rw [outsAt0_B m c t h0]
    dsimp only
    rw [out_B_7]

theorem out8 (c : Dev nD) (t : Fin cfg0.N) : (outsAt0 m c t.val t.isLt).2.1 = slab (k0_pay4 (F := Ideal) (iblk m c 1 t) (iblk m c 0 t) (iblk m c 2 t) (iblk m c 3 t)) := by
  by_cases h0 : t.val % 64 = 0
  · rw [outsAt0_A m c t h0]
    dsimp only
    rw [out_A_8]
  · rw [outsAt0_B m c t h0]
    dsimp only
    rw [out_B_8]

theorem final7 (c : Dev nD) : (dats m 0 c).arrAt 7 cfg0.N = val_main_v3 (F := Ideal) (Mg m c) (X m c) (W m c) := by
  refine (dats m 0 c).arrAt_eq_of_covers 7 _ (by decide +kernel) fun t _ y => ?_
  blk_simp
  rw [after0_7, out7]
  obtain ⟨r, l, rfl⟩ : ∃ (r : Fin 256) (l : Fin 2048), y = ix2 r l := ⟨y 0, y 1, idx2_eq y⟩
  refine (h2_elt m c t r l).trans (congrArg (val_main_v3 (F := Ideal) (Mg m c) (X m c) (W m c)) ?_)
  blk_point [idx t]

theorem final8 (c : Dev nD) : (dats m 0 c).arrAt 8 cfg0.N = val_main_v18 (F := Ideal) (Mg m c) (X m c) (W m c) (G m c) := by
  refine (dats m 0 c).arrAt_eq_of_covers 8 _ (by decide +kernel) fun t _ y => ?_
  blk_simp
  rw [after0_8, out8]
  obtain ⟨r, s, l, rfl⟩ : ∃ (r : Fin 256) (s : Fin 8) (l : Fin 256), y = ix3 r s l := ⟨y 0, y 1, y 2, funext fun z => match z with | ⟨0, _⟩ => rfl | ⟨1, _⟩ => rfl | ⟨2, _⟩ => rfl⟩
  refine (xn_elt m c t r ⟨256 * s.val + l.val, slab_lt s l⟩).trans ((ref_slab m c ⟨t.val * 256 + r.val, row_lt t r⟩ s l).symm.trans (congrArg (val_main_v18 (F := Ideal) (Mg m c) (X m c) (W m c) (G m c)) ?_))
  blk_point [idx t]

end Cert.OutKIdeal.Val

end
-- ==== Proof.Out.Claims.lean ====
/- The claims about the output projection. -/
module

public import proofs.«01_k».proof.Defs
public import proofs.«01_k».proof.Proof.Gen.OutK.Frame
public import proofs.«01_k».proof.Proof.Gen.OutKIdeal.Frame
public import proofs.«01_k».proof.Proof.Gen.OutRIdeal
public import proofs.«01_k».proof.Proof.Out.Value
public import Idealize.ShloMosaic.Lib.Claim

@[expose] public section

set_option maxRecDepth 16384

noncomputable section

namespace Cert.OutClaims

open Idealize.ShloMosaic Idealize.ShloMosaic.TcCoe Idealize.SL.Sem

/-- The kernel's frame. -/
theorem quiescent_kernel : Cert.quiescent_OutK (hOutK := Cert.OutK.Gen.facts) :=
  fun m g _ => Cert.OutK.Gen.frame m g

/-- The frame of the kernel over the reals. -/
theorem quiescent_ideal : Cert.quiescent_OutKIdeal (hOutKIdeal := Cert.OutKIdeal.Gen.facts) :=
  fun m g _ => Cert.OutKIdeal.Gen.frame m g

/-- The reference's frame. -/
theorem quiescent_reference : Cert.quiescent_OutRIdeal (hOutRIdeal := Cert.OutRIdeal.Gen.facts) := by
  intro m g _
  exact (θ_run Cert.OutRIdeal.defs _ _).mono (fun r h => ⟨fun c => (h c).2.2, sem_eq_zero_of_no_sems (by decide) r.2⟩)
    (Cert.OutRIdeal.Value.run (F := Ideal) m g)

/-- The kernel's two results are the reference's. -/
theorem algebraic : Cert.algebraic_OutKIdeal_OutRIdeal (hOutKIdeal := Cert.OutKIdeal.Gen.facts)
    (hOutRIdeal := Cert.OutRIdeal.Gen.facts) := by
  pair_intro
  · run_from Cert.OutKIdeal.Gen.run_main m g
  · run_from Cert.OutRIdeal.Value.run m' g'
    · exact ((Cert.OutRIdeal.Read.val_main_v3_eq (F := Ideal) _ _ _).trans (Cert.OutKIdeal.Val.final7 m c).symm)
    · exact ((Cert.OutRIdeal.Read.val_main_v18_eq (F := Ideal) _ _ _ _).trans (Cert.OutKIdeal.Val.final8 m c).symm)

end Cert.OutClaims

end
-- ==== Proof.Rope.Sums.lean ====
/- Sums over the extended reals against a table of zeros and ones, and the three-part split of a factor. -/
module

public import Idealize.ShloMosaic.Lib.Pointwise
public import Idealize.ShloMosaic.Lib.Pipeline.ValueKit

@[expose] public section

noncomputable section

open Idealize.ShloMosaic

namespace Cert.RopeSums

/-- The table's entry: whether column `k` belongs to group `h`. -/
def ind (k h : ℕ) : EReal := if k / 64 = h then 1 else 0

theorem fin_of_abs {x : EReal} (h : x ≠ ⊤) (h' : x ≠ ⊥) : ∃ r : ℝ, x = r := ⟨x.toReal, (EReal.coe_toReal h h').symm⟩

theorem sub_self' {x : EReal} (h : ∃ r : ℝ, x = r) : x - x = 0 := by
  obtain ⟨r, rfl⟩ := h
  rw [← EReal.coe_sub, sub_self, EReal.coe_zero]

/-- The three products of a split factor are the product of the factor. -/
theorem split {N : ℕ} (f b : Fin N → EReal) (hf : ∀ k, ∃ r : ℝ, f k = r) :
    (∑ k, f k * b k) + ((∑ k, (f k - f k) * b k) + ∑ k, (f k - f k - (f k - f k)) * b k) = ∑ k, f k * b k := by
  have h0 : ∀ k, f k - f k = 0 := fun k => sub_self' (hf k)
  simp only [h0, sub_self' ⟨0, EReal.coe_zero.symm⟩, zero_mul, Finset.sum_const_zero, add_zero]

/-- A sum against the table's column is the sum over the group. -/
theorem group {n : ℕ} (f : Fin (n * 64) → EReal) (h : Fin n) :
    (∑ k, f k * ind k.val h.val) = ∑ i : Fin 64, f ⟨h.val * 64 + i.val, by omega⟩ := by
  rw [← Equiv.sum_comp (finProdFinEquiv (m := n) (n := 64)), Fintype.sum_prod_type, Finset.sum_eq_single h]
  · refine Finset.sum_congr rfl fun i _ => ?_
    have e : (finProdFinEquiv (h, i)).val = h.val * 64 + i.val := by
      rw [finProdFinEquiv_apply_val]; dsimp only; omega
    have e2 : ind (finProdFinEquiv (h, i)).val h.val = 1 := by
      unfold ind; rw [if_pos]; rw [e]; omega
    rw [e2, mul_one]
    exact congrArg f (Fin.ext e)
  · intro h' _ hne
    refine Finset.sum_eq_zero fun i _ => ?_
    have e : (finProdFinEquiv (h', i)).val = h'.val * 64 + i.val := by
      rw [finProdFinEquiv_apply_val]; dsimp only; omega
    have hv : h'.val ≠ h.val := fun q => hne (Fin.ext q)
    have e2 : ind (finProdFinEquiv (h', i)).val h.val = 0 := by
      unfold ind; rw [if_neg]; rw [e]; omega
    rw [e2, mul_zero]
  · intro hn
    exact absurd (Finset.mem_univ h) hn

/-- A sum against a row of the table is one term. -/
theorem pick {N : ℕ} (f : Fin N → EReal) (l : ℕ) (hl : l / 64 < N) : (∑ j, f j * ind l j.val) = f ⟨l / 64, hl⟩ := by
  rw [Finset.sum_eq_single (⟨l / 64, hl⟩ : Fin N)]
  · unfold ind; rw [if_pos rfl, mul_one]
  · intro j _ hne
    unfold ind; rw [if_neg fun q => hne (Fin.ext q.symm), mul_zero]
  · intro hn
    exact absurd (Finset.mem_univ _) hn

theorem sum_real {N : ℕ} (f : Fin N → EReal) (hf : ∀ k, ∃ r : ℝ, 0 ≤ r ∧ f k = r) : ∃ r : ℝ, 0 ≤ r ∧ (∑ k, f k) = r := by
  choose g hg h using hf
  refine ⟨∑ k, g k, Finset.sum_nonneg fun k _ => hg k, ?_⟩
  refine (Finset.sum_congr rfl fun k _ => h k).trans ?_
  exact (map_sum (⟨⟨Real.toEReal, EReal.coe_zero⟩, EReal.coe_add⟩ : ℝ →+ EReal) g Finset.univ).symm

theorem lit_eps : ∃ e : ℝ, 0 < e ∧ Ideal.ofBits .f32 0x358637BD#32 = e := by
  refine ⟨8796093 * 2 ^ (-43 : ℤ), by positivity, ?_⟩
  simp [Ideal.ofBits, Ideal.ieee, -EReal.coe_mul]

theorem lit_64 : Ideal.ofBits .f32 0x42800000#32 = ((64 : ℝ) : EReal) := by
  simp [Ideal.ofBits, Ideal.ieee, -EReal.coe_mul]; norm_num

theorem lit_inv : Ideal.ofBits .f32 0x3C800000#32 = ((1 / 64 : ℝ) : EReal) := by
  simp [Ideal.ofBits, Ideal.ieee, -EReal.coe_mul]; norm_num

/-- The mean by a product is the mean by a quotient. -/
theorem mean {x : EReal} (h : ∃ r : ℝ, 0 ≤ r ∧ x = r) : x * Ideal.ofBits .f32 0x3C800000#32 = Ideal.div x (Ideal.ofBits .f32 0x42800000#32) := by
  obtain ⟨r, _, rfl⟩ := h
  rw [lit_64, lit_inv, ← EReal.coe_mul]
  simp [Ideal.div]
  exact congrArg (fun z : EReal => (r : EReal) * z) (EReal.coe_inv 64)

/-- The reciprocal root is a real number. -/
theorem rsqrt_real {x : EReal} (h : ∃ r : ℝ, 0 ≤ r ∧ x = r) :
    ∃ r : ℝ, Ideal.rsqrt (x * Ideal.ofBits .f32 0x3C800000#32 + Ideal.ofBits .f32 0x358637BD#32) = r := by
  obtain ⟨r, hr, rfl⟩ := h
  obtain ⟨e, he, h2⟩ := lit_eps
  rw [h2, lit_inv, ← EReal.coe_mul, ← EReal.coe_add, Ideal.rsqrt_coe]
  have : 0 < r * (1 / 64) + e := by positivity
  rw [if_neg (by linarith), if_neg (by linarith)]
  exact ⟨_, rfl⟩

end Cert.RopeSums

end
-- ==== Proof.Rope.Pieces.lean ====
/- The entries of what the kernel stores, over tiles that are given. -/
module

public import proofs.«01_k».proof.Proof.Gen.RopeKIdeal.Frame
public import proofs.«01_k».proof.Proof.Rope.Sums
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.RopeKIdeal.Val

open Cert.RopeKIdeal Cert.RopeKIdeal.Gen Cert.RopeSums

/-- The reciprocal root of a group's mean square. -/
def rs {n : ℕ} (x : Fin n → EReal) (j : ℕ) : EReal :=
  Ideal.rsqrt ((∑ k, x k * x k * ind k.val j) * Ideal.ofBits .f32 0x3C800000#32 + Ideal.ofBits .f32 0x358637BD#32)

theorem sq_real {x b : EReal} (h : ∃ r : ℝ, x = r) (hb : b = 0 ∨ b = 1) : ∃ r : ℝ, 0 ≤ r ∧ x * x * b = r := by
  obtain ⟨r, rfl⟩ := h
  rcases hb with rfl | rfl
  · exact ⟨0, le_refl _, by rw [mul_zero, EReal.coe_zero]⟩
  · exact ⟨r * r, mul_self_nonneg r, by rw [mul_one, EReal.coe_mul]⟩

theorem ind_01 (k j : ℕ) : ind k j = 0 ∨ ind k j = 1 := by
  unfold ind
  split_ifs
  · exact Or.inr rfl
  · exact Or.inl rfl

theorem ssq_real {n : ℕ} (x : Fin n → EReal) (hx : ∀ k, ∃ r : ℝ, x k = r) (j : ℕ) : ∃ r : ℝ, 0 ≤ r ∧ (∑ k, x k * x k * ind k.val j) = r :=
  sum_real _ fun k => sq_real (hx k) (ind_01 _ _)

theorem rs_real {n : ℕ} (x : Fin n → EReal) (hx : ∀ k, ∃ r : ℝ, x k = r) (j : ℕ) : ∃ r : ℝ, rs x j = r :=
  rsqrt_real (ssq_real x hx j)

theorem sq_fin {x : EReal} (h : ∃ r : ℝ, x = r) : ∃ r : ℝ, x * x = r := by
  obtain ⟨r, rfl⟩ := h
  exact ⟨r * r, by rw [EReal.coe_mul]⟩

/-- The rotation's lanes of the query tile. -/
def rotQ (v1 v3 : FVec Ideal S528x128 .f32) (y : FVec Ideal S528x1024 .f32) : FVec Ideal S528x1024 .f32 :=
  addf (mulf y (concatenate S528x1024 1 [⟨S528x128, v1⟩, ⟨S528x128, v1⟩, ⟨S528x128, v1⟩, ⟨S528x128, v1⟩, ⟨S528x128, v1⟩, ⟨S528x128, v1⟩, ⟨S528x128, v1⟩, ⟨S528x128, v1⟩] concatenates_S528x128_S528x128_S528x128_S528x128_S528x128_S528x128_S528x128_S528x128_S528x1024_d1))
    (mulf (select (cmpi .eq (andi (iota .tc S528x1024 32 [1] iota_S528x1024_d1_w32) (broadcast S528x1024 32#32)) (broadcast S528x1024 0#32))
      (dynamicRotate 1 992#32 none y rotates_S528x1024_d1) (dynamicRotate 1 32#32 none y rotates_S528x1024_d1))
      (concatenate S528x1024 1 [⟨S528x128, v3⟩, ⟨S528x128, v3⟩, ⟨S528x128, v3⟩, ⟨S528x128, v3⟩, ⟨S528x128, v3⟩, ⟨S528x128, v3⟩, ⟨S528x128, v3⟩, ⟨S528x128, v3⟩] concatenates_S528x128_S528x128_S528x128_S528x128_S528x128_S528x128_S528x128_S528x128_S528x1024_d1))

/-- The rotation's lanes of the key tile. -/
def rotK (v1 v3 : FVec Ideal S528x128 .f32) (y : FVec Ideal S528x256 .f32) : FVec Ideal S528x256 .f32 :=
  addf (mulf y (concatenate S528x256 1 [⟨S528x128, v1⟩, ⟨S528x128, v1⟩] concatenates_S528x128_S528x128_S528x256_d1))
    (mulf (select (cmpi .eq (andi (iota .tc S528x256 32 [1] iota_S528x256_d1_w32) (broadcast S528x256 32#32)) (broadcast S528x256 0#32))
      (dynamicRotate 1 224#32 none y rotates_S528x256_d1) (dynamicRotate 1 32#32 none y rotates_S528x256_d1))
      (concatenate S528x256 1 [⟨S528x128, v3⟩, ⟨S528x128, v3⟩] concatenates_S528x128_S528x128_S528x256_d1))

theorem lane (l : ℕ) (h : l < 1024) : (BitVec.ofNat 32 l &&& 32#32 = 0#32) ↔ l % 64 < 32 :=
  (by decide +kernel : ∀ l : Fin 1024, (BitVec.ofNat 32 l.val &&& 32#32 = 0#32) ↔ l.val % 64 < 32) ⟨l, h⟩

theorem tab_congr (v : FVec Ideal S528x128 .f32) (r : Fin 528) {a b : Fin 128} (h : a.val = b.val) : v (ix2 r a) = v (ix2 r b) :=
  congrArg (fun z => v (ix2 r z)) (Fin.ext h)

theorem concQ (v : FVec Ideal S528x128 .f32) (r : Fin 528) (l : Fin 1024) :
    concatenate S528x1024 1 [⟨S528x128, v⟩, ⟨S528x128, v⟩, ⟨S528x128, v⟩, ⟨S528x128, v⟩, ⟨S528x128, v⟩, ⟨S528x128, v⟩, ⟨S528x128, v⟩, ⟨S528x128, v⟩] concatenates_S528x128_S528x128_S528x128_S528x128_S528x128_S528x128_S528x128_S528x128_S528x1024_d1 (ix2 r l)
      = v (ix2 r ⟨l.val % 128, Nat.mod_lt _ (by omega)⟩) := by
  have hl := l.isLt
  pointwise
  split_ifs <;> exact tab_congr v r (by dsimp only; omega)

theorem concK (v : FVec Ideal S528x128 .f32) (r : Fin 528) (l : Fin 256) :
    concatenate S528x256 1 [⟨S528x128, v⟩, ⟨S528x128, v⟩] concatenates_S528x128_S528x128_S528x256_d1 (ix2 r l)
      = v (ix2 r ⟨l.val % 128, Nat.mod_lt _ (by omega)⟩) := by
  have hl := l.isLt
  pointwise
  split_ifs <;> exact tab_congr v r (by dsimp only; omega)

theorem rotQ_up (y : FVec Ideal S528x1024 .f32) (r : Fin 528) (l : Fin 1024) (h : l.val + 32 < 1024) :
    dynamicRotate 1 992#32 none y rotates_S528x1024_d1 (ix2 r l) = y (ix2 r ⟨l.val + 32, h⟩) :=
  dynamicRotate_apply 1 _ y _ _ _ fun b => match b with
    | ⟨0, _⟩ => rfl
    | ⟨1, _⟩ => by show l.val + 32 = (l.val + 1024 - 992 % 1024) % 1024; omega

theorem rotQ_dn (y : FVec Ideal S528x1024 .f32) (r : Fin 528) (l : Fin 1024) (h : 32 ≤ l.val) :
    dynamicRotate 1 32#32 none y rotates_S528x1024_d1 (ix2 r l) = y (ix2 r ⟨l.val - 32, by omega⟩) :=
  dynamicRotate_apply 1 _ y _ _ _ fun b => match b with
    | ⟨0, _⟩ => rfl
    | ⟨1, _⟩ => by show l.val - 32 = (l.val + 1024 - 32 % 1024) % 1024; omega

theorem rotK_up (y : FVec Ideal S528x256 .f32) (r : Fin 528) (l : Fin 256) (h : l.val + 32 < 256) :
    dynamicRotate 1 224#32 none y rotates_S528x256_d1 (ix2 r l) = y (ix2 r ⟨l.val + 32, h⟩) :=
  dynamicRotate_apply 1 _ y _ _ _ fun b => match b with
    | ⟨0, _⟩ => rfl
    | ⟨1, _⟩ => by show l.val + 32 = (l.val + 256 - 224 % 256) % 256; omega

theorem rotK_dn (y : FVec Ideal S528x256 .f32) (r : Fin 528) (l : Fin 256) (h : 32 ≤ l.val) :
    dynamicRotate 1 32#32 none y rotates_S528x256_d1 (ix2 r l) = y (ix2 r ⟨l.val - 32, by omega⟩) :=
  dynamicRotate_apply 1 _ y _ _ _ fun b => match b with
    | ⟨0, _⟩ => rfl
    | ⟨1, _⟩ => by show l.val - 32 = (l.val + 256 - 32 % 256) % 256; omega

theorem selQ (a b : FVec Ideal S528x1024 .f32) (r : Fin 528) (l : Fin 1024) :
    select (cmpi .eq (andi (iota .tc S528x1024 32 [1] iota_S528x1024_d1_w32) (broadcast S528x1024 32#32)) (broadcast S528x1024 0#32)) a b (ix2 r l)
      = if l.val % 64 < 32 then a (ix2 r l) else b (ix2 r l) := by
  have h := lane l.val l.isLt
  pointwise
  unfold Scalar.select IntOp.cmpi IntOp.andi
  by_cases hz : BitVec.ofNat 32 l.val &&& 32#32 = 0#32
  · rw [if_pos (h.1 hz), hz]
    rfl
  · have hz' : (BitVec.ofNat 32 l.val &&& 32#32 == 0#32) = false := by simpa using hz
    rw [if_neg fun q => hz (h.2 q)]
    simp only [hz']
    rfl

theorem selK (a b : FVec Ideal S528x256 .f32) (r : Fin 528) (l : Fin 256) :
    select (cmpi .eq (andi (iota .tc S528x256 32 [1] iota_S528x256_d1_w32) (broadcast S528x256 32#32)) (broadcast S528x256 0#32)) a b (ix2 r l)
      = if l.val % 64 < 32 then a (ix2 r l) else b (ix2 r l) := by
  have h := lane l.val (by omega)
  pointwise
  unfold Scalar.select IntOp.cmpi IntOp.andi
  by_cases hz : BitVec.ofNat 32 l.val &&& 32#32 = 0#32
  · rw [if_pos (h.1 hz), hz]
    rfl
  · have hz' : (BitVec.ofNat 32 l.val &&& 32#32 == 0#32) = false := by simpa using hz
    rw [if_neg fun q => hz (h.2 q)]
    simp only [hz']
    rfl

/-- The two halves of a head of the query. -/
theorem rotQ_lo (v1 v3 : FVec Ideal S528x128 .f32) (y : FVec Ideal S528x1024 .f32) (r : Fin 528) (l : Fin 1024) (h : l.val % 64 < 32) :
    rotQ v1 v3 y (ix2 r l) = y (ix2 r l) * v1 (ix2 r ⟨l.val % 128, Nat.mod_lt _ (by omega)⟩)
      + y (ix2 r ⟨l.val + 32, by omega⟩) * v3 (ix2 r ⟨l.val % 128, Nat.mod_lt _ (by omega)⟩) := by
  unfold rotQ
  rw [addf_apply, mulf_apply, mulf_apply, concQ, concQ, selQ, if_pos h, rotQ_up y r l (by omega)]
  rfl

theorem rotQ_hi (v1 v3 : FVec Ideal S528x128 .f32) (y : FVec Ideal S528x1024 .f32) (r : Fin 528) (l : Fin 1024) (h : ¬ l.val % 64 < 32) :
    rotQ v1 v3 y (ix2 r l) = y (ix2 r l) * v1 (ix2 r ⟨l.val % 128, Nat.mod_lt _ (by omega)⟩)
      + y (ix2 r ⟨l.val - 32, by omega⟩) * v3 (ix2 r ⟨l.val % 128, Nat.mod_lt _ (by omega)⟩) := by
  unfold rotQ
  rw [addf_apply, mulf_apply, mulf_apply, concQ, concQ, selQ, if_neg h, rotQ_dn y r l (by omega)]
  rfl

theorem rotK_lo (v1 v3 : FVec Ideal S528x128 .f32) (y : FVec Ideal S528x256 .f32) (r : Fin 528) (l : Fin 256) (h : l.val % 64 < 32) :
    rotK v1 v3 y (ix2 r l) = y (ix2 r l) * v1 (ix2 r ⟨l.val % 128, Nat.mod_lt _ (by omega)⟩)
      + y (ix2 r ⟨l.val + 32, by omega⟩) * v3 (ix2 r ⟨l.val % 128, Nat.mod_lt _ (by omega)⟩) := by
  unfold rotK
  rw [addf_apply, mulf_apply, mulf_apply, concK, concK, selK, if_pos h, rotK_up y r l (by omega)]
  rfl

theorem rotK_hi (v1 v3 : FVec Ideal S528x128 .f32) (y : FVec Ideal S528x256 .f32) (r : Fin 528) (l : Fin 256) (h : ¬ l.val % 64 < 32) :
    rotK v1 v3 y (ix2 r l) = y (ix2 r l) * v1 (ix2 r ⟨l.val % 128, Nat.mod_lt _ (by omega)⟩)
      + y (ix2 r ⟨l.val - 32, by omega⟩) * v3 (ix2 r ⟨l.val % 128, Nat.mod_lt _ (by omega)⟩) := by
  unfold rotK
  rw [addf_apply, mulf_apply, mulf_apply, concK, concK, selK, if_neg h, rotK_dn y r l (by omega)]
  rfl

variable (bd : FVec Ideal S1024x128 .bf16) (bdt : FVec Ideal S128x1024 .bf16)

theorem q_rs (hb : ∀ k j, bd (ix2 k j) = ind k.val j.val) (x : FVec Ideal S528x1024 .f32) (hx : ∀ r k, ∃ q : ℝ, x (ix2 r k) = q) (r : Fin 528) (j : Fin 128) :
    k0_pay6 (F := Ideal) x bd (ix2 r j) = rs (fun k : Fin 1024 => x (ix2 r k)) j.val := by
  have e := split (fun k : Fin 1024 => x (ix2 r k) * x (ix2 r k)) (fun k => ind k.val j.val) fun k => sq_fin (hx r k)
  unfold rs
  rw [← e]
  unfold k0_pay6
  pointwise
  simp only [hb]

theorem q_y (hb : ∀ k j, bd (ix2 k j) = ind k.val j.val) (hbt : ∀ j k, bdt (ix2 j k) = ind k.val j.val) (x : FVec Ideal S528x1024 .f32) (hx : ∀ r k, ∃ q : ℝ, x (ix2 r k) = q) (r : Fin 528) (l : Fin 1024) :
    addf (k0_pay10 (F := Ideal) x bd bdt) (addf (k0_pay11 (F := Ideal) x bd bdt) (k0_pay12 (F := Ideal) x bd bdt)) (ix2 r l) = rs (fun k : Fin 1024 => x (ix2 r k)) (l.val / 64) := by
  refine Eq.trans ?_ ((split (fun j : Fin 128 => rs (fun k : Fin 1024 => x (ix2 r k)) j.val) (fun j => ind l.val j.val) fun j => rs_real _ (fun k => hx r k) j.val).trans
    (pick (fun j : Fin 128 => rs (fun k : Fin 1024 => x (ix2 r k)) j.val) l.val (by omega)))
  unfold k0_pay10 k0_pay11 k0_pay12 k0_pay9 k0_pay8 k0_pay7 k0_pay5
  have h6 := q_rs bd hb x hx r
  generalize k0_pay6 (F := Ideal) x bd = w at h6 ⊢
  pointwise
  simp only [h6, hbt]

/-- The query's entry before the rotation. -/
def nrm {n m : ℕ} (x : (⟨2, ![528, n]⟩ : Shape).Idx → EReal) (g : (⟨2, ![1, m]⟩ : Shape).Idx → EReal) (r : Fin 528) (l : Fin n) (k : Fin m) : EReal :=
  x (ix2 r l) * rs (fun k : Fin n => x (ix2 r k)) (l.val / 64) * g (ix2 0 k)

def yQ (x : FVec Ideal S528x1024 .f32) (g : FVec Ideal S1x1024 .f32) : FVec Ideal S528x1024 .f32 :=
  mulf (mulf x (addf (k0_pay10 (F := Ideal) x bd bdt) (addf (k0_pay11 (F := Ideal) x bd bdt) (k0_pay12 (F := Ideal) x bd bdt)))) (broadcastTo S528x1024 (k0_pay4 (F := Ideal) g) broadcasts_S1x1024_S528x1024)

theorem pay_q (v0 v2 : FVec Ideal S528x128 .f32) (x : FVec Ideal S528x1024 .f32) (g : FVec Ideal S1x1024 .f32) :
    k0_pay13 (F := Ideal) (k0_pay2 v0) (k0_pay3 v2) x (k0_pay4 g) (k0_pay10 x bd bdt) (k0_pay11 x bd bdt) (k0_pay12 x bd bdt) = rotQ (k0_pay2 (F := Ideal) v0) (k0_pay3 (F := Ideal) v2) (yQ bd bdt x g) := rfl

theorem pay2_eq (v : FVec Ideal S528x128 .f32) : k0_pay2 (F := Ideal) v = v := by
  unfold k0_pay2
  exact shapeCast_self _ _

theorem pay3_eq (v : FVec Ideal S528x128 .f32) : k0_pay3 (F := Ideal) v = v := by
  unfold k0_pay3
  exact shapeCast_self _ _

theorem yQ_at (hb : ∀ k j, bd (ix2 k j) = ind k.val j.val) (hbt : ∀ j k, bdt (ix2 j k) = ind k.val j.val) (x : FVec Ideal S528x1024 .f32) (g : FVec Ideal S1x1024 .f32) (hx : ∀ r k, ∃ q : ℝ, x (ix2 r k) = q) (r : Fin 528) (l : Fin 1024) :
    yQ bd bdt x g (ix2 r l) = nrm x g r l l := by
  unfold yQ nrm
  rw [mulf_apply, mulf_apply, q_y bd bdt hb hbt x hx]
  unfold k0_pay4
  pointwise

/-! ## The keys -/

variable (bk : FVec Ideal S256x128 .bf16) (bkt : FVec Ideal S128x256 .bf16)

theorem k_rs (hb : ∀ k j, bk (ix2 k j) = ind k.val j.val) (x : FVec Ideal S528x256 .f32) (hx : ∀ r k, ∃ q : ℝ, x (ix2 r k) = q) (r : Fin 528) (j : Fin 128) :
    rsqrt (addf (k0_pay16 (F := Ideal) x bk) (broadcast S528x128 (Scalar.ofBits .f32 0x358637BD#32))) (ix2 r j) = rs (fun k : Fin 256 => x (ix2 r k)) j.val := by
  have e := split (fun k : Fin 256 => x (ix2 r k) * x (ix2 r k)) (fun k => ind k.val j.val) fun k => sq_fin (hx r k)
  unfold rs
  rw [← e]
  unfold k0_pay16
  pointwise
  simp only [hb]

def spl (w : FVec Ideal S528x128 .f32) : FVec Ideal S528x256 .f32 :=
  addf (matmul dot_S528x128_S128x256_S528x256_1_0_0_1_n_n none (truncf .bf16 w bitsLt_bf16_f32) (k0_pay15 (F := Ideal) bkt) (constant S528x256 .f32 0x00000000#32))
    (addf (matmul dot_S528x128_S128x256_S528x256_1_0_0_1_n_n none (truncf .bf16 (subf w (extf .f32 (truncf .bf16 w bitsLt_bf16_f32) bitsLt_bf16_f32)) bitsLt_bf16_f32) (k0_pay15 (F := Ideal) bkt) (constant S528x256 .f32 0x00000000#32))
      (matmul dot_S528x128_S128x256_S528x256_1_0_0_1_n_n none (truncf .bf16 (subf (subf w (extf .f32 (truncf .bf16 w bitsLt_bf16_f32) bitsLt_bf16_f32)) (extf .f32 (truncf .bf16 (subf w (extf .f32 (truncf .bf16 w bitsLt_bf16_f32) bitsLt_bf16_f32)) bitsLt_bf16_f32) bitsLt_bf16_f32)) bitsLt_bf16_f32) (k0_pay15 (F := Ideal) bkt) (constant S528x256 .f32 0x00000000#32)))

def yK (x : FVec Ideal S528x256 .f32) (g : FVec Ideal S1x256 .f32) : FVec Ideal S528x256 .f32 :=
  mulf (mulf x (spl bkt (rsqrt (addf (k0_pay16 (F := Ideal) x bk) (broadcast S528x128 (Scalar.ofBits .f32 0x358637BD#32)))))) (broadcastTo S528x256 (k0_pay14 (F := Ideal) g) broadcasts_S1x256_S528x256)

theorem pay_k (v0 v2 : FVec Ideal S528x128 .f32) (x : FVec Ideal S528x256 .f32) (g : FVec Ideal S1x256 .f32) :
    k0_pay1 (F := Ideal) (k0_pay2 v0) (k0_pay3 v2) x (k0_pay14 g) (k0_pay15 bkt) (k0_pay16 x bk) = rotK (k0_pay2 (F := Ideal) v0) (k0_pay3 (F := Ideal) v2) (yK bk bkt x g) := rfl

theorem spl_at (hbt : ∀ j k, bkt (ix2 j k) = ind k.val j.val) (w : FVec Ideal S528x128 .f32) (f : ℕ → EReal) (r : Fin 528) (h6 : ∀ j : Fin 128, w (ix2 r j) = f j.val) (hf : ∀ j, ∃ q : ℝ, f j = q) (l : Fin 256) :
    spl bkt w (ix2 r l) = f (l.val / 64) := by
  refine Eq.trans ?_ ((split (fun j : Fin 128 => f j.val) (fun j => ind l.val j.val) fun j => hf j.val).trans (pick (fun j : Fin 128 => f j.val) l.val (by omega)))
  unfold spl k0_pay15
  pointwise
  simp only [h6, hbt]

theorem yK_at (hb : ∀ k j, bk (ix2 k j) = ind k.val j.val) (hbt : ∀ j k, bkt (ix2 j k) = ind k.val j.val) (x : FVec Ideal S528x256 .f32) (g : FVec Ideal S1x256 .f32) (hx : ∀ r k, ∃ q : ℝ, x (ix2 r k) = q) (r : Fin 528) (l : Fin 256) :
    yK bk bkt x g (ix2 r l) = nrm x g r l l := by
  unfold yK nrm
  rw [mulf_apply, mulf_apply, spl_at bkt hbt _ (rs fun k : Fin 256 => x (ix2 r k)) r (k_rs bk hb x hx r) (rs_real _ fun k => hx r k)]
  unfold k0_pay14
  pointwise

end Cert.RopeKIdeal.Val

end
-- ==== Proof.Rope.Outs.lean ====
/- What the launch leaves of the queries and of the keys: the rotated rows, and their entries when the selection matrices hold the heads. -/
module

public import proofs.«01_k».proof.Proof.Rope.Pieces
public import proofs.«01_k».proof.Proof.Gen.RopeKIdeal.Frame

@[expose] public section

set_option maxRecDepth 16384

noncomputable section

open Idealize.ShloMosaic Idealize.ShloMosaic.TcCoe Idealize.SL.Sem
open Idealize.ShloMosaic.Pipeline (Dat)

namespace Cert.RopeKIdeal.Val

open Cert.RopeKIdeal Cert.RopeKIdeal.Gen Cert.RopeSums

theorem hz : (![0, 0] : Fin 2 → Nat) = fun _ => 0 := funext fun a => by fin_cases a <;> rfl

/-- The keys' rows of the selection. -/
def upK (x6 : Vec Ideal S1024x128 .bf16) : FVec Ideal S256x128 .bf16 := fun y => x6 (ix2 ⟨(y 0).val, by have : (y 0).val < 256 := (y 0).isLt; omega⟩ (y 1))

/-- The keys' columns of its transpose. -/
def dnK (x7 : Vec Ideal S128x1024 .bf16) : FVec Ideal S128x256 .bf16 := fun y => x7 (ix2 (y 0) ⟨(y 1).val, by have : (y 1).val < 256 := (y 1).isLt; omega⟩)

theorem ld_up (x6 : Vec Ideal S1024x128 .bf16) : View.ld x6 (Rect.unit ![0, 0] ![256, 128] inb_S1024x128_S256x128_0_0) = upK x6 := by
  funext y
  refine congrArg x6 (funext fun z => Fin.ext ?_)
  match z with
  | ⟨0, _⟩ => show 0 + 1 * (y 0).val = (y 0).val; omega
  | ⟨1, _⟩ => show 0 + 1 * (y 1).val = (y 1).val; omega

theorem ld_dn (x7 : Vec Ideal S128x1024 .bf16) : View.ld x7 (Rect.unit ![0, 0] ![128, 256] inb_S128x1024_S128x256_0_0) = dnK x7 := by
  funext y
  refine congrArg x7 (funext fun z => Fin.ext ?_)
  match z with
  | ⟨0, _⟩ => show 0 + 1 * (y 0).val = (y 0).val; omega
  | ⟨1, _⟩ => show 0 + 1 * (y 1).val = (y 1).val; omega

theorem out_8 (c : Dev nD) (i : grid0.Coords) (a1 : Memref sig .tc .vmem S528x1024 .f32) (h1 : a1.IsWhole) (a2 : Memref sig .tc .vmem S528x256 .f32) (h2 : a2.IsWhole) (a3 : Memref sig .tc .vmem S528x128 .f32) (h3 : a3.IsWhole) (a4 : Memref sig .tc .vmem S528x128 .f32) (h4 : a4.IsWhole) (a5 : Memref sig .tc .vmem S1x1024 .f32) (h5 : a5.IsWhole) (a6 : Memref sig .tc .vmem S1x256 .f32) (h6 : a6.IsWhole) (a7 : Memref sig .tc .vmem S1024x128 .bf16) (h7 : a7.IsWhole) (a8 : Memref sig .tc .vmem S128x1024 .bf16) (h8 : a8.IsWhole) (a9 : Memref sig .tc .vmem S528x1024 .f32) (h9 : a9.IsWhole) (a10 : Memref sig .tc .vmem S528x256 .f32) (h10 : a10.IsWhole)
    (x0 : Vec Ideal S528x1024 .f32) (x1 : Vec Ideal S528x256 .f32) (x2 : Vec Ideal S528x128 .f32) (x3 : Vec Ideal S528x128 .f32) (x4 : Vec Ideal S1x1024 .f32) (x5 : Vec Ideal S1x256 .f32) (x6 : Vec Ideal S1024x128 .bf16) (x7 : Vec Ideal S128x1024 .bf16) :
    out0_A_8 (F := Ideal) c i a1 h1 a2 h2 a3 h3 a4 h4 a5 h5 a6 h6 a7 h7 a8 h8 a9 h9 a10 h10 x0 x1 x2 x3 x4 x5 x6 x7 = rotQ x2 x3 (yQ x6 x7 x0 x4) := by
  unfold out0_A_8
  rw [View.read_writes_eq_canon _ _ _ (cover0_A_8 c i a1 h1 a2 h2 a3 h3 a4 h4 a5 h5 a6 h6 a7 h7 a8 h8 a9 h9 a10 h10 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S528x1024) hz, View.ld_unit_zero (S := S528x256) hz, View.ld_unit_zero (S := S528x128) hz, View.ld_unit_zero (S := S1x1024) hz, View.ld_unit_zero (S := S1x256) hz, View.ld_unit_zero (S := S1024x128) hz, View.ld_unit_zero (S := S128x1024) hz]
  rw [pay_q, pay2_eq, pay3_eq]

theorem out_9 (c : Dev nD) (i : grid0.Coords) (a1 : Memref sig .tc .vmem S528x1024 .f32) (h1 : a1.IsWhole) (a2 : Memref sig .tc .vmem S528x256 .f32) (h2 : a2.IsWhole) (a3 : Memref sig .tc .vmem S528x128 .f32) (h3 : a3.IsWhole) (a4 : Memref sig .tc .vmem S528x128 .f32) (h4 : a4.IsWhole) (a5 : Memref sig .tc .vmem S1x1024 .f32) (h5 : a5.IsWhole) (a6 : Memref sig .tc .vmem S1x256 .f32) (h6 : a6.IsWhole) (a7 : Memref sig .tc .vmem S1024x128 .bf16) (h7 : a7.IsWhole) (a8 : Memref sig .tc .vmem S128x1024 .bf16) (h8 : a8.IsWhole) (a9 : Memref sig .tc .vmem S528x1024 .f32) (h9 : a9.IsWhole) (a10 : Memref sig .tc .vmem S528x256 .f32) (h10 : a10.IsWhole)
    (x0 : Vec Ideal S528x1024 .f32) (x1 : Vec Ideal S528x256 .f32) (x2 : Vec Ideal S528x128 .f32) (x3 : Vec Ideal S528x128 .f32) (x4 : Vec Ideal S1x1024 .f32) (x5 : Vec Ideal S1x256 .f32) (x6 : Vec Ideal S1024x128 .bf16) (x7 : Vec Ideal S128x1024 .bf16) :
    out0_A_9 (F := Ideal) c i a1 h1 a2 h2 a3 h3 a4 h4 a5 h5 a6 h6 a7 h7 a8 h8 a9 h9 a10 h10 x0 x1 x2 x3 x4 x5 x6 x7 = rotK x2 x3 (yK (upK x6) (dnK x7) x1 x5) := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S528x1024) hz, View.ld_unit_zero (S := S528x256) hz, View.ld_unit_zero (S := S528x128) hz, View.ld_unit_zero (S := S1x1024) hz, View.ld_unit_zero (S := S1x256) hz, View.ld_unit_zero (S := S1024x128) hz, View.ld_unit_zero (S := S128x1024) hz]
  rw [pay_k, pay2_eq, pay3_eq, ld_up, ld_dn]

end Cert.RopeKIdeal.Val

end
-- ==== Proof.Rope.Arrays.lean ====
/- The arrays the launch reads: the weights' rows repeated, the selection matrices, the rotation's tables, and the projections' columns. -/
module

public import proofs.«01_k».proof.Proof.Rope.Outs
public import proofs.«01_k».proof.Proof.Gen.RopeRIdeal.Run
public import proofs.«01_k».proof.Proof.Gen.RopeRIdeal.Read
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.RopeKIdeal.Val

open Cert.RopeKIdeal Cert.RopeKIdeal.Gen Cert.RopeSums
open Cert.RopeRIdeal.Read (val_main_v18 val_main_v20)

variable (m : (ℓ : Loc nD τ sig) → Buf (Elt Ideal) ℓ)

abbrev P (c : Dev nD) : FVec Ideal S528x9728 .f32 := m ((c : Thread nD τ).loc main_arg0)
abbrev Ca (c : Dev nD) : FVec Ideal S1x128x144x4x64 .f32 := m ((c : Thread nD τ).loc main_arg1)
abbrev Wq (c : Dev nD) : FVec Ideal S1x64 .f32 := m ((c : Thread nD τ).loc main_arg2)
abbrev Wk (c : Dev nD) : FVec Ideal S1x64 .f32 := m ((c : Thread nD τ).loc main_arg3)

theorem idx2_eq {a b : ℕ} (y : (⟨2, ![a, b]⟩ : Shape).Idx) : y = ix2 (y 0) (y 1) :=
  funext fun i => match i with
  | ⟨0, _⟩ => rfl
  | ⟨1, _⟩ => rfl

/-- The query weights, once per head. -/
def tileQ (w : FVec Ideal S1x64 .f32) : FVec Ideal S1x1024 .f32 :=
  broadcastInDim S1x1024 ![1] bcast_S1024_S1x1024_1 (shapeCast S1024 (broadcastInDim S16x64 ![0, 1] bcast_S1x64_S16x64_0_1 (shapeCast S1x64 (shapeCast S64 w shapeCasts_S1x64_S64) shapeCasts_S64_S1x64)) shapeCasts_S16x64_S1024)

/-- The key weights, once per head. -/
def tileK (w : FVec Ideal S1x64 .f32) : FVec Ideal S1x256 .f32 :=
  broadcastInDim S1x256 ![1] bcast_S256_S1x256_1 (shapeCast S256 (broadcastInDim S4x64 ![0, 1] bcast_S1x64_S4x64_0_1 (shapeCast S1x64 (shapeCast S64 w shapeCasts_S1x64_S64) shapeCasts_S64_S1x64)) shapeCasts_S4x64_S256)

theorem tileQ_at (w : FVec Ideal S1x64 .f32) (l : Fin 1024) : tileQ w (ix2 0 l) = w (ix2 0 ⟨l.val % 64, Nat.mod_lt _ (by omega)⟩) := by
  unfold tileQ
  rw [shapeCast_shapeCast]
  refine (broadcastInDim_apply _ _ _ _ (ix1 l) (fun a => match a with
    | ⟨0, _⟩ => by show l.val = if (1024 : Nat) = 1 then 0 else l.val; rw [if_neg (by decide)])).trans ?_
  refine (shapeCast_apply _ _ _ (ix2 (⟨l.val / 64, by omega⟩ : Fin 16) (⟨l.val % 64, Nat.mod_lt _ (by omega)⟩ : Fin 64)) (by
    rewrite [Shape.rowMajor_val_two, Shape.rowMajor_val_one]
    show l.val / 64 * 64 + l.val % 64 = l.val
    omega)).trans ?_
  exact broadcastInDim_apply _ _ _ _ _ (fun a => match a with
    | ⟨0, _⟩ => by show 0 = if (1 : Nat) = 1 then 0 else l.val / 64; rw [if_pos rfl]
    | ⟨1, _⟩ => by show l.val % 64 = if (64 : Nat) = 1 then 0 else l.val % 64; rw [if_neg (by decide)])

theorem tileK_at (w : FVec Ideal S1x64 .f32) (l : Fin 256) : tileK w (ix2 0 l) = w (ix2 0 ⟨l.val % 64, Nat.mod_lt _ (by omega)⟩) := by
  unfold tileK
  rw [shapeCast_shapeCast]
  refine (broadcastInDim_apply _ _ _ _ (ix1 l) (fun a => match a with
    | ⟨0, _⟩ => by show l.val = if (256 : Nat) = 1 then 0 else l.val; rw [if_neg (by decide)])).trans ?_
  refine (shapeCast_apply _ _ _ (ix2 (⟨l.val / 64, by omega⟩ : Fin 4) (⟨l.val % 64, Nat.mod_lt _ (by omega)⟩ : Fin 64)) (by
    rewrite [Shape.rowMajor_val_two, Shape.rowMajor_val_one]
    show l.val / 64 * 64 + l.val % 64 = l.val
    omega)).trans ?_
  exact broadcastInDim_apply _ _ _ _ _ (fun a => match a with
    | ⟨0, _⟩ => by show 0 = if (1 : Nat) = 1 then 0 else l.val / 64; rw [if_pos rfl]
    | ⟨1, _⟩ => by show l.val % 64 = if (64 : Nat) = 1 then 0 else l.val % 64; rw [if_neg (by decide)])

theorem V_gq (c : Dev nD) : (V m c main_v4 : Vec Ideal S1x1024 .f32) = tileQ (Wq m c) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem V_gk (c : Dev nD) : (V m c main_v9 : Vec Ideal S1x256 .f32) = tileK (Wk m c) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- A lane's head, as the host's lines compute it. -/
def headOf : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))

def selM : FVec Ideal S1024x128 .bf16 :=
  uitofp .bf16 (cmpi .eq (broadcastInDim S1024x128 ![0, 1] bcast_S1024x1_S1024x128_0_1 (broadcastInDim S1024x1 ![0] bcast_S1024_S1024x1_0 headOf))
    (broadcastInDim S1024x128 ![0, 1] bcast_S1x128_S1024x128_0_1 (broadcastInDim S1x128 ![1] bcast_S128_S1x128_1 (iotaInDim S128 32 0))))

theorem V_bd (c : Dev nD) : (V m c main_v18 : Vec Ideal S1024x128 .bf16) = selM := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem V_bdt (c : Dev nD) : (V m c main_v19 : Vec Ideal S128x1024 .bf16) = transpose S128x1024 [1, 0] selM transposes_S1024x128_S128x1024_1_0 := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem headOf_at (k : Fin 1024) : headOf (ix1 k) = BitVec.ofNat 32 (k.val / 64) :=
  (by decide +kernel : ∀ k : Fin 1024, headOf (ix1 k) = BitVec.ofNat 32 (k.val / 64)) k

theorem selM_at (k : Fin 1024) (j : Fin 128) : selM (ix2 k j) = ind k.val j.val := by
  have h : selM (ix2 k j) = (((IntOp.cmpi .eq (headOf (ix1 k)) (BitVec.ofNat 32 j.val)).toNat : ℝ) : EReal) := by
    unfold selM
    generalize headOf = w
    pointwise
    rfl
  rw [h, headOf_at]
  unfold ind IntOp.cmpi
  by_cases e : k.val / 64 = j.val
  · rw [if_pos e, e]
    simp
  · rw [if_neg e]
    have : (BitVec.ofNat 32 (k.val / 64) == BitVec.ofNat 32 j.val) = false := by
      have hk := k.isLt
      have hj := j.isLt
      simp only [beq_eq_false_iff_ne, ne_eq]
      intro q
      have q' := congrArg BitVec.toNat q
      simp only [BitVec.toNat_ofNat] at q'
      omega
    simp [this]

/-- The rotation's cosines, four times over. -/
def cosT : FVec Ideal S528x128 .f32 :=
  concatenate S528x128 1 [⟨S528x32, val_main_v18 (F := Ideal)⟩, ⟨S528x32, val_main_v18 (F := Ideal)⟩, ⟨S528x32, val_main_v18 (F := Ideal)⟩, ⟨S528x32, val_main_v18 (F := Ideal)⟩] concatenates_S528x32_S528x32_S528x32_S528x32_S528x128_d1

/-- The signed sines. -/
def sinT : FVec Ideal S528x128 .f32 :=
  concatenate S528x128 1 [⟨S528x32, Host.negf (val_main_v20 (F := Ideal))⟩, ⟨S528x32, val_main_v20 (F := Ideal)⟩, ⟨S528x32, Host.negf (val_main_v20 (F := Ideal))⟩, ⟨S528x32, val_main_v20 (F := Ideal)⟩] concatenates_S528x32_S528x32_S528x32_S528x32_S528x128_d1

theorem cosT_at (r : Fin 528) (l : Fin 128) : cosT (ix2 r l) = val_main_v18 (F := Ideal) (ix2 r ⟨l.val % 32, Nat.mod_lt _ (by omega)⟩) := by
  have hl := l.isLt
  unfold cosT
  generalize val_main_v18 (F := Ideal) = v
  pointwise
  split_ifs <;> exact congrArg (fun z => v (ix2 r z)) (Fin.ext (by dsimp only; omega))

theorem sinT_lo (r : Fin 528) (l : Fin 128) (h : l.val % 64 < 32) : sinT (ix2 r l) = -val_main_v20 (F := Ideal) (ix2 r ⟨l.val % 32, Nat.mod_lt _ (by omega)⟩) := by
  have hl := l.isLt
  unfold sinT
  generalize val_main_v20 (F := Ideal) = v
  pointwise
  split_ifs <;> first | omega | exact congrArg (fun z => -v (ix2 r z)) (Fin.ext (by dsimp only; omega))

theorem sinT_hi (r : Fin 528) (l : Fin 128) (h : ¬ l.val % 64 < 32) : sinT (ix2 r l) = val_main_v20 (F := Ideal) (ix2 r ⟨l.val % 32, Nat.mod_lt _ (by omega)⟩) := by
  have hl := l.isLt
  unfold sinT
  generalize val_main_v20 (F := Ideal) = v
  pointwise
  split_ifs <;> first | omega | exact congrArg (fun z => v (ix2 r z)) (Fin.ext (by dsimp only; omega))

/-- Which block each window stages. -/
theorem idx : ∀ t : Fin cfg0.N, win0_0.index t = ![0, 8] ∧ win0_1.index t = ![0, 36]
    ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem iblk1_at (c : Dev nD) (t : Fin cfg0.N) (r : Fin 528) (l : Fin 256) :
    (iblk m c 1 t : Vec Ideal S528x256 .f32) (ix2 r l) = P m c (ix2 r ⟨9216 + l.val, by omega⟩) := by
  blk_ext [iblk, idx t]

theorem x0_at (c : Dev nD) (t : Fin cfg0.N) (r : Fin 528) (l : Fin 1024) :
    (X0_0 m c t : Vec Ideal S528x1024 .f32) (ix2 r l) = P m c (ix2 r ⟨8192 + l.val, by omega⟩) := by
  unfold X0_0 Pipeline.Window.fill
  rw [dif_pos (moved0_0 t _)]
  blk_ext [iblk, idx t]

theorem iblk4_eq (c : Dev nD) (t : Fin cfg0.N) : (iblk m c 4 t : Vec Ideal S1x1024 .f32) = tileQ (Wq m c) := by
  rw [← V_gq m c]
  funext y
  obtain ⟨k, l, rfl⟩ : ∃ k l, y = ix2 k l := ⟨y 0, y 1, idx2_eq y⟩
  blk_ext [iblk, idx t]

theorem iblk5_eq (c : Dev nD) (t : Fin cfg0.N) : (iblk m c 5 t : Vec Ideal S1x256 .f32) = tileK (Wk m c) := by
  rw [← V_gk m c]
  funext y
  obtain ⟨k, l, rfl⟩ : ∃ k l, y = ix2 k l := ⟨y 0, y 1, idx2_eq y⟩
  blk_ext [iblk, idx t]

theorem iblk6_eq (c : Dev nD) (t : Fin cfg0.N) : (iblk m c 6 t : Vec Ideal S1024x128 .bf16) = selM := by
  rw [← V_bd m c]
  funext y
  obtain ⟨k, l, rfl⟩ : ∃ k l, y = ix2 k l := ⟨y 0, y 1, idx2_eq y⟩
  blk_ext [iblk, idx t]

theorem iblk7_eq (c : Dev nD) (t : Fin cfg0.N) : (iblk m c 7 t : Vec Ideal S128x1024 .bf16) = transpose S128x1024 [1, 0] selM transposes_S1024x128_S128x1024_1_0 := by
  rw [← V_bdt m c]
  funext y
  obtain ⟨k, l, rfl⟩ : ∃ k l, y = ix2 k l := ⟨y 0, y 1, idx2_eq y⟩
  blk_ext [iblk, idx t]

theorem selT_at (j : Fin 128) (k : Fin 1024) : transpose S128x1024 [1, 0] selM transposes_S1024x128_S128x1024_1_0 (ix2 j k) = ind k.val j.val := by
  rw [← selM_at]
  generalize selM = v
  pointwise

end Cert.RopeKIdeal.Val

end
-- ==== Proof.Rope.Ref.lean ====
/- The reference's rotated rows, entry by entry, and its precondition. -/
module

public import proofs.«01_k».proof.Proof.Rope.Arrays
public import proofs.«01_k».proof.Defs
public import proofs.«01_k».proof.Proof.Gen.Pre_rope_finite

@[expose] public section

set_option maxRecDepth 16384

noncomputable section

open Idealize.ShloMosaic Idealize.ShloMosaic.TcCoe Idealize.SL.Sem

namespace Cert.RopeKIdeal.Val

open Cert.RopeKIdeal Cert.RopeKIdeal.Gen Cert.RopeSums
open Cert.RopeRIdeal.Read

/-- The reciprocal root, as the reference's mean gives it. -/
theorem rs_ref {n : ℕ} (x : Fin (n * 64) → EReal) (hx : ∀ k, ∃ q : ℝ, x k = q) (h : Fin n) :
    rs x h.val = Ideal.rsqrt (Ideal.div (∑ i : Fin 64, x ⟨h.val * 64 + i.val, by omega⟩ * x ⟨h.val * 64 + i.val, by omega⟩) (Ideal.ofBits .f32 0x42800000#32) + Ideal.ofBits .f32 0x358637BD#32) := by
  unfold rs
  rw [mean (ssq_real x hx h.val), group (fun k => x k * x k)]

theorem v23_at (p : FVec Ideal S528x9728 .f32) (r : Fin 528) (h : Fin 16) (d : Fin 64) :
    val_main_v23 (F := Ideal) p (ix3 r h d) = p (ix2 r ⟨8192 + (h.val * 64 + d.val), by omega⟩) := by
  rw [val_main_v23_apply, val_main_v22_apply]
  refine congrArg p (funext fun z => Fin.ext ?_)
  match z with
  | ⟨0, _⟩ => show ((r.val * 16 + h.val) * 64 + d.val) / 1024 = r.val; omega
  | ⟨1, _⟩ => show 8192 + ((r.val * 16 + h.val) * 64 + d.val) % 1024 = 8192 + (h.val * 64 + d.val); omega

theorem v52_at (p : FVec Ideal S528x9728 .f32) (r : Fin 528) (h : Fin 4) (d : Fin 64) :
    val_main_v52 (F := Ideal) p (ix3 r h d) = p (ix2 r ⟨9216 + (h.val * 64 + d.val), by omega⟩) := by
  rw [val_main_v52_apply, val_main_v51_apply]
  refine congrArg p (funext fun z => Fin.ext ?_)
  match z with
  | ⟨0, _⟩ => show ((r.val * 4 + h.val) * 64 + d.val) / 256 = r.val; omega
  | ⟨1, _⟩ => show 9216 + ((r.val * 4 + h.val) * 64 + d.val) % 256 = 9216 + (h.val * 64 + d.val); omega

theorem v24_at (w : FVec Ideal S1x64 .f32) (d : Fin 64) : val_main_v24 (F := Ideal) w (ix1 d) = w (ix2 0 d) := by
  rw [val_main_v24_apply]
  refine congrArg w (funext fun z => Fin.ext ?_)
  match z with
  | ⟨0, _⟩ => rfl
  | ⟨1, _⟩ => show d.val % 64 = d.val; omega

theorem v53_at (w : FVec Ideal S1x64 .f32) (d : Fin 64) : val_main_v53 (F := Ideal) w (ix1 d) = w (ix2 0 d) := by
  rw [val_main_v53_apply]
  refine congrArg w (funext fun z => Fin.ext ?_)
  match z with
  | ⟨0, _⟩ => rfl
  | ⟨1, _⟩ => show d.val % 64 = d.val; omega

/-- A normalised query entry. -/
theorem v37_at (p : FVec Ideal S528x9728 .f32) (w : FVec Ideal S1x64 .f32) (r : Fin 528) (h : Fin 16) (d : Fin 64) :
    val_main_v37 (F := Ideal) p w (ix3 r h d) = val_main_v23 (F := Ideal) p (ix3 r h d)
      * Ideal.rsqrt (Ideal.div (∑ i : Fin 64, val_main_v23 (F := Ideal) p (ix3 r h i) * val_main_v23 (F := Ideal) p (ix3 r h i)) (Ideal.ofBits .f32 0x42800000#32) + Ideal.ofBits .f32 0x358637BD#32)
      * w (ix2 0 d) := by
  rw [← v24_at w d]
  unfold val_main_v37 val_main_v36 val_main_v35 val_main_v34 val_main_v33 val_main_v32 val_main_v31 val_main_v30 val_main_v29 val_main_v28 val_main_v27 val_main_v26 val_main_v25 val_main_cst_2 val_main_cst_3 val_main_cst_4
  generalize val_main_v23 (F := Ideal) p = y
  generalize val_main_v24 (F := Ideal) w = g
  pointwise

/-- A normalised key entry. -/
theorem v66_at (p : FVec Ideal S528x9728 .f32) (w : FVec Ideal S1x64 .f32) (r : Fin 528) (h : Fin 4) (d : Fin 64) :
    val_main_v66 (F := Ideal) p w (ix3 r h d) = val_main_v52 (F := Ideal) p (ix3 r h d)
      * Ideal.rsqrt (Ideal.div (∑ i : Fin 64, val_main_v52 (F := Ideal) p (ix3 r h i) * val_main_v52 (F := Ideal) p (ix3 r h i)) (Ideal.ofBits .f32 0x42800000#32) + Ideal.ofBits .f32 0x358637BD#32)
      * w (ix2 0 d) := by
  rw [← v53_at w d]
  unfold val_main_v66 val_main_v65 val_main_v64 val_main_v63 val_main_v62 val_main_v61 val_main_v60 val_main_v59 val_main_v58 val_main_v57 val_main_v56 val_main_v55 val_main_v54 val_main_cst_5 val_main_cst_6 val_main_cst_7
  generalize val_main_v52 (F := Ideal) p = y
  generalize val_main_v53 (F := Ideal) w = g
  pointwise

theorem i86 (r : Fin 528) (l : Fin 1024) : idx_main_v86 (ix2 r l) = ix3 r (⟨l.val / 64, by omega⟩ : Fin 16) (⟨l.val % 64, Nat.mod_lt _ (by omega)⟩ : Fin 64) := by
  funext z
  refine Fin.ext ?_
  match z with
  | ⟨0, _⟩ => show (r.val * 1024 + l.val) / 1024 = r.val; omega
  | ⟨1, _⟩ => show (r.val * 1024 + l.val) / 64 % 16 = l.val / 64; omega
  | ⟨2, _⟩ => show (r.val * 1024 + l.val) % 64 = l.val % 64; omega

theorem i87 (r : Fin 528) (l : Fin 256) : idx_main_v87 (ix2 r l) = ix3 r (⟨l.val / 64, by omega⟩ : Fin 4) (⟨l.val % 64, Nat.mod_lt _ (by omega)⟩ : Fin 64) := by
  funext z
  refine Fin.ext ?_
  match z with
  | ⟨0, _⟩ => show (r.val * 256 + l.val) / 256 = r.val; omega
  | ⟨1, _⟩ => show (r.val * 256 + l.val) / 64 % 4 = l.val / 64; omega
  | ⟨2, _⟩ => show (r.val * 256 + l.val) % 64 = l.val % 64; omega

/-- The first half of a rotated query head. -/
theorem v50_lo (p : FVec Ideal S528x9728 .f32) (w : FVec Ideal S1x64 .f32) (r : Fin 528) (h : Fin 16) (d : Fin 64) (hd : d.val < 32) :
    val_main_v50 (F := Ideal) p w (ix3 r h d) = val_main_v37 (F := Ideal) p w (ix3 r h d) * val_main_v18 (F := Ideal) (ix2 r ⟨d.val, hd⟩)
      - val_main_v37 (F := Ideal) p w (ix3 r h ⟨d.val + 32, by omega⟩) * val_main_v20 (F := Ideal) (ix2 r ⟨d.val, hd⟩) := by
  unfold val_main_v50 val_main_v44 val_main_v49 val_main_v41 val_main_v43 val_main_v46 val_main_v48 val_main_v38 val_main_v39 val_main_v40 val_main_v42 val_main_v45 val_main_v47 val_main_v19 val_main_v21
  generalize val_main_v37 (F := Ideal) p w = y
  generalize val_main_v18 (F := Ideal) = a
  generalize val_main_v20 (F := Ideal) = b
  pointwise
  rw [dif_pos hd]
  have e : (⟨32 + d.val, by omega⟩ : Fin 64) = ⟨d.val + 32, by omega⟩ := Fin.ext (Nat.add_comm _ _)
  rw [e]

/-- The second half of a rotated query head. -/
theorem v50_hi (p : FVec Ideal S528x9728 .f32) (w : FVec Ideal S1x64 .f32) (r : Fin 528) (h : Fin 16) (d : Fin 64) (hd : ¬ d.val < 32) :
    val_main_v50 (F := Ideal) p w (ix3 r h d) = val_main_v37 (F := Ideal) p w (ix3 r h d) * val_main_v18 (F := Ideal) (ix2 r ⟨d.val - 32, by omega⟩)
      + val_main_v37 (F := Ideal) p w (ix3 r h ⟨d.val - 32, by omega⟩) * val_main_v20 (F := Ideal) (ix2 r ⟨d.val - 32, by omega⟩) := by
  unfold val_main_v50 val_main_v44 val_main_v49 val_main_v41 val_main_v43 val_main_v46 val_main_v48 val_main_v38 val_main_v39 val_main_v40 val_main_v42 val_main_v45 val_main_v47 val_main_v19 val_main_v21
  generalize val_main_v37 (F := Ideal) p w = y
  generalize val_main_v18 (F := Ideal) = a
  generalize val_main_v20 (F := Ideal) = b
  pointwise
  rw [dif_neg hd]
  have e : (⟨32 + (d.val - 32), by omega⟩ : Fin 64) = d := Fin.ext (by show 32 + (d.val - 32) = d.val; omega)
  rw [e]

/-- The first half of a rotated key head. -/
theorem v79_lo (p : FVec Ideal S528x9728 .f32) (w : FVec Ideal S1x64 .f32) (r : Fin 528) (h : Fin 4) (d : Fin 64) (hd : d.val < 32) :
    val_main_v79 (F := Ideal) p w (ix3 r h d) = val_main_v66 (F := Ideal) p w (ix3 r h d) * val_main_v18 (F := Ideal) (ix2 r ⟨d.val, hd⟩)
      - val_main_v66 (F := Ideal) p w (ix3 r h ⟨d.val + 32, by omega⟩) * val_main_v20 (F := Ideal) (ix2 r ⟨d.val, hd⟩) := by
  unfold val_main_v79 val_main_v73 val_main_v78 val_main_v70 val_main_v72 val_main_v75 val_main_v77 val_main_v67 val_main_v68 val_main_v69 val_main_v71 val_main_v74 val_main_v76 val_main_v19 val_main_v21
  generalize val_main_v66 (F := Ideal) p w = y
  generalize val_main_v18 (F := Ideal) = a
  generalize val_main_v20 (F := Ideal) = b
  pointwise
  rw [dif_pos hd]
  have e : (⟨32 + d.val, by omega⟩ : Fin 64) = ⟨d.val + 32, by omega⟩ := Fin.ext (Nat.add_comm _ _)
  rw [e]

/-- The second half of a rotated key head. -/
theorem v79_hi (p : FVec Ideal S528x9728 .f32) (w : FVec Ideal S1x64 .f32) (r : Fin 528) (h : Fin 4) (d : Fin 64) (hd : ¬ d.val < 32) :
    val_main_v79 (F := Ideal) p w (ix3 r h d) = val_main_v66 (F := Ideal) p w (ix3 r h d) * val_main_v18 (F := Ideal) (ix2 r ⟨d.val - 32, by omega⟩)
      + val_main_v66 (F := Ideal) p w (ix3 r h ⟨d.val - 32, by omega⟩) * val_main_v20 (F := Ideal) (ix2 r ⟨d.val - 32, by omega⟩) := by
  unfold val_main_v79 val_main_v73 val_main_v78 val_main_v70 val_main_v72 val_main_v75 val_main_v77 val_main_v67 val_main_v68 val_main_v69 val_main_v71 val_main_v74 val_main_v76 val_main_v19 val_main_v21
  generalize val_main_v66 (F := Ideal) p w = y
  generalize val_main_v18 (F := Ideal) = a
  generalize val_main_v20 (F := Ideal) = b
  pointwise
  rw [dif_neg hd]
  have e : (⟨32 + (d.val - 32), by omega⟩ : Fin 64) = d := Fin.ext (by show 32 + (d.val - 32) = d.val; omega)
  rw [e]

/-- The precondition makes every query and key entry a real number. -/
theorem fin_at (m : (ℓ : Loc nD τ sig) → Buf (Elt Ideal) ℓ) (hp : Cert.Pre_RopeKIdeal_rope_finite (hPre_rope_finite := Cert.Pre_rope_finite.Gen.facts) m) (c : Dev nD) (r : Fin 528) (j : Fin 1280) :
    ∃ q : ℝ, P m c (ix2 r ⟨8192 + j.val, by omega⟩) = q := by
  have e := congrFun (hp c) (ix2 r j)
  change Cert.Pre_rope_finite.fn (F := Ideal) (P m c) (Ca m c) (Wq m c) (Wk m c) (ix2 r j) = 1#1 at e
  generalize P m c = p at e ⊢
  have k : Cert.Pre_rope_finite.fn (F := Ideal) p (Ca m c) (Wq m c) (Wk m c) (ix2 r j)
      = BitVec.ofBool (decide (FloatOps.absf (F := Ideal) (φ := .f32) (p (ix2 r ⟨8192 + j.val, by omega⟩)) < Ideal.ofBits FTy.f32 0x7F800000#32)) := by
    unfold Cert.Pre_rope_finite.fn
    dsimp only
    pointwise
  have b : BitVec.ofBool (decide (max (p (ix2 r ⟨8192 + j.val, by omega⟩)) (-p (ix2 r ⟨8192 + j.val, by omega⟩)) < Ideal.ofBits FTy.f32 0x7F800000#32)) = 1#1 := k.symm.trans e
  have htop : Ideal.ofBits .f32 0x7F800000#32 = ⊤ := by simp [Ideal.ofBits, Ideal.ieee]
  rw [htop] at b
  generalize p (ix2 r ⟨8192 + j.val, by omega⟩) = x at b ⊢
  have lt : max x (-x) < ⊤ := by
    by_contra hn
    rw [decide_eq_false hn] at b
    exact absurd b (by decide)
  refine fin_of_abs ?_ ?_
  · rintro rfl
    simp at lt
  · rintro rfl
    simp at lt

end Cert.RopeKIdeal.Val

end
-- ==== Proof.Rope.Tables.lean ====
/- The rotation's tables, as the launch finds them. -/
module

public import proofs.«01_k».proof.Proof.Rope.Arrays
public import proofs.«01_k».proof.Proof.Gen.RopeRIdeal.Run
public import proofs.«01_k».proof.Proof.Gen.RopeRIdeal.Read
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.RopeKIdeal.Val

open Cert.RopeKIdeal Cert.RopeKIdeal.Gen Cert.RopeSums
open Cert.RopeRIdeal.Read (val_main_v18 val_main_v20)

variable (m : (ℓ : Loc nD τ sig) → Buf (Elt Ideal) ℓ)

set_option maxHeartbeats 1000000 in
theorem V_cos (c : Dev nD) : (V m c main_v40 : Vec Ideal S528x128 .f32) = cosT := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  simp only [cosT, Cert.RopeRIdeal.Read.val_main_v0, Cert.RopeRIdeal.Read.val_main_c, Cert.RopeRIdeal.Read.val_main_call0_v0, Cert.RopeRIdeal.Read.val_main_call0_c, Cert.RopeRIdeal.Read.val_main_call0_v1, Cert.RopeRIdeal.Read.val_main_call0_c_0, Cert.RopeRIdeal.Read.val_main_call0_v2, Cert.RopeRIdeal.Read.val_main_call0_v3, Cert.RopeRIdeal.Read.val_main_call0_v4, Cert.RopeRIdeal.Read.val_main_call0_c_1, Cert.RopeRIdeal.Read.val_main_call0_v5, Cert.RopeRIdeal.Read.val_main_call0_v6, Cert.RopeRIdeal.Read.val_main_call0_c_2, Cert.RopeRIdeal.Read.val_main_call0_v7, Cert.RopeRIdeal.Read.val_main_call0_v8, Cert.RopeRIdeal.Read.val_main_call0_c_3, Cert.RopeRIdeal.Read.val_main_call0_v9, Cert.RopeRIdeal.Read.val_main_call0_v10, Cert.RopeRIdeal.Read.val_main_call0_v11, Cert.RopeRIdeal.Read.val_main_call0_v12, Cert.RopeRIdeal.Read.val_main_call0_v13, Cert.RopeRIdeal.Read.val_main_call0_v14, Cert.RopeRIdeal.Read.val_main_v1, Cert.RopeRIdeal.Read.val_main_c_0, Cert.RopeRIdeal.Read.val_main_v2, Cert.RopeRIdeal.Read.val_main_v3, Cert.RopeRIdeal.Read.val_main_v4, Cert.RopeRIdeal.Read.val_main_v5, Cert.RopeRIdeal.Read.val_main_v6, Cert.RopeRIdeal.Read.val_main_v7, Cert.RopeRIdeal.Read.val_main_cst, Cert.RopeRIdeal.Read.val_main_v8, Cert.RopeRIdeal.Read.val_main_v9, Cert.RopeRIdeal.Read.val_main_cst_1, Cert.RopeRIdeal.Read.val_main_v10, Cert.RopeRIdeal.Read.val_main_v11, Cert.RopeRIdeal.Read.val_main_v12, Cert.RopeRIdeal.Read.val_main_v13, Cert.RopeRIdeal.Read.val_main_v14, Cert.RopeRIdeal.Read.val_main_v15, Cert.RopeRIdeal.Read.val_main_v16, Cert.RopeRIdeal.Read.val_main_v17, Cert.RopeRIdeal.Read.val_main_v18, Cert.RopeRIdeal.Read.val_main_v20]
  rfl

set_option maxHeartbeats 1000000 in
theorem V_v39 (c : Dev nD) : (V m c main_v39 : Vec Ideal S528x32 .f32) = val_main_v20 (F := Ideal) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  simp only [Cert.RopeRIdeal.Read.val_main_v0, Cert.RopeRIdeal.Read.val_main_c, Cert.RopeRIdeal.Read.val_main_call0_v0, Cert.RopeRIdeal.Read.val_main_call0_c, Cert.RopeRIdeal.Read.val_main_call0_v1, Cert.RopeRIdeal.Read.val_main_call0_c_0, Cert.RopeRIdeal.Read.val_main_call0_v2, Cert.RopeRIdeal.Read.val_main_call0_v3, Cert.RopeRIdeal.Read.val_main_call0_v4, Cert.RopeRIdeal.Read.val_main_call0_c_1, Cert.RopeRIdeal.Read.val_main_call0_v5, Cert.RopeRIdeal.Read.val_main_call0_v6, Cert.RopeRIdeal.Read.val_main_call0_c_2, Cert.RopeRIdeal.Read.val_main_call0_v7, Cert.RopeRIdeal.Read.val_main_call0_v8, Cert.RopeRIdeal.Read.val_main_call0_c_3, Cert.RopeRIdeal.Read.val_main_call0_v9, Cert.RopeRIdeal.Read.val_main_call0_v10, Cert.RopeRIdeal.Read.val_main_call0_v11, Cert.RopeRIdeal.Read.val_main_call0_v12, Cert.RopeRIdeal.Read.val_main_call0_v13, Cert.RopeRIdeal.Read.val_main_call0_v14, Cert.RopeRIdeal.Read.val_main_v1, Cert.RopeRIdeal.Read.val_main_c_0, Cert.RopeRIdeal.Read.val_main_v2, Cert.RopeRIdeal.Read.val_main_v3, Cert.RopeRIdeal.Read.val_main_v4, Cert.RopeRIdeal.Read.val_main_v5, Cert.RopeRIdeal.Read.val_main_v6, Cert.RopeRIdeal.Read.val_main_v7, Cert.RopeRIdeal.Read.val_main_cst, Cert.RopeRIdeal.Read.val_main_v8, Cert.RopeRIdeal.Read.val_main_v9, Cert.RopeRIdeal.Read.val_main_cst_1, Cert.RopeRIdeal.Read.val_main_v10, Cert.RopeRIdeal.Read.val_main_v11, Cert.RopeRIdeal.Read.val_main_v12, Cert.RopeRIdeal.Read.val_main_v13, Cert.RopeRIdeal.Read.val_main_v14, Cert.RopeRIdeal.Read.val_main_v15, Cert.RopeRIdeal.Read.val_main_v16, Cert.RopeRIdeal.Read.val_main_v17, Cert.RopeRIdeal.Read.val_main_v18, Cert.RopeRIdeal.Read.val_main_v20]
  rfl

set_option maxHeartbeats 1000000 in
theorem V_sin' (c : Dev nD) : (V m c main_v43 : Vec Ideal S528x128 .f32) = concatenate S528x128 1 [⟨S528x32, (Host.negf (V m c main_v39 : FVec Ideal S528x32 .f32) : FVec Ideal S528x32 .f32)⟩, ⟨S528x32, (V m c main_v39 : FVec Ideal S528x32 .f32)⟩, ⟨S528x32, (Host.negf (V m c main_v39 : FVec Ideal S528x32 .f32) : FVec Ideal S528x32 .f32)⟩, ⟨S528x32, (V m c main_v39 : FVec Ideal S528x32 .f32)⟩] concatenates_S528x32_S528x32_S528x32_S528x32_S528x128_d1 := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  try rfl

theorem V_sin (c : Dev nD) : (V m c main_v43 : Vec Ideal S528x128 .f32) = sinT := by
  rw [V_sin', V_v39]
  rfl

theorem iblk2_eq (c : Dev nD) (t : Fin cfg0.N) : (iblk m c 2 t : Vec Ideal S528x128 .f32) = cosT := by
  rw [← V_cos m c]
  funext y
  obtain ⟨k, l, rfl⟩ : ∃ k l, y = ix2 k l := ⟨y 0, y 1, idx2_eq y⟩
  blk_ext [iblk, idx t]

theorem iblk3_eq (c : Dev nD) (t : Fin cfg0.N) : (iblk m c 3 t : Vec Ideal S528x128 .f32) = sinT := by
  rw [← V_sin m c]
  funext y
  obtain ⟨k, l, rfl⟩ : ∃ k l, y = ix2 k l := ⟨y 0, y 1, idx2_eq y⟩
  blk_ext [iblk, idx t]

end Cert.RopeKIdeal.Val

end
-- ==== Proof.Rope.Value.lean ====
/- The two rotated arrays the kernel leaves are the reference's. -/
module

public import proofs.«01_k».proof.Proof.Rope.Ref
public import proofs.«01_k».proof.Proof.Rope.Tables
public import proofs.«01_k».proof.Proof.Rope.Outs

@[expose] public section

set_option maxRecDepth 16384

noncomputable section

open Idealize.ShloMosaic Idealize.ShloMosaic.TcCoe Idealize.SL.Sem
open Idealize.ShloMosaic.Pipeline (Dat)

namespace Cert.RopeKIdeal.Val

open Cert.RopeKIdeal Cert.RopeKIdeal.Gen Cert.RopeSums
open Cert.RopeRIdeal.Read

variable (m : (ℓ : Loc nD τ sig) → Buf (Elt Ideal) ℓ)

/-- Every query and key entry of the projections' array is a real number. -/
def Real (c : Dev nD) : Prop := ∀ (r : Fin 528) (j : Fin 1280), ∃ q : ℝ, P m c (ix2 r ⟨8192 + j.val, by omega⟩) = q

/-- The selector's transpose. -/
abbrev selT : FVec Ideal S128x1024 .bf16 := transpose S128x1024 [1, 0] selM transposes_S1024x128_S128x1024_1_0

theorem tab_eq (v : FVec Ideal S528x32 .f32) (r : Fin 528) {a b : Fin 32} (h : a.val = b.val) : v (ix2 r a) = v (ix2 r b) :=
  congrArg (fun z => v (ix2 r z)) (Fin.ext h)

theorem x0_real (c : Dev nD) (hr : Real m c) (t : Fin cfg0.N) (r : Fin 528) (k : Fin 1024) : ∃ q : ℝ, @Eq EReal ((X0_0 m c t : Vec Ideal S528x1024 .f32) (ix2 r k)) q := by
  rw [x0_at]
  exact hr r ⟨k.val, by omega⟩

theorem x1_real (c : Dev nD) (hr : Real m c) (t : Fin cfg0.N) (r : Fin 528) (k : Fin 256) : ∃ q : ℝ, @Eq EReal ((iblk m c 1 t : Vec Ideal S528x256 .f32) (ix2 r k)) q := by
  rw [iblk1_at]
  obtain ⟨q, h⟩ := hr r ⟨1024 + k.val, by omega⟩
  refine ⟨q, Eq.trans (congrArg (P m c) (congrArg (ix2 r) (Fin.ext ?_))) h⟩
  show 9216 + k.val = 8192 + (1024 + k.val)
  omega

/-- A normalised query entry is the reference's. -/
theorem nrmQ (c : Dev nD) (hr : Real m c) (t : Fin cfg0.N) (r : Fin 528) (l : Fin 1024) :
    nrm (X0_0 m c t : Vec Ideal S528x1024 .f32) (tileQ (Wq m c)) r l l
      = val_main_v37 (F := Ideal) (P m c) (Wq m c) (ix3 r (⟨l.val / 64, by omega⟩ : Fin 16) (⟨l.val % 64, Nat.mod_lt _ (by omega)⟩ : Fin 64)) := by
  have h : rs (fun k : Fin 1024 => (X0_0 m c t : Vec Ideal S528x1024 .f32) (ix2 r k)) (l.val / 64) = _ :=
    rs_ref (n := 16) (fun k : Fin (16 * 64) => (X0_0 m c t : Vec Ideal S528x1024 .f32) (ix2 r k)) (fun k => x0_real m c hr t r k) ⟨l.val / 64, by omega⟩
  have e : (⟨8192 + l.val, by omega⟩ : Fin 9728) = ⟨8192 + (l.val / 64 * 64 + l.val % 64), by omega⟩ := Fin.ext (by show 8192 + l.val = 8192 + (l.val / 64 * 64 + l.val % 64); omega)
  unfold nrm
  rw [h, x0_at, tileQ_at, v37_at, v23_at, e]
  simp only [v23_at, x0_at]

theorem q_elt (c : Dev nD) (hr : Real m c) (t : Fin cfg0.N) (r : Fin 528) (l : Fin 1024) :
    rotQ cosT sinT (yQ selM selT (X0_0 m c t) (tileQ (Wq m c))) (ix2 r l) = val_main_v86 (F := Ideal) (P m c) (Wq m c) (ix2 r l) := by
  have y : ∀ l' : Fin 1024, yQ selM selT (X0_0 m c t) (tileQ (Wq m c)) (ix2 r l') = val_main_v37 (F := Ideal) (P m c) (Wq m c) (ix3 r (⟨l'.val / 64, by omega⟩ : Fin 16) (⟨l'.val % 64, Nat.mod_lt _ (by omega)⟩ : Fin 64)) := fun l' =>
    (yQ_at selM selT selM_at selT_at _ _ (x0_real m c hr t) r l').trans (nrmQ m c hr t r l')
  have hl := l.isLt
  rw [val_main_v86_apply, i86]
  by_cases h : l.val % 64 < 32
  · rw [rotQ_lo _ _ _ r l h, v50_lo _ _ r _ _ h, y, y, cosT_at, sinT_lo r _ (by show l.val % 128 % 64 < 32; omega), mul_neg, ← sub_eq_add_neg]
    have e1 : (⟨(l.val + 32) / 64, by omega⟩ : Fin 16) = ⟨l.val / 64, by omega⟩ := Fin.ext (by show (l.val + 32) / 64 = l.val / 64; omega)
    have e2 : (⟨(l.val + 32) % 64, Nat.mod_lt _ (by omega)⟩ : Fin 64) = ⟨l.val % 64 + 32, by omega⟩ := Fin.ext (by show (l.val + 32) % 64 = l.val % 64 + 32; omega)
    have e3 : (⟨l.val % 128 % 32, Nat.mod_lt _ (by omega)⟩ : Fin 32) = ⟨l.val % 64, h⟩ := Fin.ext (by show l.val % 128 % 32 = l.val % 64; omega)
    rw [e1, e2, e3]
  · rw [rotQ_hi _ _ _ r l h, v50_hi _ _ r _ _ h, y, y, cosT_at, sinT_hi r _ (by show ¬ l.val % 128 % 64 < 32; omega)]
    have e1 : (⟨(l.val - 32) / 64, by omega⟩ : Fin 16) = ⟨l.val / 64, by omega⟩ := Fin.ext (by show (l.val - 32) / 64 = l.val / 64; omega)
    have e2 : (⟨(l.val - 32) % 64, Nat.mod_lt _ (by omega)⟩ : Fin 64) = ⟨l.val % 64 - 32, by omega⟩ := Fin.ext (by show (l.val - 32) % 64 = l.val % 64 - 32; omega)
    have e3 : (⟨l.val % 128 % 32, Nat.mod_lt _ (by omega)⟩ : Fin 32) = ⟨l.val % 64 - 32, by omega⟩ := Fin.ext (by show l.val % 128 % 32 = l.val % 64 - 32; omega)
    rw [e1, e2, e3]

theorem upM_at (k : Fin 256) (j : Fin 128) : upK selM (ix2 k j) = ind k.val j.val := selM_at ⟨k.val, by omega⟩ j

theorem dnT_at (j : Fin 128) (k : Fin 256) : dnK selT (ix2 j k) = ind k.val j.val := selT_at j ⟨k.val, by omega⟩

/-- A normalised key entry is the reference's. -/
theorem nrmK (c : Dev nD) (hr : Real m c) (t : Fin cfg0.N) (r : Fin 528) (l : Fin 256) :
    nrm (iblk m c 1 t : Vec Ideal S528x256 .f32) (tileK (Wk m c)) r l l
      = val_main_v66 (F := Ideal) (P m c) (Wk m c) (ix3 r (⟨l.val / 64, by omega⟩ : Fin 4) (⟨l.val % 64, Nat.mod_lt _ (by omega)⟩ : Fin 64)) := by
  have h : rs (fun k : Fin 256 => (iblk m c 1 t : Vec Ideal S528x256 .f32) (ix2 r k)) (l.val / 64) = _ :=
    rs_ref (n := 4) (fun k : Fin (4 * 64) => (iblk m c 1 t : Vec Ideal S528x256 .f32) (ix2 r k)) (fun k => x1_real m c hr t r k) ⟨l.val / 64, by omega⟩
  have e : (⟨9216 + l.val, by omega⟩ : Fin 9728) = ⟨9216 + (l.val / 64 * 64 + l.val % 64), by omega⟩ := Fin.ext (by show 9216 + l.val = 9216 + (l.val / 64 * 64 + l.val % 64); omega)
  unfold nrm
  rw [h, iblk1_at, tileK_at, v66_at, v52_at, e]
  simp only [v52_at, iblk1_at]

theorem k_elt (c : Dev nD) (hr : Real m c) (t : Fin cfg0.N) (r : Fin 528) (l : Fin 256) :
    rotK cosT sinT (yK (upK selM) (dnK selT) (iblk m c 1 t) (tileK (Wk m c))) (ix2 r l) = val_main_v87 (F := Ideal) (P m c) (Wk m c) (ix2 r l) := by
  have y : ∀ l' : Fin 256, yK (upK selM) (dnK selT) (iblk m c 1 t) (tileK (Wk m c)) (ix2 r l') = val_main_v66 (F := Ideal) (P m c) (Wk m c) (ix3 r (⟨l'.val / 64, by omega⟩ : Fin 4) (⟨l'.val % 64, Nat.mod_lt _ (by omega)⟩ : Fin 64)) := fun l' =>
    (yK_at (upK selM) (dnK selT) upM_at dnT_at _ _ (x1_real m c hr t) r l').trans (nrmK m c hr t r l')
  have hl := l.isLt
  rw [val_main_v87_apply, i87]
  by_cases h : l.val % 64 < 32
  · rw [rotK_lo _ _ _ r l h, v79_lo _ _ r _ _ h, y, y, cosT_at, sinT_lo r _ (by show l.val % 128 % 64 < 32; omega), mul_neg, ← sub_eq_add_neg]
    have e1 : (⟨(l.val + 32) / 64, by omega⟩ : Fin 4) = ⟨l.val / 64, by omega⟩ := Fin.ext (by show (l.val + 32) / 64 = l.val / 64; omega)
    have e2 : (⟨(l.val + 32) % 64, Nat.mod_lt _ (by omega)⟩ : Fin 64) = ⟨l.val % 64 + 32, by omega⟩ := Fin.ext (by show (l.val + 32) % 64 = l.val % 64 + 32; omega)
    have e3 : (⟨l.val % 128 % 32, Nat.mod_lt _ (by omega)⟩ : Fin 32) = ⟨l.val % 64, h⟩ := Fin.ext (by show l.val % 128 % 32 = l.val % 64; omega)
    rw [e1, e2, e3]
  · rw [rotK_hi _ _ _ r l h, v79_hi _ _ r _ _ h, y, y, cosT_at, sinT_hi r _ (by show ¬ l.val % 128 % 64 < 32; omega)]
    have e1 : (⟨(l.val - 32) / 64, by omega⟩ : Fin 4) = ⟨l.val / 64, by omega⟩ := Fin.ext (by show (l.val - 32) / 64 = l.val / 64; omega)
    have e2 : (⟨(l.val - 32) % 64, Nat.mod_lt _ (by omega)⟩ : Fin 64) = ⟨l.val % 64 - 32, by omega⟩ := Fin.ext (by show (l.val - 32) % 64 = l.val % 64 - 32; omega)
    have e3 : (⟨l.val % 128 % 32, Nat.mod_lt _ (by omega)⟩ : Fin 32) = ⟨l.val % 64 - 32, by omega⟩ := Fin.ext (by show l.val % 128 % 32 = l.val % 64 - 32; omega)
    rw [e1, e2, e3]

theorem out0_8 (c : Dev nD) (t : Fin cfg0.N) : (outsAt0 m c t).1 = rotQ cosT sinT (yQ selM selT (X0_0 m c t) (tileQ (Wq m c))) := by
  unfold outsAt0
  dsimp only
  rw [out_8, iblk2_eq, iblk3_eq, iblk4_eq, iblk6_eq, iblk7_eq]

theorem out0_9 (c : Dev nD) (t : Fin cfg0.N) : (outsAt0 m c t).2 = rotK cosT sinT (yK (upK selM) (dnK selT) (iblk m c 1 t) (tileK (Wk m c))) := by
  unfold outsAt0
  dsimp only
  rw [out_9, iblk2_eq, iblk3_eq, iblk5_eq, iblk6_eq, iblk7_eq]

theorem final8 (c : Dev nD) (hr : Real m c) : (dats m 0 c).arrAt 8 cfg0.N = val_main_v86 (F := Ideal) (P m c) (Wq m c) := by
  refine (dats m 0 c).arrAt_eq_of_covers 8 _ (by decide +kernel) fun t _ y => ?_
  blk_simp
  rw [after0_8, out0_8]
  obtain ⟨r, l, rfl⟩ : ∃ (r : Fin 528) (l : Fin 1024), y = ix2 r l := ⟨y 0, y 1, idx2_eq y⟩
  refine (q_elt m c hr t r l).trans (congrArg (val_main_v86 (F := Ideal) (P m c) (Wq m c)) ?_)
  blk_point [idx t]

theorem final9 (c : Dev nD) (hr : Real m c) : (dats m 0 c).arrAt 9 cfg0.N = val_main_v87 (F := Ideal) (P m c) (Wk m c) := by
  refine (dats m 0 c).arrAt_eq_of_covers 9 _ (by decide +kernel) fun t _ y => ?_
  blk_simp
  rw [after0_9, out0_9]
  obtain ⟨r, l, rfl⟩ : ∃ (r : Fin 528) (l : Fin 256), y = ix2 r l := ⟨y 0, y 1, idx2_eq y⟩
  refine (k_elt m c hr t r l).trans (congrArg (val_main_v87 (F := Ideal) (P m c) (Wk m c)) ?_)
  blk_point [idx t]

end Cert.RopeKIdeal.Val

end
-- ==== Proof.Rope.Tail.lean ====
/- The host lines after the rotation: the cache of keys. -/
module

public import proofs.«01_k».proof.Proof.Rope.Value
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.RopeKIdeal.Val

open Cert.RopeKIdeal Cert.RopeKIdeal.Gen
open Cert.RopeRIdeal.Read

variable (m : (ℓ : Loc nD τ sig) → Buf (Elt Ideal) ℓ)

theorem head_lane (h : Fin 4) (l : Fin 64) : 64 * h.val + l.val < 256 := by omega

/-- The heads of a row of the cache, side by side. -/
theorem flat_at (y : FVec Ideal S128x144x4x64 .f32) (b : Fin 128) (q : Fin 144) (h : Fin 4) (l : Fin 64) :
    shapeCast S128x144x256 y shapeCasts_S128x144x4x64_S128x144x256 (ix3 b q ⟨64 * h.val + l.val, head_lane h l⟩) = y (ix4 b q h l) :=
  shapeCast_apply y shapeCasts_S128x144x4x64_S128x144x256 (ix3 b q ⟨64 * h.val + l.val, head_lane h l⟩) (ix4 b q h l)
    (by rewrite [Shape.rowMajor_val_four, Shape.rowMajor_val_three]
        show ((b.val * 144 + q.val) * 4 + h.val) * 64 + l.val = (b.val * 144 + q.val) * 256 + (64 * h.val + l.val)
        omega)

/-- And apart again. -/
theorem heads_at (y : FVec Ideal S128x144x256 .f32) (b : Fin 128) (q : Fin 144) (h : Fin 4) (l : Fin 64) :
    shapeCast S128x144x4x64 y shapeCasts_S128x144x256_S128x144x4x64 (ix4 b q h l) = y (ix3 b q ⟨64 * h.val + l.val, head_lane h l⟩) :=
  shapeCast_apply y shapeCasts_S128x144x256_S128x144x4x64 (ix4 b q h l) (ix3 b q ⟨64 * h.val + l.val, head_lane h l⟩)
    (by rewrite [Shape.rowMajor_val_four, Shape.rowMajor_val_three]
        show (b.val * 144 + q.val) * 256 + (64 * h.val + l.val) = ((b.val * 144 + q.val) * 4 + h.val) * 64 + l.val
        omega)

theorem sample_row (b : Fin 128) (n : Fin 4) : 4 * b.val + n.val < 512 := by omega

/-- A new row of keys, in either layout. -/
theorem new_at (y : FVec Ideal S512x256 .f32) (b : Fin 128) (n : Fin 4) (h : Fin 4) (l : Fin 64) :
    shapeCast S128x4x256 y shapeCasts_S512x256_S128x4x256 (ix3 b n ⟨64 * h.val + l.val, head_lane h l⟩)
      = y (ix2 ⟨4 * b.val + n.val, sample_row b n⟩ ⟨64 * h.val + l.val, head_lane h l⟩) :=
  shapeCast_apply y shapeCasts_S512x256_S128x4x256 (ix3 b n ⟨64 * h.val + l.val, head_lane h l⟩) (ix2 ⟨4 * b.val + n.val, sample_row b n⟩ ⟨64 * h.val + l.val, head_lane h l⟩)
    (by rewrite [Shape.rowMajor_val_two, Shape.rowMajor_val_three]
        show (4 * b.val + n.val) * 256 + (64 * h.val + l.val) = (b.val * 4 + n.val) * 256 + (64 * h.val + l.val)
        omega)

theorem new_ref (p : FVec Ideal S528x9728 .f32) (w : FVec Ideal S1x64 .f32) (b : Fin 128) (n : Fin 4) (h : Fin 4) (l : Fin 64) :
    val_main_v81 (F := Ideal) p w (ix4 b n h l)
      = val_main_v87 (F := Ideal) p w (ix2 ⟨4 * b.val + n.val, by omega⟩ ⟨64 * h.val + l.val, head_lane h l⟩) := by
  rw [val_main_v81_apply, val_main_v80_apply, val_main_v87_apply]
  refine congrArg _ (funext fun x => Fin.ext ?_)
  match x with
  | ⟨0, _⟩ => show (((b.val * 4 + n.val) * 4 + h.val) * 64 + l.val) / 256 = ((4 * b.val + n.val) * 256 + (64 * h.val + l.val)) / 256; omega
  | ⟨1, _⟩ => show (((b.val * 4 + n.val) * 4 + h.val) * 64 + l.val) / 64 % 4 = ((4 * b.val + n.val) * 256 + (64 * h.val + l.val)) / 64 % 4; omega
  | ⟨2, _⟩ => show (((b.val * 4 + n.val) * 4 + h.val) * 64 + l.val) % 64 = ((4 * b.val + n.val) * 256 + (64 * h.val + l.val)) % 64; omega

/-- The kernel's sample rows, which it slices off its own output. -/
theorem rows_at (A : FVec Ideal S528x256 .f32) (r : Fin 512) (j : Fin 256) :
    extractStridedSlice S512x256 ![0, 0] A slices_S528x256_S512x256_0_0 (ix2 r j) = A (ix2 ⟨r.val, by omega⟩ j) :=
  extractStridedSlice_apply ![0, 0] A slices_S528x256_S512x256_0_0 (ix2 r j) (ix2 ⟨r.val, by omega⟩ j) (fun x => match x with
    | ⟨0, _⟩ => by show r.val = 0 + r.val; omega
    | ⟨1, _⟩ => by show j.val = 0 + j.val; omega)

/-- The kernel's keys in a row: the cache, the new rows, and the padding. -/
abbrev longRows (p : FVec Ideal S128x144x4x64 .f32) (y : FVec Ideal S512x256 .f32) (z : FVec Ideal S128x4x256 .f32) : FVec Ideal S128x152x256 .f32 :=
  concatenate S128x152x256 1 [⟨S128x144x256, shapeCast S128x144x256 p shapeCasts_S128x144x4x64_S128x144x256⟩,
    ⟨S128x4x256, shapeCast S128x4x256 y shapeCasts_S512x256_S128x4x256⟩, ⟨S128x4x256, z⟩] concatenates_S128x144x256_S128x4x256_S128x4x256_S128x152x256_d1

theorem long_old (p : FVec Ideal S128x144x4x64 .f32) (y : FVec Ideal S512x256 .f32) (z : FVec Ideal S128x4x256 .f32) (b : Fin 128) (q : Fin 144) (e : Fin 256) :
    longRows p y z (ix3 b ⟨q.val, by omega⟩ e) = shapeCast S128x144x256 p shapeCasts_S128x144x4x64_S128x144x256 (ix3 b q e) :=
  concatenate_apply_piece (t := S128x152x256) 1 [⟨S128x144x256, shapeCast S128x144x256 p shapeCasts_S128x144x4x64_S128x144x256⟩,
    ⟨S128x4x256, shapeCast S128x4x256 y shapeCasts_S512x256_S128x4x256⟩, ⟨S128x4x256, z⟩] concatenates_S128x144x256_S128x4x256_S128x4x256_S128x152x256_d1 (ix3 b ⟨q.val, by omega⟩ e) 0 (Nat.succ_pos _) S128x144x256 _ rfl rfl 0 rfl (ix3 b q e)
    (fun x => match x with
      | ⟨0, _⟩ => fun _ => rfl
      | ⟨1, _⟩ => fun hx => absurd rfl hx
      | ⟨2, _⟩ => fun _ => rfl)
    (by show 0 + q.val = q.val; omega)

theorem long_new (p : FVec Ideal S128x144x4x64 .f32) (y : FVec Ideal S512x256 .f32) (z : FVec Ideal S128x4x256 .f32) (b : Fin 128) (n : Fin 4) (e : Fin 256) :
    longRows p y z (ix3 b ⟨144 + n.val, by omega⟩ e) = shapeCast S128x4x256 y shapeCasts_S512x256_S128x4x256 (ix3 b n e) :=
  concatenate_apply_piece (t := S128x152x256) 1 [⟨S128x144x256, shapeCast S128x144x256 p shapeCasts_S128x144x4x64_S128x144x256⟩,
    ⟨S128x4x256, shapeCast S128x4x256 y shapeCasts_S512x256_S128x4x256⟩, ⟨S128x4x256, z⟩] concatenates_S128x144x256_S128x4x256_S128x4x256_S128x152x256_d1 (ix3 b ⟨144 + n.val, by omega⟩ e) 1 (Nat.succ_lt_succ (Nat.succ_pos _)) S128x4x256 _ rfl rfl 144 rfl (ix3 b n e)
    (fun x => match x with
      | ⟨0, _⟩ => fun _ => rfl
      | ⟨1, _⟩ => fun hx => absurd rfl hx
      | ⟨2, _⟩ => fun _ => rfl)
    rfl

/-- The kernel's new cache: the rows it keeps for good, and the window's. -/
abbrev keptRows (R : FVec Ideal S128x152x256 .f32) : FVec Ideal S128x144x256 .f32 :=
  concatenate S128x144x256 1 [⟨S128x16x256, extractStridedSlice S128x16x256 ![0, 0, 0] R slices_S128x152x256_S128x16x256_0_0_0⟩,
    ⟨S128x128x256, extractStridedSlice S128x128x256 ![0, 20, 0] R slices_S128x152x256_S128x128x256_0_20_0⟩] concatenates_S128x16x256_S128x128x256_S128x144x256_d1

theorem kept_meta (R : FVec Ideal S128x152x256 .f32) (b : Fin 128) (q : Fin 16) (e : Fin 256) : keptRows R (ix3 b ⟨q.val, by omega⟩ e) = R (ix3 b ⟨q.val, by omega⟩ e) :=
  (concatenate_pair_apply_left (t := S128x144x256) 1 _ _ concatenates_S128x16x256_S128x128x256_S128x144x256_d1 (ix3 b ⟨q.val, by omega⟩ e) rfl (ix3 b q e)
    (fun x => match x with | ⟨0, _⟩ => rfl | ⟨1, _⟩ => rfl | ⟨2, _⟩ => rfl)).trans
  (extractStridedSlice_apply ![0, 0, 0] R slices_S128x152x256_S128x16x256_0_0_0 (ix3 b q e) (ix3 b ⟨q.val, by omega⟩ e) (fun x => match x with
    | ⟨0, _⟩ => by show b.val = 0 + b.val; omega
    | ⟨1, _⟩ => by show q.val = 0 + q.val; omega
    | ⟨2, _⟩ => by show e.val = 0 + e.val; omega))

theorem kept_window (R : FVec Ideal S128x152x256 .f32) (b : Fin 128) (q : Fin 128) (e : Fin 256) : keptRows R (ix3 b ⟨16 + q.val, by omega⟩ e) = R (ix3 b ⟨20 + q.val, by omega⟩ e) :=
  (concatenate_pair_apply_right (t := S128x144x256) 1 _ _ concatenates_S128x16x256_S128x128x256_S128x144x256_d1 (ix3 b ⟨16 + q.val, by omega⟩ e) rfl rfl (ix3 b q e)
    (fun x => match x with
      | ⟨0, _⟩ => fun _ => rfl
      | ⟨1, _⟩ => fun hx => absurd rfl hx
      | ⟨2, _⟩ => fun _ => rfl)
    (by show q.val + 16 = 16 + q.val; omega)).trans
  (extractStridedSlice_apply ![0, 20, 0] R slices_S128x152x256_S128x128x256_0_20_0 (ix3 b q e) (ix3 b ⟨20 + q.val, by omega⟩ e) (fun x => match x with
    | ⟨0, _⟩ => by show b.val = 0 + b.val; omega
    | ⟨1, _⟩ => by show 20 + q.val = 20 + q.val; omega
    | ⟨2, _⟩ => by show e.val = 0 + e.val; omega))

theorem ref_meta (s : FVec Ideal Cert.RopeRIdeal.S128x16x4x64 .f32) (u : FVec Ideal Cert.RopeRIdeal.S128x124x4x64 .f32) (v : FVec Ideal Cert.RopeRIdeal.S128x4x4x64 .f32) (b : Fin 128) (q : Fin 16) (h : Fin 4) (l : Fin 64) :
    concatenate Cert.RopeRIdeal.S128x144x4x64 1 [⟨Cert.RopeRIdeal.S128x16x4x64, s⟩, ⟨Cert.RopeRIdeal.S128x124x4x64, u⟩, ⟨Cert.RopeRIdeal.S128x4x4x64, v⟩] Cert.RopeRIdeal.Gen.concatenates_S128x16x4x64_S128x124x4x64_S128x4x4x64_S128x144x4x64_d1 (ix4 b ⟨q.val, by omega⟩ h l) = s (ix4 b q h l) :=
  concatenate_apply_piece (t := Cert.RopeRIdeal.S128x144x4x64) 1 [⟨Cert.RopeRIdeal.S128x16x4x64, s⟩, ⟨Cert.RopeRIdeal.S128x124x4x64, u⟩, ⟨Cert.RopeRIdeal.S128x4x4x64, v⟩] Cert.RopeRIdeal.Gen.concatenates_S128x16x4x64_S128x124x4x64_S128x4x4x64_S128x144x4x64_d1 (ix4 b ⟨q.val, by omega⟩ h l) 0 (Nat.succ_pos _) Cert.RopeRIdeal.S128x16x4x64 _ rfl rfl 0 rfl (ix4 b q h l)
    (fun x => match x with
      | ⟨0, _⟩ => fun _ => rfl
      | ⟨1, _⟩ => fun hx => absurd rfl hx
      | ⟨2, _⟩ => fun _ => rfl
      | ⟨3, _⟩ => fun _ => rfl)
    (by show 0 + q.val = q.val; omega)

theorem ref_window (s : FVec Ideal Cert.RopeRIdeal.S128x16x4x64 .f32) (u : FVec Ideal Cert.RopeRIdeal.S128x124x4x64 .f32) (v : FVec Ideal Cert.RopeRIdeal.S128x4x4x64 .f32) (b : Fin 128) (q : Fin 124) (h : Fin 4) (l : Fin 64) :
    concatenate Cert.RopeRIdeal.S128x144x4x64 1 [⟨Cert.RopeRIdeal.S128x16x4x64, s⟩, ⟨Cert.RopeRIdeal.S128x124x4x64, u⟩, ⟨Cert.RopeRIdeal.S128x4x4x64, v⟩] Cert.RopeRIdeal.Gen.concatenates_S128x16x4x64_S128x124x4x64_S128x4x4x64_S128x144x4x64_d1 (ix4 b ⟨16 + q.val, by omega⟩ h l) = u (ix4 b q h l) :=
  concatenate_apply_piece (t := Cert.RopeRIdeal.S128x144x4x64) 1 [⟨Cert.RopeRIdeal.S128x16x4x64, s⟩, ⟨Cert.RopeRIdeal.S128x124x4x64, u⟩, ⟨Cert.RopeRIdeal.S128x4x4x64, v⟩] Cert.RopeRIdeal.Gen.concatenates_S128x16x4x64_S128x124x4x64_S128x4x4x64_S128x144x4x64_d1 (ix4 b ⟨16 + q.val, by omega⟩ h l) 1 (Nat.succ_lt_succ (Nat.succ_pos _)) Cert.RopeRIdeal.S128x124x4x64 _ rfl rfl 16 rfl (ix4 b q h l)
    (fun x => match x with
      | ⟨0, _⟩ => fun _ => rfl
      | ⟨1, _⟩ => fun hx => absurd rfl hx
      | ⟨2, _⟩ => fun _ => rfl
      | ⟨3, _⟩ => fun _ => rfl)
    (rfl)

theorem ref_new (s : FVec Ideal Cert.RopeRIdeal.S128x16x4x64 .f32) (u : FVec Ideal Cert.RopeRIdeal.S128x124x4x64 .f32) (v : FVec Ideal Cert.RopeRIdeal.S128x4x4x64 .f32) (b : Fin 128) (q : Fin 4) (h : Fin 4) (l : Fin 64) :
    concatenate Cert.RopeRIdeal.S128x144x4x64 1 [⟨Cert.RopeRIdeal.S128x16x4x64, s⟩, ⟨Cert.RopeRIdeal.S128x124x4x64, u⟩, ⟨Cert.RopeRIdeal.S128x4x4x64, v⟩] Cert.RopeRIdeal.Gen.concatenates_S128x16x4x64_S128x124x4x64_S128x4x4x64_S128x144x4x64_d1 (ix4 b ⟨140 + q.val, by omega⟩ h l) = v (ix4 b q h l) :=
  concatenate_apply_piece (t := Cert.RopeRIdeal.S128x144x4x64) 1 [⟨Cert.RopeRIdeal.S128x16x4x64, s⟩, ⟨Cert.RopeRIdeal.S128x124x4x64, u⟩, ⟨Cert.RopeRIdeal.S128x4x4x64, v⟩] Cert.RopeRIdeal.Gen.concatenates_S128x16x4x64_S128x124x4x64_S128x4x4x64_S128x144x4x64_d1 (ix4 b ⟨140 + q.val, by omega⟩ h l) 2 (Nat.succ_lt_succ (Nat.succ_lt_succ (Nat.succ_pos _))) Cert.RopeRIdeal.S128x4x4x64 _ rfl rfl 140 rfl (ix4 b q h l)
    (fun x => match x with
      | ⟨0, _⟩ => fun _ => rfl
      | ⟨1, _⟩ => fun hx => absurd rfl hx
      | ⟨2, _⟩ => fun _ => rfl
      | ⟨3, _⟩ => fun _ => rfl)
    (rfl)

/-- A kept row of the reference's cache, and a row of its window. -/
theorem meta_at (a : FVec Ideal S1x128x144x4x64 .f32) (b : Fin 128) (q : Fin 16) (h : Fin 4) (l : Fin 64) :
    val_main_v83 (F := Ideal) a (ix4 b q h l) = val_main_v82 (F := Ideal) a (ix4 b ⟨q.val, by omega⟩ h l) := by
  rw [val_main_v83_apply]
  refine congrArg _ (funext fun x => Fin.ext ?_)
  match x with
  | ⟨0, _⟩ => rfl
  | ⟨1, _⟩ => rfl
  | ⟨2, _⟩ => rfl
  | ⟨3, _⟩ => rfl

theorem window_at (a : FVec Ideal S1x128x144x4x64 .f32) (b : Fin 128) (q : Fin 124) (h : Fin 4) (l : Fin 64) :
    val_main_v84 (F := Ideal) a (ix4 b q h l) = val_main_v82 (F := Ideal) a (ix4 b ⟨20 + q.val, by omega⟩ h l) := by
  rw [val_main_v84_apply]
  refine congrArg _ (funext fun x => Fin.ext ?_)
  match x with
  | ⟨0, _⟩ => rfl
  | ⟨1, _⟩ => rfl
  | ⟨2, _⟩ => rfl
  | ⟨3, _⟩ => rfl

/-- The kernel's lines for the cache of keys give the reference's. -/
theorem cache (p : FVec Ideal S528x9728 .f32) (a : FVec Ideal S1x128x144x4x64 .f32) (w : FVec Ideal S1x64 .f32) (A : FVec Ideal S528x256 .f32) (z : FVec Ideal S128x4x256 .f32) (hA : A = val_main_v87 (F := Ideal) p w) :
    broadcastInDim S1x128x144x4x64 ![1, 2, 3, 4] bcast_S128x144x4x64_S1x128x144x4x64_1_2_3_4 (shapeCast S128x144x4x64
      (keptRows (longRows (shapeCast S128x144x4x64 a shapeCasts_S1x128x144x4x64_S128x144x4x64) (extractStridedSlice S512x256 ![0, 0] A slices_S528x256_S512x256_0_0) z)) shapeCasts_S128x144x256_S128x144x4x64)
      = val_main_v88 (F := Ideal) p a w := by
  subst hA
  unfold val_main_v88
  refine congrArg (broadcastInDim (s := S128x144x4x64) S1x128x144x4x64 ![1, 2, 3, 4] bcast_S128x144x4x64_S1x128x144x4x64_1_2_3_4) (funext fun i => ?_)
  obtain ⟨b, q, h, l, rfl⟩ : ∃ (b : Fin 128) (q : Fin 144) (h : Fin 4) (l : Fin 64), i = ix4 b q h l :=
    ⟨i 0, i 1, i 2, i 3, funext fun x => match x with | ⟨0, _⟩ => rfl | ⟨1, _⟩ => rfl | ⟨2, _⟩ => rfl | ⟨3, _⟩ => rfl⟩
  refine (heads_at _ b q h l).trans ?_
  unfold val_main_v85
  by_cases hq : q.val < 16
  · exact (kept_meta _ b ⟨q.val, hq⟩ _).trans ((long_old _ _ z b ⟨q.val, by omega⟩ _).trans ((flat_at _ b ⟨q.val, by omega⟩ h l).trans
      ((ref_meta _ _ _ b ⟨q.val, hq⟩ h l).trans (meta_at a b ⟨q.val, hq⟩ h l)).symm))
  · by_cases hw : q.val < 140
    · obtain ⟨n, rfl⟩ : ∃ n : Fin 124, q = ⟨16 + n.val, Nat.lt_of_lt_of_le (Nat.add_lt_add_left n.isLt 16) (by decide)⟩ := ⟨⟨q.val - 16, by omega⟩, Fin.ext (by show q.val = 16 + (q.val - 16); omega)⟩
      exact (kept_window _ b ⟨n.val, by omega⟩ _).trans ((long_old _ _ z b ⟨20 + n.val, by omega⟩ _).trans ((flat_at _ b ⟨20 + n.val, by omega⟩ h l).trans
        ((ref_window _ _ _ b n h l).trans (window_at a b n h l)).symm))
    · obtain ⟨n, rfl⟩ : ∃ n : Fin 4, q = ⟨140 + n.val, Nat.add_lt_add_left n.isLt 140⟩ := ⟨⟨q.val - 140, by omega⟩, Fin.ext (by show q.val = 140 + (q.val - 140); omega)⟩
      have e1 : (⟨140 + n.val, by omega⟩ : Fin 144) = ⟨16 + (124 + n.val), by omega⟩ := Fin.ext (by show 140 + n.val = 16 + (124 + n.val); omega)
      have e2 : (⟨20 + (124 + n.val), by omega⟩ : Fin 152) = ⟨144 + n.val, by omega⟩ := Fin.ext (by show 20 + (124 + n.val) = 144 + n.val; omega)
      refine Eq.trans ?_ ((ref_new _ _ _ b n h l).trans (new_ref p w b n h l)).symm
      rw [e1]
      refine (kept_window _ b ⟨124 + n.val, by omega⟩ _).trans ?_
      rw [e2]
      exact (long_new _ _ z b n _).trans ((new_at _ b n h l).trans (rows_at _ _ _))

/-- What the lines for the cache leave, over any contents before them. -/
theorem after_cache (U : Valuation τ sig (Elt Ideal)) : StableHlo.after hostOps1 U (Proc.devRef .tc main_v55)
    = broadcastInDim S1x128x144x4x64 ![1, 2, 3, 4] bcast_S128x144x4x64_S1x128x144x4x64_1_2_3_4 (shapeCast S128x144x4x64
      (keptRows (longRows (shapeCast S128x144x4x64 (U (Proc.devRef .tc main_arg1)) shapeCasts_S1x128x144x4x64_S128x144x4x64) (extractStridedSlice S512x256 ![0, 0] (U (Proc.devRef .tc main_v44_1)) slices_S528x256_S512x256_0_0)
        (broadcastInDim S128x4x256 ![] bcast_S_S128x4x256 (constant S_ .f32 0#32)))) shapeCasts_S128x144x256_S128x144x4x64) := by
  unfold hostOps1
  after_results_entrywise (rounds := 1) []

/-- The cache of keys that they leave. -/
theorem tail_cache (c : Dev nD) (hr : Real m c) : Pipeline.afterTail₀ cfgs (dats m) 0 (V0 m) [hostOps1] c main_v55
    = val_main_v88 (F := Ideal) (P m c) (Ca m c) (Wk m c) := by
  unfold Pipeline.afterTail₀
  rw [show ([hostOps1] : List (List (HloOp τ sig (Elt Ideal)))).flatten = hostOps1 from List.append_nil _, after_cache]
  rw [Pipeline.withArrays_of_ne spec0 c (V0 m c) _ main_arg1 (by exact (by decide : ∀ w, Pipeline.arrRef spec0 w ≠ main_arg1))]
  rw [show V0 m c (Proc.devRef .tc main_arg1) = m ((c : Thread nD τ).loc main_arg1) from V_main_arg1 m c]
  exact cache _ _ _ _ _ (((dats m 0 c).withArrays_arrAt (by decide) (V0 m c) (A_eq m c) 9).trans (final9 m c hr))

end Cert.RopeKIdeal.Val

end
-- ==== Proof.Rope.Claims.lean ====
/- The claims about the normalised and rotated heads. -/
module

public import proofs.«01_k».proof.Defs
public import proofs.«01_k».proof.Proof.Gen.RopeK.Frame
public import proofs.«01_k».proof.Proof.Gen.RopeKIdeal.Frame
public import proofs.«01_k».proof.Proof.Gen.RopeRIdeal
public import proofs.«01_k».proof.Proof.Gen.RopeRIdeal.Run
public import proofs.«01_k».proof.Proof.Gen.RopeRIdeal.Read
public import proofs.«01_k».proof.Proof.Gen.Pre_rope_finite
public import proofs.«01_k».proof.Proof.Rope.Tail
public import Idealize.ShloMosaic.Lib.Claim

@[expose] public section

set_option maxRecDepth 16384

noncomputable section

namespace Cert.RopeClaims

open Idealize.ShloMosaic Idealize.ShloMosaic.TcCoe Idealize.SL.Sem

/-- The kernel's frame. -/
theorem quiescent_kernel : Cert.quiescent_RopeK (hRopeK := Cert.RopeK.Gen.facts) :=
  fun m g _ => Cert.RopeK.Gen.frame m g

/-- The frame of the kernel over the reals. -/
theorem quiescent_ideal : Cert.quiescent_RopeKIdeal (hRopeKIdeal := Cert.RopeKIdeal.Gen.facts) :=
  fun m g _ => Cert.RopeKIdeal.Gen.frame m g

/-- The same where the precondition holds. -/
theorem quiescent_ideal_pre : Cert.quiescent_RopeKIdeal_pre_rope_finite (hRopeKIdeal := Cert.RopeKIdeal.Gen.facts) (hPre_rope_finite := Cert.Pre_rope_finite.Gen.facts) :=
  fun m g _ => Cert.RopeKIdeal.Gen.frame m g

/-- The reference's frame. -/
theorem quiescent_reference : Cert.quiescent_RopeRIdeal (hRopeRIdeal := Cert.RopeRIdeal.Gen.facts) := by
  intro m g _
  exact (θ_run Cert.RopeRIdeal.defs _ _).mono (fun r h => ⟨fun c => (h c).2.2.2, sem_eq_zero_of_no_sems (by decide) r.2⟩)
    (Cert.RopeRIdeal.Value.run (F := Ideal) m g)

/-- The same where the precondition holds. -/
theorem quiescent_reference_pre : Cert.quiescent_RopeRIdeal_pre_rope_finite (hRopeRIdeal := Cert.RopeRIdeal.Gen.facts) (hPre_rope_finite := Cert.Pre_rope_finite.Gen.facts) := by
  intro m g _
  exact (θ_run Cert.RopeRIdeal.defs _ _).mono (fun r h => ⟨fun c => (h c).2.2.2, sem_eq_zero_of_no_sems (by decide) r.2⟩)
    (Cert.RopeRIdeal.Value.run (F := Ideal) m g)

set_option maxHeartbeats 600000 in
/-- The kernel's three results are the reference's. -/
theorem algebraic : Cert.algebraic_RopeKIdeal_RopeRIdeal_pre_rope_finite (hRopeKIdeal := Cert.RopeKIdeal.Gen.facts)
    (hRopeRIdeal := Cert.RopeRIdeal.Gen.facts) (hPre_rope_finite := Cert.Pre_rope_finite.Gen.facts) := by
  pair_intro
  · run_from Cert.RopeKIdeal.Gen.run_main m g
    · exact Cert.RopeKIdeal.Gen.W_main_arg1 m _ c
    · exact Cert.RopeKIdeal.Gen.W_main_arg2 m _ c
    · exact Cert.RopeKIdeal.Gen.W_main_arg3 m _ c
  · run_from Cert.RopeRIdeal.Value.run m' g'
    · refine (Cert.RopeRIdeal.Read.val_main_v86_eq (F := Ideal) m' c).trans ?_
      rw [(hagree c).1, (hagree c).2.2.1]
      exact (Cert.RopeKIdeal.Val.final8 m c (Cert.RopeKIdeal.Val.fin_at m hpre c)).symm
    · refine (Cert.RopeRIdeal.Read.val_main_v87_eq (F := Ideal) m' c).trans ?_
      rw [(hagree c).1, (hagree c).2.2.2]
      exact (Cert.RopeKIdeal.Val.final9 m c (Cert.RopeKIdeal.Val.fin_at m hpre c)).symm
    · refine (Cert.RopeRIdeal.Read.val_main_v88_eq (F := Ideal) m' c).trans ?_
      rw [(hagree c).1, (hagree c).2.1, (hagree c).2.2.2]
      exact (Cert.RopeKIdeal.Val.tail_cache m c (Cert.RopeKIdeal.Val.fin_at m hpre c)).symm

end Cert.RopeClaims

end
-- ==== Proof.lean ====
/- The claims about the layer's kernels. -/
module

public import proofs.«01_k».proof.Defs
public import proofs.«01_k».proof.Proof.Gen.MergeK
public import proofs.«01_k».proof.Proof.Gen.MergeK.Skeleton
public import proofs.«01_k».proof.Proof.Gen.MergeK.Launch
public import proofs.«01_k».proof.Proof.Gen.MergeK.Points
public import proofs.«01_k».proof.Proof.Gen.MergeK.Frame
public import proofs.«01_k».proof.Proof.Gen.MergeKIdeal
public import proofs.«01_k».proof.Proof.Gen.MergeKIdeal.Skeleton
public import proofs.«01_k».proof.Proof.Gen.MergeKIdeal.Launch
public import proofs.«01_k».proof.Proof.Gen.MergeKIdeal.Points
public import proofs.«01_k».proof.Proof.Gen.MergeKIdeal.Frame
public import proofs.«01_k».proof.Proof.Gen.MergeKIdeal.Value
public import proofs.«01_k».proof.Proof.Gen.MergeRIdeal
public import proofs.«01_k».proof.Proof.Gen.MergeRIdeal.Run
public import proofs.«01_k».proof.Proof.Gen.MergeRIdeal.Read
public import proofs.«01_k».proof.Proof.Gen.ProjK
public import proofs.«01_k».proof.Proof.Gen.ProjK.Skeleton
public import proofs.«01_k».proof.Proof.Gen.ProjK.Launch
public import proofs.«01_k».proof.Proof.Gen.ProjK.Points
public import proofs.«01_k».proof.Proof.Gen.ProjK.Loops
public import proofs.«01_k».proof.Proof.Gen.ProjK.Frame
public import proofs.«01_k».proof.Proof.Gen.ProjKIdeal
public import proofs.«01_k».proof.Proof.Gen.ProjKIdeal.Skeleton
public import proofs.«01_k».proof.Proof.Gen.ProjKIdeal.Launch
public import proofs.«01_k».proof.Proof.Gen.ProjKIdeal.Points
public import proofs.«01_k».proof.Proof.Gen.ProjKIdeal.Loops
public import proofs.«01_k».proof.Proof.Gen.ProjKIdeal.Frame
public import proofs.«01_k».proof.Proof.Gen.ProjRIdeal
public import proofs.«01_k».proof.Proof.Gen.ProjRIdeal.Run
public import proofs.«01_k».proof.Proof.Gen.ProjRIdeal.Read
public import proofs.«01_k».proof.Proof.Gen.ProjSK
public import proofs.«01_k».proof.Proof.Gen.ProjSK.Skeleton
public import proofs.«01_k».proof.Proof.Gen.ProjSK.Launch
public import proofs.«01_k».proof.Proof.Gen.ProjSK.Points
public import proofs.«01_k».proof.Proof.Gen.ProjSK.Frame
public import proofs.«01_k».proof.Proof.Gen.ProjSKIdeal
public import proofs.«01_k».proof.Proof.Gen.ProjSKIdeal.Skeleton
public import proofs.«01_k».proof.Proof.Gen.ProjSKIdeal.Launch
public import proofs.«01_k».proof.Proof.Gen.ProjSKIdeal.Points
public import proofs.«01_k».proof.Proof.Gen.ProjSKIdeal.Frame
public import proofs.«01_k».proof.Proof.Gen.ProjSRIdeal
public import proofs.«01_k».proof.Proof.Gen.ProjSRIdeal.Run
public import proofs.«01_k».proof.Proof.Gen.ProjSRIdeal.Read
public import proofs.«01_k».proof.Proof.Gen.OutK
public import proofs.«01_k».proof.Proof.Gen.OutK.Skeleton
public import proofs.«01_k».proof.Proof.Gen.OutK.Launch
public import proofs.«01_k».proof.Proof.Gen.OutK.Points
public import proofs.«01_k».proof.Proof.Gen.OutK.Frame
public import proofs.«01_k».proof.Proof.Gen.OutKIdeal
public import proofs.«01_k».proof.Proof.Gen.OutKIdeal.Skeleton
public import proofs.«01_k».proof.Proof.Gen.OutKIdeal.Launch
public import proofs.«01_k».proof.Proof.Gen.OutKIdeal.Points
public import proofs.«01_k».proof.Proof.Gen.OutKIdeal.Frame
public import proofs.«01_k».proof.Proof.Gen.OutKIdeal.Value
public import proofs.«01_k».proof.Proof.Gen.OutRIdeal
public import proofs.«01_k».proof.Proof.Gen.OutRIdeal.Run
public import proofs.«01_k».proof.Proof.Gen.OutRIdeal.Read
public import proofs.«01_k».proof.Proof.Gen.RopeK
public import proofs.«01_k».proof.Proof.Gen.RopeK.Skeleton
public import proofs.«01_k».proof.Proof.Gen.RopeK.Launch
public import proofs.«01_k».proof.Proof.Gen.RopeK.Points
public import proofs.«01_k».proof.Proof.Gen.RopeK.Frame
public import proofs.«01_k».proof.Proof.Gen.RopeKIdeal
public import proofs.«01_k».proof.Proof.Gen.RopeKIdeal.Skeleton
public import proofs.«01_k».proof.Proof.Gen.RopeKIdeal.Launch
public import proofs.«01_k».proof.Proof.Gen.RopeKIdeal.Points
public import proofs.«01_k».proof.Proof.Gen.RopeKIdeal.Frame
public import proofs.«01_k».proof.Proof.Gen.RopeRIdeal
public import proofs.«01_k».proof.Proof.Gen.RopeRIdeal.Run
public import proofs.«01_k».proof.Proof.Gen.RopeRIdeal.Read
public import proofs.«01_k».proof.Proof.Gen.Pre_rope_finite
public import proofs.«01_k».proof.Proof.Merge.Claims
public import proofs.«01_k».proof.Proof.Proj.Claims
public import proofs.«01_k».proof.Proof.ProjS.Claims
public import proofs.«01_k».proof.Proof.Out.Claims
public import proofs.«01_k».proof.Proof.Rope.Claims

@[expose] public section

noncomputable section

namespace Cert.Proof

/-- Every claim of the certificate. -/
theorem claim : Cert.Claim := ⟨Cert.MergeK.Gen.facts, Cert.MergeKIdeal.Gen.facts, Cert.MergeRIdeal.Gen.facts,
  Cert.ProjK.Gen.facts, Cert.ProjKIdeal.Gen.facts, Cert.ProjRIdeal.Gen.facts,
  Cert.ProjSK.Gen.facts, Cert.ProjSKIdeal.Gen.facts, Cert.ProjSRIdeal.Gen.facts,
  Cert.OutK.Gen.facts, Cert.OutKIdeal.Gen.facts, Cert.OutRIdeal.Gen.facts,
  Cert.RopeK.Gen.facts, Cert.RopeKIdeal.Gen.facts, Cert.RopeRIdeal.Gen.facts,
  Cert.Pre_rope_finite.Gen.facts,
  Cert.MergeClaims.quiescent_kernel, Cert.MergeClaims.quiescent_ideal, Cert.MergeClaims.quiescent_reference,
  Cert.ProjClaims.quiescent_kernel, Cert.ProjClaims.quiescent_ideal, Cert.ProjClaims.quiescent_reference,
  Cert.ProjSClaims.quiescent_kernel, Cert.ProjSClaims.quiescent_ideal, Cert.ProjSClaims.quiescent_reference,
  Cert.OutClaims.quiescent_kernel, Cert.OutClaims.quiescent_ideal, Cert.OutClaims.quiescent_reference,
  Cert.RopeClaims.quiescent_kernel, Cert.RopeClaims.quiescent_ideal, Cert.RopeClaims.quiescent_ideal_pre, Cert.RopeClaims.quiescent_reference, Cert.RopeClaims.quiescent_reference_pre,
  trivial, Cert.MergeClaims.algebraic,
  trivial, Cert.ProjClaims.algebraic,
  trivial, Cert.ProjSClaims.algebraic,
  trivial, Cert.OutClaims.algebraic,
  trivial, Cert.RopeClaims.algebraic⟩

end Cert.Proof

end
